-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩
abbrev S2x128x2x64 : Shape := ⟨4, ![2, 128, 2, 64]⟩
abbrev S2x128x128 : Shape := ⟨3, ![2, 128, 128]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S4 : Shape := ⟨1, ![4]⟩
abbrev S1x128x512 : Shape := ⟨3, ![1, 128, 512]⟩
abbrev S128x512 : Shape := ⟨2, ![128, 512]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128x256 : Shape := ⟨3, ![1, 128, 256]⟩

abbrev nBuf : Space → Nat
  | .hbm => 36
  | .vmem => 31
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x32x64, .f32⟩
  | .hbm, ⟨3, _⟩ => ⟨S2x128x32x64, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x2x64, .f32⟩
  | .hbm, ⟨22, _⟩ => ⟨S2x128x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x128x2x64, .f32⟩
  | .hbm, ⟨34, _⟩ => ⟨S2x128x128, .f32⟩
  | .hbm, ⟨35, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x128, .f32⟩
  | .local _ .vmem, ⟨4, _⟩ => ⟨S2x128x128, .f32⟩
  | .local _ .vmem, ⟨5, _⟩ => ⟨S2x128x512, .f32⟩
  | .local _ .vmem, ⟨6, _⟩ => ⟨S2x128x512, .f32⟩
  | .local _ .vmem, ⟨7, _⟩ => ⟨S256x256, .f32⟩
  | .local _ .vmem, ⟨8, _⟩ => ⟨S128x256, .f32⟩
  | .local _ .vmem, ⟨9, _⟩ => ⟨S64x256, .f32⟩
  | .local _ .vmem, ⟨10, _⟩ => ⟨S32x256, .f32⟩
  | .local _ .vmem, ⟨11, _⟩ => ⟨S16x256, .f32⟩
  | .local _ .vmem, ⟨12, _⟩ => ⟨S128x256, .f32⟩
  | .local _ .vmem, ⟨13, _⟩ => ⟨S64x256, .f32⟩
  | .local _ .vmem, ⟨14, _⟩ => ⟨S32x256, .f32⟩
  | .local _ .vmem, ⟨15, _⟩ => ⟨S16x256, .f32⟩
  | .local _ .vmem, ⟨16, _⟩ => ⟨S32x256, .f32⟩
  | .local _ .vmem, ⟨17, _⟩ => ⟨S64x256, .f32⟩
  | .local _ .vmem, ⟨18, _⟩ => ⟨S128x256, .f32⟩
  | .local _ .vmem, ⟨19, _⟩ => ⟨S256x256, .f32⟩
  | .local _ .vmem, ⟨20, _⟩ => ⟨S128x256, .f32⟩
  | .local _ .vmem, ⟨21, _⟩ => ⟨S64x256, .f32⟩
  | .local _ .vmem, ⟨22, _⟩ => ⟨S32x256, .f32⟩
  | .local _ .vmem, ⟨23, _⟩ => ⟨S16x256, .f32⟩
  | .local _ .vmem, ⟨24, _⟩ => ⟨S128x256, .f32⟩
  | .local _ .vmem, ⟨25, _⟩ => ⟨S64x256, .f32⟩
  | .local _ .vmem, ⟨26, _⟩ => ⟨S32x256, .f32⟩
  | .local _ .vmem, ⟨27, _⟩ => ⟨S16x256, .f32⟩
  | .local _ .vmem, ⟨28, _⟩ => ⟨S32x256, .f32⟩
  | .local _ .vmem, ⟨29, _⟩ => ⟨S64x256, .f32⟩
  | .local _ .vmem, ⟨30, _⟩ => ⟨S128x256, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_scratch24 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_260 : BitVec 32 := 0#32
  let v389 : BitVec 1 := Scalar.cmpi .sgt v2 c0_i32_260
  let v390 : BitVec 32 := Scalar.extui v389
  let c0_i32_261 : BitVec 32 := 0#32
  let v391 : BitVec 1 := Scalar.cmpi .slt v2 c0_i32_261
  let v392 : BitVec 32 := Scalar.extui v391
  let v393 : BitVec 32 := Scalar.subi v390 v392
  let c1_i32_259 : BitVec 32 := 1#32
  let c0_i32_262 : BitVec 32 := 0#32
  let v394 : BitVec 1 := Scalar.cmpi .sgt c1_i32_259 c0_i32_262
  let v395 : BitVec 32 := Scalar.extui v394
  let c0_i32_263 : BitVec 32 := 0#32
  let v396 : BitVec 1 := Scalar.cmpi .slt c1_i32_259 c0_i32_263
  let v397 : BitVec 32 := Scalar.extui v396
  let v398 : BitVec 32 := Scalar.subi v395 v397
  let v399 : BitVec 1 := Scalar.cmpi .ne v393 v398
  let v400 : BitVec 32 := Scalar.remsi v2 c1_i32_259
  let c0_i32_264 : BitVec 32 := 0#32
  let v401 : BitVec 1 := Scalar.cmpi .ne v400 c0_i32_264
  let v402 : BitVec 1 := Scalar.andi v399 v401
  let v388 : BitVec 32 := Scalar.divsi v2 c1_i32_259
  let c1_i32_265 : BitVec 32 := 1#32
  let v403 : BitVec 32 := Scalar.subi v388 c1_i32_265
  let v404 : BitVec 32 := Scalar.select v402 v403 v388
  let c2_i32_266 : BitVec 32 := 2#32
  let v405 : BitVec 32 := Scalar.remsi v404 c2_i32_266
  let c0_i32_267 : BitVec 32 := 0#32
  let v406 : BitVec 1 := Scalar.cmpi .eq v405 c0_i32_267
  let v407 : BitVec 32 := Scalar.extui v406
  let c0_i32_270 : BitVec 32 := 0#32
  let v408 : BitVec 1 := Scalar.cmpi .ne v407 c0_i32_270
  v408

def k0_dev5 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_739 : BitVec 32 := 1#32
  let v968 : BitVec 32 := Scalar.xori v2 c1_i32_739
  let c1_i32_740 : BitVec 32 := 1#32
  let v969 : BitVec 32 := Scalar.muli v968 c1_i32_740
  let v970 : BitVec 32 := Scalar.addi c0_i32_741 v969
  v970.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_260 : BitVec 32 := 0#32
  let v389 : BitVec 1 := Scalar.cmpi .sgt v2 c0_i32_260
  let v390 : BitVec 32 := Scalar.extui v389
  let c0_i32_261 : BitVec 32 := 0#32
  let v391 : BitVec 1 := Scalar.cmpi .slt v2 c0_i32_261
  let v392 : BitVec 32 := Scalar.extui v391
  let v393 : BitVec 32 := Scalar.subi v390 v392
  let c1_i32_259 : BitVec 32 := 1#32
  let c0_i32_262 : BitVec 32 := 0#32
  let v394 : BitVec 1 := Scalar.cmpi .sgt c1_i32_259 c0_i32_262
  let v395 : BitVec 32 := Scalar.extui v394
  let c0_i32_263 : BitVec 32 := 0#32
  let v396 : BitVec 1 := Scalar.cmpi .slt c1_i32_259 c0_i32_263
  let v397 : BitVec 32 := Scalar.extui v396
  let v398 : BitVec 32 := Scalar.subi v395 v397
  let v399 : BitVec 1 := Scalar.cmpi .ne v393 v398
  let v400 : BitVec 32 := Scalar.remsi v2 c1_i32_259
  let c0_i32_264 : BitVec 32 := 0#32
  let v401 : BitVec 1 := Scalar.cmpi .ne v400 c0_i32_264
  let v402 : BitVec 1 := Scalar.andi v399 v401
  let v388 : BitVec 32 := Scalar.divsi v2 c1_i32_259
  let c1_i32_265 : BitVec 32 := 1#32
  let v403 : BitVec 32 := Scalar.subi v388 c1_i32_265
  let v404 : BitVec 32 := Scalar.select v402 v403 v388
  let c2_i32_266 : BitVec 32 := 2#32
  let v405 : BitVec 32 := Scalar.remsi v404 c2_i32_266
  let c0_i32_267 : BitVec 32 := 0#32
  let v406 : BitVec 1 := Scalar.cmpi .eq v405 c0_i32_267
  let true_271 : BitVec 1 := 1#1
  let v409 : BitVec 1 := Scalar.xori v406 true_271
  let v410 : BitVec 32 := Scalar.extui v409
  let c0_i32_274 : BitVec 32 := 0#32
  let v411 : BitVec 1 := Scalar.cmpi .ne v410 c0_i32_274
  v411

def k0_dev6 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_739 : BitVec 32 := 1#32
  let v968 : BitVec 32 := Scalar.xori v2 c1_i32_739
  let c1_i32_740 : BitVec 32 := 1#32
  let v969 : BitVec 32 := Scalar.muli v968 c1_i32_740
  let v970 : BitVec 32 := Scalar.addi c0_i32_741 v969
  v970.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_277 : BitVec 32 := 0#32
  let v414 : BitVec 1 := Scalar.cmpi .sgt v2 c0_i32_277
  let v415 : BitVec 32 := Scalar.extui v414
  let c0_i32_278 : BitVec 32 := 0#32
  let v416 : BitVec 1 := Scalar.cmpi .slt v2 c0_i32_278
  let v417 : BitVec 32 := Scalar.extui v416
  let v418 : BitVec 32 := Scalar.subi v415 v417
  let c4_i32_276 : BitVec 32 := 4#32
  let c0_i32_279 : BitVec 32 := 0#32
  let v419 : BitVec 1 := Scalar.cmpi .sgt c4_i32_276 c0_i32_279
  let v420 : BitVec 32 := Scalar.extui v419
  let c0_i32_280 : BitVec 32 := 0#32
  let v421 : BitVec 1 := Scalar.cmpi .slt c4_i32_276 c0_i32_280
  let v422 : BitVec 32 := Scalar.extui v421
  let v423 : BitVec 32 := Scalar.subi v420 v422
  let v424 : BitVec 1 := Scalar.cmpi .ne v418 v423
  let v425 : BitVec 32 := Scalar.remsi v2 c4_i32_276
  let c0_i32_281 : BitVec 32 := 0#32
  let v426 : BitVec 1 := Scalar.cmpi .ne v425 c0_i32_281
  let v427 : BitVec 1 := Scalar.andi v424 v426
  let v413 : BitVec 32 := Scalar.divsi v2 c4_i32_276
  let c1_i32_282 : BitVec 32 := 1#32
  let v428 : BitVec 32 := Scalar.subi v413 c1_i32_282
  let v429 : BitVec 32 := Scalar.select v427 v428 v413
  let c2_i32_283 : BitVec 32 := 2#32
  let v430 : BitVec 32 := Scalar.remsi v429 c2_i32_283
  let c0_i32_284 : BitVec 32 := 0#32
  let v431 : BitVec 1 := Scalar.cmpi .eq v430 c0_i32_284
  let v432 : BitVec 32 := Scalar.extui v431
  let c0_i32_287 : BitVec 32 := 0#32
  let v433 : BitVec 1 := Scalar.cmpi .ne v432 c0_i32_287
  v433

def k0_dev7 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v968 : BitVec 32 := Scalar.xori v2 c4_i32_739
  let c1_i32_740 : BitVec 32 := 1#32
  let v969 : BitVec 32 := Scalar.muli v968 c1_i32_740
  let v970 : BitVec 32 := Scalar.addi c0_i32_741 v969
  v970.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_277 : BitVec 32 := 0#32
  let v414 : BitVec 1 := Scalar.cmpi .sgt v2 c0_i32_277
  let v415 : BitVec 32 := Scalar.extui v414
  let c0_i32_278 : BitVec 32 := 0#32
  let v416 : BitVec 1 := Scalar.cmpi .slt v2 c0_i32_278
  let v417 : BitVec 32 := Scalar.extui v416
  let v418 : BitVec 32 := Scalar.subi v415 v417
  let c4_i32_276 : BitVec 32 := 4#32
  let c0_i32_279 : BitVec 32 := 0#32
  let v419 : BitVec 1 := Scalar.cmpi .sgt c4_i32_276 c0_i32_279
  let v420 : BitVec 32 := Scalar.extui v419
  let c0_i32_280 : BitVec 32 := 0#32
  let v421 : BitVec 1 := Scalar.cmpi .slt c4_i32_276 c0_i32_280
  let v422 : BitVec 32 := Scalar.extui v421
  let v423 : BitVec 32 := Scalar.subi v420 v422
  let v424 : BitVec 1 := Scalar.cmpi .ne v418 v423
  let v425 : BitVec 32 := Scalar.remsi v2 c4_i32_276
  let c0_i32_281 : BitVec 32 := 0#32
  let v426 : BitVec 1 := Scalar.cmpi .ne v425 c0_i32_281
  let v427 : BitVec 1 := Scalar.andi v424 v426
  let v413 : BitVec 32 := Scalar.divsi v2 c4_i32_276
  let c1_i32_282 : BitVec 32 := 1#32
  let v428 : BitVec 32 := Scalar.subi v413 c1_i32_282
  let v429 : BitVec 32 := Scalar.select v427 v428 v413
  let c2_i32_283 : BitVec 32 := 2#32
  let v430 : BitVec 32 := Scalar.remsi v429 c2_i32_283
  let c0_i32_284 : BitVec 32 := 0#32
  let v431 : BitVec 1 := Scalar.cmpi .eq v430 c0_i32_284
  let true_288 : BitVec 1 := 1#1
  let v434 : BitVec 1 := Scalar.xori v431 true_288
  let v435 : BitVec 32 := Scalar.extui v434
  let c0_i32_291 : BitVec 32 := 0#32
  let v436 : BitVec 1 := Scalar.cmpi .ne v435 c0_i32_291
  v436

def k0_dev8 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v968 : BitVec 32 := Scalar.xori v2 c4_i32_739
  let c1_i32_740 : BitVec 32 := 1#32
  let v969 : BitVec 32 := Scalar.muli v968 c1_i32_740
  let v970 : BitVec 32 := Scalar.addi c0_i32_741 v969
  v970.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_318 : BitVec 32 := 0#32
  let v463 : BitVec 1 := Scalar.cmpi .sgt v2 c0_i32_318
  let v464 : BitVec 32 := Scalar.extui v463
  let c0_i32_319 : BitVec 32 := 0#32
  let v465 : BitVec 1 := Scalar.cmpi .slt v2 c0_i32_319
  let v466 : BitVec 32 := Scalar.extui v465
  let v467 : BitVec 32 := Scalar.subi v464 v466
  let c2_i32_317 : BitVec 32 := 2#32
  let c0_i32_320 : BitVec 32 := 0#32
  let v468 : BitVec 1 := Scalar.cmpi .sgt c2_i32_317 c0_i32_320
  let v469 : BitVec 32 := Scalar.extui v468
  let c0_i32_321 : BitVec 32 := 0#32
  let v470 : BitVec 1 := Scalar.cmpi .slt c2_i32_317 c0_i32_321
  let v471 : BitVec 32 := Scalar.extui v470
  let v472 : BitVec 32 := Scalar.subi v469 v471
  let v473 : BitVec 1 := Scalar.cmpi .ne v467 v472
  let v474 : BitVec 32 := Scalar.remsi v2 c2_i32_317
  let c0_i32_322 : BitVec 32 := 0#32
  let v475 : BitVec 1 := Scalar.cmpi .ne v474 c0_i32_322
  let v476 : BitVec 1 := Scalar.andi v473 v475
  let v462 : BitVec 32 := Scalar.divsi v2 c2_i32_317
  let c1_i32_323 : BitVec 32 := 1#32
  let v477 : BitVec 32 := Scalar.subi v462 c1_i32_323
  let v478 : BitVec 32 := Scalar.select v476 v477 v462
  let c2_i32_324 : BitVec 32 := 2#32
  let v479 : BitVec 32 := Scalar.remsi v478 c2_i32_324
  let c0_i32_325 : BitVec 32 := 0#32
  let v480 : BitVec 1 := Scalar.cmpi .eq v479 c0_i32_325
  let v481 : BitVec 32 := Scalar.extui v480
  let c0_i32_328 : BitVec 32 := 0#32
  let v482 : BitVec 1 := Scalar.cmpi .ne v481 c0_i32_328
  v482

def k0_dev9 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_739 : BitVec 32 := 2#32
  let v968 : BitVec 32 := Scalar.xori v2 c2_i32_739
  let c1_i32_740 : BitVec 32 := 1#32
  let v969 : BitVec 32 := Scalar.muli v968 c1_i32_740
  let v970 : BitVec 32 := Scalar.addi c0_i32_741 v969
  v970.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_318 : BitVec 32 := 0#32
  let v463 : BitVec 1 := Scalar.cmpi .sgt v2 c0_i32_318
  let v464 : BitVec 32 := Scalar.extui v463
  let c0_i32_319 : BitVec 32 := 0#32
  let v465 : BitVec 1 := Scalar.cmpi .slt v2 c0_i32_319
  let v466 : BitVec 32 := Scalar.extui v465
  let v467 : BitVec 32 := Scalar.subi v464 v466
  let c2_i32_317 : BitVec 32 := 2#32
  let c0_i32_320 : BitVec 32 := 0#32
  let v468 : BitVec 1 := Scalar.cmpi .sgt c2_i32_317 c0_i32_320
  let v469 : BitVec 32 := Scalar.extui v468
  let c0_i32_321 : BitVec 32 := 0#32
  let v470 : BitVec 1 := Scalar.cmpi .slt c2_i32_317 c0_i32_321
  let v471 : BitVec 32 := Scalar.extui v470
  let v472 : BitVec 32 := Scalar.subi v469 v471
  let v473 : BitVec 1 := Scalar.cmpi .ne v467 v472
  let v474 : BitVec 32 := Scalar.remsi v2 c2_i32_317
  let c0_i32_322 : BitVec 32 := 0#32
  let v475 : BitVec 1 := Scalar.cmpi .ne v474 c0_i32_322
  let v476 : BitVec 1 := Scalar.andi v473 v475
  let v462 : BitVec 32 := Scalar.divsi v2 c2_i32_317
  let c1_i32_323 : BitVec 32 := 1#32
  let v477 : BitVec 32 := Scalar.subi v462 c1_i32_323
  let v478 : BitVec 32 := Scalar.select v476 v477 v462
  let c2_i32_324 : BitVec 32 := 2#32
  let v479 : BitVec 32 := Scalar.remsi v478 c2_i32_324
  let c0_i32_325 : BitVec 32 := 0#32
  let v480 : BitVec 1 := Scalar.cmpi .eq v479 c0_i32_325
  let true_329 : BitVec 1 := 1#1
  let v483 : BitVec 1 := Scalar.xori v480 true_329
  let v484 : BitVec 32 := Scalar.extui v483
  let c0_i32_332 : BitVec 32 := 0#32
  let v485 : BitVec 1 := Scalar.cmpi .ne v484 c0_i32_332
  v485

def k0_dev10 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_739 : BitVec 32 := 2#32
  let v968 : BitVec 32 := Scalar.xori v2 c2_i32_739
  let c1_i32_740 : BitVec 32 := 1#32
  let v969 : BitVec 32 := Scalar.muli v968 c1_i32_740
  let v970 : BitVec 32 := Scalar.addi c0_i32_741 v969
  v970.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_335 : BitVec 32 := 0#32
  let v488 : BitVec 1 := Scalar.cmpi .sgt v2 c0_i32_335
  let v489 : BitVec 32 := Scalar.extui v488
  let c0_i32_336 : BitVec 32 := 0#32
  let v490 : BitVec 1 := Scalar.cmpi .slt v2 c0_i32_336
  let v491 : BitVec 32 := Scalar.extui v490
  let v492 : BitVec 32 := Scalar.subi v489 v491
  let c8_i32_334 : BitVec 32 := 8#32
  let c0_i32_337 : BitVec 32 := 0#32
  let v493 : BitVec 1 := Scalar.cmpi .sgt c8_i32_334 c0_i32_337
  let v494 : BitVec 32 := Scalar.extui v493
  let c0_i32_338 : BitVec 32 := 0#32
  let v495 : BitVec 1 := Scalar.cmpi .slt c8_i32_334 c0_i32_338
  let v496 : BitVec 32 := Scalar.extui v495
  let v497 : BitVec 32 := Scalar.subi v494 v496
  let v498 : BitVec 1 := Scalar.cmpi .ne v492 v497
  let v499 : BitVec 32 := Scalar.remsi v2 c8_i32_334
  let c0_i32_339 : BitVec 32 := 0#32
  let v500 : BitVec 1 := Scalar.cmpi .ne v499 c0_i32_339
  let v501 : BitVec 1 := Scalar.andi v498 v500
  let v487 : BitVec 32 := Scalar.divsi v2 c8_i32_334
  let c1_i32_340 : BitVec 32 := 1#32
  let v502 : BitVec 32 := Scalar.subi v487 c1_i32_340
  let v503 : BitVec 32 := Scalar.select v501 v502 v487
  let c2_i32_341 : BitVec 32 := 2#32
  let v504 : BitVec 32 := Scalar.remsi v503 c2_i32_341
  let c0_i32_342 : BitVec 32 := 0#32
  let v505 : BitVec 1 := Scalar.cmpi .eq v504 c0_i32_342
  let v506 : BitVec 32 := Scalar.extui v505
  let c0_i32_345 : BitVec 32 := 0#32
  let v507 : BitVec 1 := Scalar.cmpi .ne v506 c0_i32_345
  v507

def k0_dev11 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v968 : BitVec 32 := Scalar.xori v2 c8_i32_739
  let c1_i32_740 : BitVec 32 := 1#32
  let v969 : BitVec 32 := Scalar.muli v968 c1_i32_740
  let v970 : BitVec 32 := Scalar.addi c0_i32_741 v969
  v970.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_335 : BitVec 32 := 0#32
  let v488 : BitVec 1 := Scalar.cmpi .sgt v2 c0_i32_335
  let v489 : BitVec 32 := Scalar.extui v488
  let c0_i32_336 : BitVec 32 := 0#32
  let v490 : BitVec 1 := Scalar.cmpi .slt v2 c0_i32_336
  let v491 : BitVec 32 := Scalar.extui v490
  let v492 : BitVec 32 := Scalar.subi v489 v491
  let c8_i32_334 : BitVec 32 := 8#32
  let c0_i32_337 : BitVec 32 := 0#32
  let v493 : BitVec 1 := Scalar.cmpi .sgt c8_i32_334 c0_i32_337
  let v494 : BitVec 32 := Scalar.extui v493
  let c0_i32_338 : BitVec 32 := 0#32
  let v495 : BitVec 1 := Scalar.cmpi .slt c8_i32_334 c0_i32_338
  let v496 : BitVec 32 := Scalar.extui v495
  let v497 : BitVec 32 := Scalar.subi v494 v496
  let v498 : BitVec 1 := Scalar.cmpi .ne v492 v497
  let v499 : BitVec 32 := Scalar.remsi v2 c8_i32_334
  let c0_i32_339 : BitVec 32 := 0#32
  let v500 : BitVec 1 := Scalar.cmpi .ne v499 c0_i32_339
  let v501 : BitVec 1 := Scalar.andi v498 v500
  let v487 : BitVec 32 := Scalar.divsi v2 c8_i32_334
  let c1_i32_340 : BitVec 32 := 1#32
  let v502 : BitVec 32 := Scalar.subi v487 c1_i32_340
  let v503 : BitVec 32 := Scalar.select v501 v502 v487
  let c2_i32_341 : BitVec 32 := 2#32
  let v504 : BitVec 32 := Scalar.remsi v503 c2_i32_341
  let c0_i32_342 : BitVec 32 := 0#32
  let v505 : BitVec 1 := Scalar.cmpi .eq v504 c0_i32_342
  let true_346 : BitVec 1 := 1#1
  let v508 : BitVec 1 := Scalar.xori v505 true_346
  let v509 : BitVec 32 := Scalar.extui v508
  let c0_i32_349 : BitVec 32 := 0#32
  let v510 : BitVec 1 := Scalar.cmpi .ne v509 c0_i32_349
  v510

def k0_dev12 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v968 : BitVec 32 := Scalar.xori v2 c8_i32_739
  let c1_i32_740 : BitVec 32 := 1#32
  let v969 : BitVec 32 := Scalar.muli v968 c1_i32_740
  let v970 : BitVec 32 := Scalar.addi c0_i32_741 v969
  v970.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_376 : BitVec 32 := 0#32
  let v537 : BitVec 1 := Scalar.cmpi .sgt v2 c0_i32_376
  let v538 : BitVec 32 := Scalar.extui v537
  let c0_i32_377 : BitVec 32 := 0#32
  let v539 : BitVec 1 := Scalar.cmpi .slt v2 c0_i32_377
  let v540 : BitVec 32 := Scalar.extui v539
  let v541 : BitVec 32 := Scalar.subi v538 v540
  let c4_i32_375 : BitVec 32 := 4#32
  let c0_i32_378 : BitVec 32 := 0#32
  let v542 : BitVec 1 := Scalar.cmpi .sgt c4_i32_375 c0_i32_378
  let v543 : BitVec 32 := Scalar.extui v542
  let c0_i32_379 : BitVec 32 := 0#32
  let v544 : BitVec 1 := Scalar.cmpi .slt c4_i32_375 c0_i32_379
  let v545 : BitVec 32 := Scalar.extui v544
  let v546 : BitVec 32 := Scalar.subi v543 v545
  let v547 : BitVec 1 := Scalar.cmpi .ne v541 v546
  let v548 : BitVec 32 := Scalar.remsi v2 c4_i32_375
  let c0_i32_380 : BitVec 32 := 0#32
  let v549 : BitVec 1 := Scalar.cmpi .ne v548 c0_i32_380
  let v550 : BitVec 1 := Scalar.andi v547 v549
  let v536 : BitVec 32 := Scalar.divsi v2 c4_i32_375
  let c1_i32_381 : BitVec 32 := 1#32
  let v551 : BitVec 32 := Scalar.subi v536 c1_i32_381
  let v552 : BitVec 32 := Scalar.select v550 v551 v536
  let c2_i32_382 : BitVec 32 := 2#32
  let v553 : BitVec 32 := Scalar.remsi v552 c2_i32_382
  let c0_i32_383 : BitVec 32 := 0#32
  let v554 : BitVec 1 := Scalar.cmpi .eq v553 c0_i32_383
  let v555 : BitVec 32 := Scalar.extui v554
  let c0_i32_386 : BitVec 32 := 0#32
  let v556 : BitVec 1 := Scalar.cmpi .ne v555 c0_i32_386
  v556

def k0_dev13 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v968 : BitVec 32 := Scalar.xori v2 c4_i32_739
  let c1_i32_740 : BitVec 32 := 1#32
  let v969 : BitVec 32 := Scalar.muli v968 c1_i32_740
  let v970 : BitVec 32 := Scalar.addi c0_i32_741 v969
  v970.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_376 : BitVec 32 := 0#32
  let v537 : BitVec 1 := Scalar.cmpi .sgt v2 c0_i32_376
  let v538 : BitVec 32 := Scalar.extui v537
  let c0_i32_377 : BitVec 32 := 0#32
  let v539 : BitVec 1 := Scalar.cmpi .slt v2 c0_i32_377
  let v540 : BitVec 32 := Scalar.extui v539
  let v541 : BitVec 32 := Scalar.subi v538 v540
  let c4_i32_375 : BitVec 32 := 4#32
  let c0_i32_378 : BitVec 32 := 0#32
  let v542 : BitVec 1 := Scalar.cmpi .sgt c4_i32_375 c0_i32_378
  let v543 : BitVec 32 := Scalar.extui v542
  let c0_i32_379 : BitVec 32 := 0#32
  let v544 : BitVec 1 := Scalar.cmpi .slt c4_i32_375 c0_i32_379
  let v545 : BitVec 32 := Scalar.extui v544
  let v546 : BitVec 32 := Scalar.subi v543 v545
  let v547 : BitVec 1 := Scalar.cmpi .ne v541 v546
  let v548 : BitVec 32 := Scalar.remsi v2 c4_i32_375
  let c0_i32_380 : BitVec 32 := 0#32
  let v549 : BitVec 1 := Scalar.cmpi .ne v548 c0_i32_380
  let v550 : BitVec 1 := Scalar.andi v547 v549
  let v536 : BitVec 32 := Scalar.divsi v2 c4_i32_375
  let c1_i32_381 : BitVec 32 := 1#32
  let v551 : BitVec 32 := Scalar.subi v536 c1_i32_381
  let v552 : BitVec 32 := Scalar.select v550 v551 v536
  let c2_i32_382 : BitVec 32 := 2#32
  let v553 : BitVec 32 := Scalar.remsi v552 c2_i32_382
  let c0_i32_383 : BitVec 32 := 0#32
  let v554 : BitVec 1 := Scalar.cmpi .eq v553 c0_i32_383
  let true_387 : BitVec 1 := 1#1
  let v557 : BitVec 1 := Scalar.xori v554 true_387
  let v558 : BitVec 32 := Scalar.extui v557
  let c0_i32_390 : BitVec 32 := 0#32
  let v559 : BitVec 1 := Scalar.cmpi .ne v558 c0_i32_390
  v559

def k0_dev14 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v968 : BitVec 32 := Scalar.xori v2 c4_i32_739
  let c1_i32_740 : BitVec 32 := 1#32
  let v969 : BitVec 32 := Scalar.muli v968 c1_i32_740
  let v970 : BitVec 32 := Scalar.addi c0_i32_741 v969
  v970.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_393 : BitVec 32 := 0#32
  let v562 : BitVec 1 := Scalar.cmpi .sgt v2 c0_i32_393
  let v563 : BitVec 32 := Scalar.extui v562
  let c0_i32_394 : BitVec 32 := 0#32
  let v564 : BitVec 1 := Scalar.cmpi .slt v2 c0_i32_394
  let v565 : BitVec 32 := Scalar.extui v564
  let v566 : BitVec 32 := Scalar.subi v563 v565
  let c1_i32_392 : BitVec 32 := 1#32
  let c0_i32_395 : BitVec 32 := 0#32
  let v567 : BitVec 1 := Scalar.cmpi .sgt c1_i32_392 c0_i32_395
  let v568 : BitVec 32 := Scalar.extui v567
  let c0_i32_396 : BitVec 32 := 0#32
  let v569 : BitVec 1 := Scalar.cmpi .slt c1_i32_392 c0_i32_396
  let v570 : BitVec 32 := Scalar.extui v569
  let v571 : BitVec 32 := Scalar.subi v568 v570
  let v572 : BitVec 1 := Scalar.cmpi .ne v566 v571
  let v573 : BitVec 32 := Scalar.remsi v2 c1_i32_392
  let c0_i32_397 : BitVec 32 := 0#32
  let v574 : BitVec 1 := Scalar.cmpi .ne v573 c0_i32_397
  let v575 : BitVec 1 := Scalar.andi v572 v574
  let v561 : BitVec 32 := Scalar.divsi v2 c1_i32_392
  let c1_i32_398 : BitVec 32 := 1#32
  let v576 : BitVec 32 := Scalar.subi v561 c1_i32_398
  let v577 : BitVec 32 := Scalar.select v575 v576 v561
  let c2_i32_399 : BitVec 32 := 2#32
  let v578 : BitVec 32 := Scalar.remsi v577 c2_i32_399
  let c0_i32_400 : BitVec 32 := 0#32
  let v579 : BitVec 1 := Scalar.cmpi .eq v578 c0_i32_400
  let v580 : BitVec 32 := Scalar.extui v579
  let c0_i32_403 : BitVec 32 := 0#32
  let v581 : BitVec 1 := Scalar.cmpi .ne v580 c0_i32_403
  v581

def k0_dev15 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_739 : BitVec 32 := 1#32
  let v968 : BitVec 32 := Scalar.xori v2 c1_i32_739
  let c1_i32_740 : BitVec 32 := 1#32
  let v969 : BitVec 32 := Scalar.muli v968 c1_i32_740
  let v970 : BitVec 32 := Scalar.addi c0_i32_741 v969
  v970.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_393 : BitVec 32 := 0#32
  let v562 : BitVec 1 := Scalar.cmpi .sgt v2 c0_i32_393
  let v563 : BitVec 32 := Scalar.extui v562
  let c0_i32_394 : BitVec 32 := 0#32
  let v564 : BitVec 1 := Scalar.cmpi .slt v2 c0_i32_394
  let v565 : BitVec 32 := Scalar.extui v564
  let v566 : BitVec 32 := Scalar.subi v563 v565
  let c1_i32_392 : BitVec 32 := 1#32
  let c0_i32_395 : BitVec 32 := 0#32
  let v567 : BitVec 1 := Scalar.cmpi .sgt c1_i32_392 c0_i32_395
  let v568 : BitVec 32 := Scalar.extui v567
  let c0_i32_396 : BitVec 32 := 0#32
  let v569 : BitVec 1 := Scalar.cmpi .slt c1_i32_392 c0_i32_396
  let v570 : BitVec 32 := Scalar.extui v569
  let v571 : BitVec 32 := Scalar.subi v568 v570
  let v572 : BitVec 1 := Scalar.cmpi .ne v566 v571
  let v573 : BitVec 32 := Scalar.remsi v2 c1_i32_392
  let c0_i32_397 : BitVec 32 := 0#32
  let v574 : BitVec 1 := Scalar.cmpi .ne v573 c0_i32_397
  let v575 : BitVec 1 := Scalar.andi v572 v574
  let v561 : BitVec 32 := Scalar.divsi v2 c1_i32_392
  let c1_i32_398 : BitVec 32 := 1#32
  let v576 : BitVec 32 := Scalar.subi v561 c1_i32_398
  let v577 : BitVec 32 := Scalar.select v575 v576 v561
  let c2_i32_399 : BitVec 32 := 2#32
  let v578 : BitVec 32 := Scalar.remsi v577 c2_i32_399
  let c0_i32_400 : BitVec 32 := 0#32
  let v579 : BitVec 1 := Scalar.cmpi .eq v578 c0_i32_400
  let true_404 : BitVec 1 := 1#1
  let v582 : BitVec 1 := Scalar.xori v579 true_404
  let v583 : BitVec 32 := Scalar.extui v582
  let c0_i32_407 : BitVec 32 := 0#32
  let v584 : BitVec 1 := Scalar.cmpi .ne v583 c0_i32_407
  v584

def k0_dev16 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_739 : BitVec 32 := 1#32
  let v968 : BitVec 32 := Scalar.xori v2 c1_i32_739
  let c1_i32_740 : BitVec 32 := 1#32
  let v969 : BitVec 32 := Scalar.muli v968 c1_i32_740
  let v970 : BitVec 32 := Scalar.addi c0_i32_741 v969
  v970.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let v611 : BitVec 1 := Scalar.cmpi .sgt v2 c0_i32_433
  let v612 : BitVec 32 := Scalar.extui v611
  let c0_i32_434 : BitVec 32 := 0#32
  let v613 : BitVec 1 := Scalar.cmpi .slt v2 c0_i32_434
  let v614 : BitVec 32 := Scalar.extui v613
  let v615 : BitVec 32 := Scalar.subi v612 v614
  let c8_i32_432 : BitVec 32 := 8#32
  let c0_i32_435 : BitVec 32 := 0#32
  let v616 : BitVec 1 := Scalar.cmpi .sgt c8_i32_432 c0_i32_435
  let v617 : BitVec 32 := Scalar.extui v616
  let c0_i32_436 : BitVec 32 := 0#32
  let v618 : BitVec 1 := Scalar.cmpi .slt c8_i32_432 c0_i32_436
  let v619 : BitVec 32 := Scalar.extui v618
  let v620 : BitVec 32 := Scalar.subi v617 v619
  let v621 : BitVec 1 := Scalar.cmpi .ne v615 v620
  let v622 : BitVec 32 := Scalar.remsi v2 c8_i32_432
  let c0_i32_437 : BitVec 32 := 0#32
  let v623 : BitVec 1 := Scalar.cmpi .ne v622 c0_i32_437
  let v624 : BitVec 1 := Scalar.andi v621 v623
  let v610 : BitVec 32 := Scalar.divsi v2 c8_i32_432
  let c1_i32_438 : BitVec 32 := 1#32
  let v625 : BitVec 32 := Scalar.subi v610 c1_i32_438
  let v626 : BitVec 32 := Scalar.select v624 v625 v610
  let c2_i32_439 : BitVec 32 := 2#32
  let v627 : BitVec 32 := Scalar.remsi v626 c2_i32_439
  let c0_i32_440 : BitVec 32 := 0#32
  let v628 : BitVec 1 := Scalar.cmpi .eq v627 c0_i32_440
  let v629 : BitVec 32 := Scalar.extui v628
  let c0_i32_442 : BitVec 32 := 0#32
  let v630 : BitVec 1 := Scalar.cmpi .ne v629 c0_i32_442
  v630

def k0_dev17 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v968 : BitVec 32 := Scalar.xori v2 c8_i32_739
  let c1_i32_740 : BitVec 32 := 1#32
  let v969 : BitVec 32 := Scalar.muli v968 c1_i32_740
  let v970 : BitVec 32 := Scalar.addi c0_i32_741 v969
  v970.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let v611 : BitVec 1 := Scalar.cmpi .sgt v2 c0_i32_433
  let v612 : BitVec 32 := Scalar.extui v611
  let c0_i32_434 : BitVec 32 := 0#32
  let v613 : BitVec 1 := Scalar.cmpi .slt v2 c0_i32_434
  let v614 : BitVec 32 := Scalar.extui v613
  let v615 : BitVec 32 := Scalar.subi v612 v614
  let c8_i32_432 : BitVec 32 := 8#32
  let c0_i32_435 : BitVec 32 := 0#32
  let v616 : BitVec 1 := Scalar.cmpi .sgt c8_i32_432 c0_i32_435
  let v617 : BitVec 32 := Scalar.extui v616
  let c0_i32_436 : BitVec 32 := 0#32
  let v618 : BitVec 1 := Scalar.cmpi .slt c8_i32_432 c0_i32_436
  let v619 : BitVec 32 := Scalar.extui v618
  let v620 : BitVec 32 := Scalar.subi v617 v619
  let v621 : BitVec 1 := Scalar.cmpi .ne v615 v620
  let v622 : BitVec 32 := Scalar.remsi v2 c8_i32_432
  let c0_i32_437 : BitVec 32 := 0#32
  let v623 : BitVec 1 := Scalar.cmpi .ne v622 c0_i32_437
  let v624 : BitVec 1 := Scalar.andi v621 v623
  let v610 : BitVec 32 := Scalar.divsi v2 c8_i32_432
  let c1_i32_438 : BitVec 32 := 1#32
  let v625 : BitVec 32 := Scalar.subi v610 c1_i32_438
  let v626 : BitVec 32 := Scalar.select v624 v625 v610
  let c2_i32_439 : BitVec 32 := 2#32
  let v627 : BitVec 32 := Scalar.remsi v626 c2_i32_439
  let c0_i32_440 : BitVec 32 := 0#32
  let v628 : BitVec 1 := Scalar.cmpi .eq v627 c0_i32_440
  let true_443 : BitVec 1 := 1#1
  let v631 : BitVec 1 := Scalar.xori v628 true_443
  let v632 : BitVec 32 := Scalar.extui v631
  let c0_i32_446 : BitVec 32 := 0#32
  let v633 : BitVec 1 := Scalar.cmpi .ne v632 c0_i32_446
  v633

def k0_dev18 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v968 : BitVec 32 := Scalar.xori v2 c8_i32_739
  let c1_i32_740 : BitVec 32 := 1#32
  let v969 : BitVec 32 := Scalar.muli v968 c1_i32_740
  let v970 : BitVec 32 := Scalar.addi c0_i32_741 v969
  v970.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let v636 : BitVec 1 := Scalar.cmpi .sgt v2 c0_i32_449
  let v637 : BitVec 32 := Scalar.extui v636
  let c0_i32_450 : BitVec 32 := 0#32
  let v638 : BitVec 1 := Scalar.cmpi .slt v2 c0_i32_450
  let v639 : BitVec 32 := Scalar.extui v638
  let v640 : BitVec 32 := Scalar.subi v637 v639
  let c2_i32_448 : BitVec 32 := 2#32
  let c0_i32_451 : BitVec 32 := 0#32
  let v641 : BitVec 1 := Scalar.cmpi .sgt c2_i32_448 c0_i32_451
  let v642 : BitVec 32 := Scalar.extui v641
  let c0_i32_452 : BitVec 32 := 0#32
  let v643 : BitVec 1 := Scalar.cmpi .slt c2_i32_448 c0_i32_452
  let v644 : BitVec 32 := Scalar.extui v643
  let v645 : BitVec 32 := Scalar.subi v642 v644
  let v646 : BitVec 1 := Scalar.cmpi .ne v640 v645
  let v647 : BitVec 32 := Scalar.remsi v2 c2_i32_448
  let c0_i32_453 : BitVec 32 := 0#32
  let v648 : BitVec 1 := Scalar.cmpi .ne v647 c0_i32_453
  let v649 : BitVec 1 := Scalar.andi v646 v648
  let v635 : BitVec 32 := Scalar.divsi v2 c2_i32_448
  let c1_i32_454 : BitVec 32 := 1#32
  let v650 : BitVec 32 := Scalar.subi v635 c1_i32_454
  let v651 : BitVec 32 := Scalar.select v649 v650 v635
  let c2_i32_455 : BitVec 32 := 2#32
  let v652 : BitVec 32 := Scalar.remsi v651 c2_i32_455
  let c0_i32_456 : BitVec 32 := 0#32
  let v653 : BitVec 1 := Scalar.cmpi .eq v652 c0_i32_456
  let v654 : BitVec 32 := Scalar.extui v653
  let c0_i32_459 : BitVec 32 := 0#32
  let v655 : BitVec 1 := Scalar.cmpi .ne v654 c0_i32_459
  v655

def k0_dev19 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_739 : BitVec 32 := 2#32
  let v968 : BitVec 32 := Scalar.xori v2 c2_i32_739
  let c1_i32_740 : BitVec 32 := 1#32
  let v969 : BitVec 32 := Scalar.muli v968 c1_i32_740
  let v970 : BitVec 32 := Scalar.addi c0_i32_741 v969
  v970.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let v636 : BitVec 1 := Scalar.cmpi .sgt v2 c0_i32_449
  let v637 : BitVec 32 := Scalar.extui v636
  let c0_i32_450 : BitVec 32 := 0#32
  let v638 : BitVec 1 := Scalar.cmpi .slt v2 c0_i32_450
  let v639 : BitVec 32 := Scalar.extui v638
  let v640 : BitVec 32 := Scalar.subi v637 v639
  let c2_i32_448 : BitVec 32 := 2#32
  let c0_i32_451 : BitVec 32 := 0#32
  let v641 : BitVec 1 := Scalar.cmpi .sgt c2_i32_448 c0_i32_451
  let v642 : BitVec 32 := Scalar.extui v641
  let c0_i32_452 : BitVec 32 := 0#32
  let v643 : BitVec 1 := Scalar.cmpi .slt c2_i32_448 c0_i32_452
  let v644 : BitVec 32 := Scalar.extui v643
  let v645 : BitVec 32 := Scalar.subi v642 v644
  let v646 : BitVec 1 := Scalar.cmpi .ne v640 v645
  let v647 : BitVec 32 := Scalar.remsi v2 c2_i32_448
  let c0_i32_453 : BitVec 32 := 0#32
  let v648 : BitVec 1 := Scalar.cmpi .ne v647 c0_i32_453
  let v649 : BitVec 1 := Scalar.andi v646 v648
  let v635 : BitVec 32 := Scalar.divsi v2 c2_i32_448
  let c1_i32_454 : BitVec 32 := 1#32
  let v650 : BitVec 32 := Scalar.subi v635 c1_i32_454
  let v651 : BitVec 32 := Scalar.select v649 v650 v635
  let c2_i32_455 : BitVec 32 := 2#32
  let v652 : BitVec 32 := Scalar.remsi v651 c2_i32_455
  let c0_i32_456 : BitVec 32 := 0#32
  let v653 : BitVec 1 := Scalar.cmpi .eq v652 c0_i32_456
  let true_460 : BitVec 1 := 1#1
  let v656 : BitVec 1 := Scalar.xori v653 true_460
  let v657 : BitVec 32 := Scalar.extui v656
  let c0_i32_463 : BitVec 32 := 0#32
  let v658 : BitVec 1 := Scalar.cmpi .ne v657 c0_i32_463
  v658

def k0_dev20 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_739 : BitVec 32 := 2#32
  let v968 : BitVec 32 := Scalar.xori v2 c2_i32_739
  let c1_i32_740 : BitVec 32 := 1#32
  let v969 : BitVec 32 := Scalar.muli v968 c1_i32_740
  let v970 : BitVec 32 := Scalar.addi c0_i32_741 v969
  v970.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let v685 : BitVec 1 := Scalar.cmpi .sgt v2 c0_i32_489
  let v686 : BitVec 32 := Scalar.extui v685
  let c0_i32_490 : BitVec 32 := 0#32
  let v687 : BitVec 1 := Scalar.cmpi .slt v2 c0_i32_490
  let v688 : BitVec 32 := Scalar.extui v687
  let v689 : BitVec 32 := Scalar.subi v686 v688
  let c8_i32_488 : BitVec 32 := 8#32
  let c0_i32_491 : BitVec 32 := 0#32
  let v690 : BitVec 1 := Scalar.cmpi .sgt c8_i32_488 c0_i32_491
  let v691 : BitVec 32 := Scalar.extui v690
  let c0_i32_492 : BitVec 32 := 0#32
  let v692 : BitVec 1 := Scalar.cmpi .slt c8_i32_488 c0_i32_492
  let v693 : BitVec 32 := Scalar.extui v692
  let v694 : BitVec 32 := Scalar.subi v691 v693
  let v695 : BitVec 1 := Scalar.cmpi .ne v689 v694
  let v696 : BitVec 32 := Scalar.remsi v2 c8_i32_488
  let c0_i32_493 : BitVec 32 := 0#32
  let v697 : BitVec 1 := Scalar.cmpi .ne v696 c0_i32_493
  let v698 : BitVec 1 := Scalar.andi v695 v697
  let v684 : BitVec 32 := Scalar.divsi v2 c8_i32_488
  let c1_i32_494 : BitVec 32 := 1#32
  let v699 : BitVec 32 := Scalar.subi v684 c1_i32_494
  let v700 : BitVec 32 := Scalar.select v698 v699 v684
  let c2_i32_495 : BitVec 32 := 2#32
  let v701 : BitVec 32 := Scalar.remsi v700 c2_i32_495
  let c0_i32_496 : BitVec 32 := 0#32
  let v702 : BitVec 1 := Scalar.cmpi .eq v701 c0_i32_496
  let v703 : BitVec 32 := Scalar.extui v702
  let c0_i32_499 : BitVec 32 := 0#32
  let v704 : BitVec 1 := Scalar.cmpi .ne v703 c0_i32_499
  v704

def k0_dev21 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_743 : BitVec 32 := 8#32
  let v972 : BitVec 32 := Scalar.xori v2 c8_i32_743
  let c1_i32_744 : BitVec 32 := 1#32
  let v973 : BitVec 32 := Scalar.muli v972 c1_i32_744
  let v974 : BitVec 32 := Scalar.addi c0_i32_745 v973
  v974.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let v685 : BitVec 1 := Scalar.cmpi .sgt v2 c0_i32_489
  let v686 : BitVec 32 := Scalar.extui v685
  let c0_i32_490 : BitVec 32 := 0#32
  let v687 : BitVec 1 := Scalar.cmpi .slt v2 c0_i32_490
  let v688 : BitVec 32 := Scalar.extui v687
  let v689 : BitVec 32 := Scalar.subi v686 v688
  let c8_i32_488 : BitVec 32 := 8#32
  let c0_i32_491 : BitVec 32 := 0#32
  let v690 : BitVec 1 := Scalar.cmpi .sgt c8_i32_488 c0_i32_491
  let v691 : BitVec 32 := Scalar.extui v690
  let c0_i32_492 : BitVec 32 := 0#32
  let v692 : BitVec 1 := Scalar.cmpi .slt c8_i32_488 c0_i32_492
  let v693 : BitVec 32 := Scalar.extui v692
  let v694 : BitVec 32 := Scalar.subi v691 v693
  let v695 : BitVec 1 := Scalar.cmpi .ne v689 v694
  let v696 : BitVec 32 := Scalar.remsi v2 c8_i32_488
  let c0_i32_493 : BitVec 32 := 0#32
  let v697 : BitVec 1 := Scalar.cmpi .ne v696 c0_i32_493
  let v698 : BitVec 1 := Scalar.andi v695 v697
  let v684 : BitVec 32 := Scalar.divsi v2 c8_i32_488
  let c1_i32_494 : BitVec 32 := 1#32
  let v699 : BitVec 32 := Scalar.subi v684 c1_i32_494
  let v700 : BitVec 32 := Scalar.select v698 v699 v684
  let c2_i32_495 : BitVec 32 := 2#32
  let v701 : BitVec 32 := Scalar.remsi v700 c2_i32_495
  let c0_i32_496 : BitVec 32 := 0#32
  let v702 : BitVec 1 := Scalar.cmpi .eq v701 c0_i32_496
  let true_500 : BitVec 1 := 1#1
  let v705 : BitVec 1 := Scalar.xori v702 true_500
  let v706 : BitVec 32 := Scalar.extui v705
  let c0_i32_503 : BitVec 32 := 0#32
  let v707 : BitVec 1 := Scalar.cmpi .ne v706 c0_i32_503
  v707

def k0_dev22 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_743 : BitVec 32 := 8#32
  let v972 : BitVec 32 := Scalar.xori v2 c8_i32_743
  let c1_i32_744 : BitVec 32 := 1#32
  let v973 : BitVec 32 := Scalar.muli v972 c1_i32_744
  let v974 : BitVec 32 := Scalar.addi c0_i32_745 v973
  v974.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let v710 : BitVec 1 := Scalar.cmpi .sgt v2 c0_i32_506
  let v711 : BitVec 32 := Scalar.extui v710
  let c0_i32_507 : BitVec 32 := 0#32
  let v712 : BitVec 1 := Scalar.cmpi .slt v2 c0_i32_507
  let v713 : BitVec 32 := Scalar.extui v712
  let v714 : BitVec 32 := Scalar.subi v711 v713
  let c2_i32_505 : BitVec 32 := 2#32
  let c0_i32_508 : BitVec 32 := 0#32
  let v715 : BitVec 1 := Scalar.cmpi .sgt c2_i32_505 c0_i32_508
  let v716 : BitVec 32 := Scalar.extui v715
  let c0_i32_509 : BitVec 32 := 0#32
  let v717 : BitVec 1 := Scalar.cmpi .slt c2_i32_505 c0_i32_509
  let v718 : BitVec 32 := Scalar.extui v717
  let v719 : BitVec 32 := Scalar.subi v716 v718
  let v720 : BitVec 1 := Scalar.cmpi .ne v714 v719
  let v721 : BitVec 32 := Scalar.remsi v2 c2_i32_505
  let c0_i32_510 : BitVec 32 := 0#32
  let v722 : BitVec 1 := Scalar.cmpi .ne v721 c0_i32_510
  let v723 : BitVec 1 := Scalar.andi v720 v722
  let v709 : BitVec 32 := Scalar.divsi v2 c2_i32_505
  let c1_i32_511 : BitVec 32 := 1#32
  let v724 : BitVec 32 := Scalar.subi v709 c1_i32_511
  let v725 : BitVec 32 := Scalar.select v723 v724 v709
  let c2_i32_512 : BitVec 32 := 2#32
  let v726 : BitVec 32 := Scalar.remsi v725 c2_i32_512
  let c0_i32_513 : BitVec 32 := 0#32
  let v727 : BitVec 1 := Scalar.cmpi .eq v726 c0_i32_513
  let v728 : BitVec 32 := Scalar.extui v727
  let c0_i32_516 : BitVec 32 := 0#32
  let v729 : BitVec 1 := Scalar.cmpi .ne v728 c0_i32_516
  v729

def k0_dev23 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_743 : BitVec 32 := 2#32
  let v972 : BitVec 32 := Scalar.xori v2 c2_i32_743
  let c1_i32_744 : BitVec 32 := 1#32
  let v973 : BitVec 32 := Scalar.muli v972 c1_i32_744
  let v974 : BitVec 32 := Scalar.addi c0_i32_745 v973
  v974.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let v710 : BitVec 1 := Scalar.cmpi .sgt v2 c0_i32_506
  let v711 : BitVec 32 := Scalar.extui v710
  let c0_i32_507 : BitVec 32 := 0#32
  let v712 : BitVec 1 := Scalar.cmpi .slt v2 c0_i32_507
  let v713 : BitVec 32 := Scalar.extui v712
  let v714 : BitVec 32 := Scalar.subi v711 v713
  let c2_i32_505 : BitVec 32 := 2#32
  let c0_i32_508 : BitVec 32 := 0#32
  let v715 : BitVec 1 := Scalar.cmpi .sgt c2_i32_505 c0_i32_508
  let v716 : BitVec 32 := Scalar.extui v715
  let c0_i32_509 : BitVec 32 := 0#32
  let v717 : BitVec 1 := Scalar.cmpi .slt c2_i32_505 c0_i32_509
  let v718 : BitVec 32 := Scalar.extui v717
  let v719 : BitVec 32 := Scalar.subi v716 v718
  let v720 : BitVec 1 := Scalar.cmpi .ne v714 v719
  let v721 : BitVec 32 := Scalar.remsi v2 c2_i32_505
  let c0_i32_510 : BitVec 32 := 0#32
  let v722 : BitVec 1 := Scalar.cmpi .ne v721 c0_i32_510
  let v723 : BitVec 1 := Scalar.andi v720 v722
  let v709 : BitVec 32 := Scalar.divsi v2 c2_i32_505
  let c1_i32_511 : BitVec 32 := 1#32
  let v724 : BitVec 32 := Scalar.subi v709 c1_i32_511
  let v725 : BitVec 32 := Scalar.select v723 v724 v709
  let c2_i32_512 : BitVec 32 := 2#32
  let v726 : BitVec 32 := Scalar.remsi v725 c2_i32_512
  let c0_i32_513 : BitVec 32 := 0#32
  let v727 : BitVec 1 := Scalar.cmpi .eq v726 c0_i32_513
  let true_517 : BitVec 1 := 1#1
  let v730 : BitVec 1 := Scalar.xori v727 true_517
  let v731 : BitVec 32 := Scalar.extui v730
  let c0_i32_520 : BitVec 32 := 0#32
  let v732 : BitVec 1 := Scalar.cmpi .ne v731 c0_i32_520
  v732

def k0_dev24 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_743 : BitVec 32 := 2#32
  let v972 : BitVec 32 := Scalar.xori v2 c2_i32_743
  let c1_i32_744 : BitVec 32 := 1#32
  let v973 : BitVec 32 := Scalar.muli v972 c1_i32_744
  let v974 : BitVec 32 := Scalar.addi c0_i32_745 v973
  v974.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_535 : BitVec 32 := 0#32
  let v745 : BitVec 1 := Scalar.cmpi .sgt v2 c0_i32_535
  let v746 : BitVec 32 := Scalar.extui v745
  let c0_i32_536 : BitVec 32 := 0#32
  let v747 : BitVec 1 := Scalar.cmpi .slt v2 c0_i32_536
  let v748 : BitVec 32 := Scalar.extui v747
  let v749 : BitVec 32 := Scalar.subi v746 v748
  let c4_i32_534 : BitVec 32 := 4#32
  let c0_i32_537 : BitVec 32 := 0#32
  let v750 : BitVec 1 := Scalar.cmpi .sgt c4_i32_534 c0_i32_537
  let v751 : BitVec 32 := Scalar.extui v750
  let c0_i32_538 : BitVec 32 := 0#32
  let v752 : BitVec 1 := Scalar.cmpi .slt c4_i32_534 c0_i32_538
  let v753 : BitVec 32 := Scalar.extui v752
  let v754 : BitVec 32 := Scalar.subi v751 v753
  let v755 : BitVec 1 := Scalar.cmpi .ne v749 v754
  let v756 : BitVec 32 := Scalar.remsi v2 c4_i32_534
  let c0_i32_539 : BitVec 32 := 0#32
  let v757 : BitVec 1 := Scalar.cmpi .ne v756 c0_i32_539
  let v758 : BitVec 1 := Scalar.andi v755 v757
  let v744 : BitVec 32 := Scalar.divsi v2 c4_i32_534
  let c1_i32_540 : BitVec 32 := 1#32
  let v759 : BitVec 32 := Scalar.subi v744 c1_i32_540
  let v760 : BitVec 32 := Scalar.select v758 v759 v744
  let c2_i32_541 : BitVec 32 := 2#32
  let v761 : BitVec 32 := Scalar.remsi v760 c2_i32_541
  let c0_i32_542 : BitVec 32 := 0#32
  let v762 : BitVec 1 := Scalar.cmpi .eq v761 c0_i32_542
  let v763 : BitVec 32 := Scalar.extui v762
  let c0_i32_545 : BitVec 32 := 0#32
  let v764 : BitVec 1 := Scalar.cmpi .ne v763 c0_i32_545
  v764

def k0_dev25 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_743 : BitVec 32 := 4#32
  let v972 : BitVec 32 := Scalar.xori v2 c4_i32_743
  let c1_i32_744 : BitVec 32 := 1#32
  let v973 : BitVec 32 := Scalar.muli v972 c1_i32_744
  let v974 : BitVec 32 := Scalar.addi c0_i32_745 v973
  v974.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_535 : BitVec 32 := 0#32
  let v745 : BitVec 1 := Scalar.cmpi .sgt v2 c0_i32_535
  let v746 : BitVec 32 := Scalar.extui v745
  let c0_i32_536 : BitVec 32 := 0#32
  let v747 : BitVec 1 := Scalar.cmpi .slt v2 c0_i32_536
  let v748 : BitVec 32 := Scalar.extui v747
  let v749 : BitVec 32 := Scalar.subi v746 v748
  let c4_i32_534 : BitVec 32 := 4#32
  let c0_i32_537 : BitVec 32 := 0#32
  let v750 : BitVec 1 := Scalar.cmpi .sgt c4_i32_534 c0_i32_537
  let v751 : BitVec 32 := Scalar.extui v750
  let c0_i32_538 : BitVec 32 := 0#32
  let v752 : BitVec 1 := Scalar.cmpi .slt c4_i32_534 c0_i32_538
  let v753 : BitVec 32 := Scalar.extui v752
  let v754 : BitVec 32 := Scalar.subi v751 v753
  let v755 : BitVec 1 := Scalar.cmpi .ne v749 v754
  let v756 : BitVec 32 := Scalar.remsi v2 c4_i32_534
  let c0_i32_539 : BitVec 32 := 0#32
  let v757 : BitVec 1 := Scalar.cmpi .ne v756 c0_i32_539
  let v758 : BitVec 1 := Scalar.andi v755 v757
  let v744 : BitVec 32 := Scalar.divsi v2 c4_i32_534
  let c1_i32_540 : BitVec 32 := 1#32
  let v759 : BitVec 32 := Scalar.subi v744 c1_i32_540
  let v760 : BitVec 32 := Scalar.select v758 v759 v744
  let c2_i32_541 : BitVec 32 := 2#32
  let v761 : BitVec 32 := Scalar.remsi v760 c2_i32_541
  let c0_i32_542 : BitVec 32 := 0#32
  let v762 : BitVec 1 := Scalar.cmpi .eq v761 c0_i32_542
  let true_546 : BitVec 1 := 1#1
  let v765 : BitVec 1 := Scalar.xori v762 true_546
  let v766 : BitVec 32 := Scalar.extui v765
  let c0_i32_549 : BitVec 32 := 0#32
  let v767 : BitVec 1 := Scalar.cmpi .ne v766 c0_i32_549
  v767

def k0_dev26 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_743 : BitVec 32 := 4#32
  let v972 : BitVec 32 := Scalar.xori v2 c4_i32_743
  let c1_i32_744 : BitVec 32 := 1#32
  let v973 : BitVec 32 := Scalar.muli v972 c1_i32_744
  let v974 : BitVec 32 := Scalar.addi c0_i32_745 v973
  v974.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let v770 : BitVec 1 := Scalar.cmpi .sgt v2 c0_i32_552
  let v771 : BitVec 32 := Scalar.extui v770
  let c0_i32_553 : BitVec 32 := 0#32
  let v772 : BitVec 1 := Scalar.cmpi .slt v2 c0_i32_553
  let v773 : BitVec 32 := Scalar.extui v772
  let v774 : BitVec 32 := Scalar.subi v771 v773
  let c1_i32_551 : BitVec 32 := 1#32
  let c0_i32_554 : BitVec 32 := 0#32
  let v775 : BitVec 1 := Scalar.cmpi .sgt c1_i32_551 c0_i32_554
  let v776 : BitVec 32 := Scalar.extui v775
  let c0_i32_555 : BitVec 32 := 0#32
  let v777 : BitVec 1 := Scalar.cmpi .slt c1_i32_551 c0_i32_555
  let v778 : BitVec 32 := Scalar.extui v777
  let v779 : BitVec 32 := Scalar.subi v776 v778
  let v780 : BitVec 1 := Scalar.cmpi .ne v774 v779
  let v781 : BitVec 32 := Scalar.remsi v2 c1_i32_551
  let c0_i32_556 : BitVec 32 := 0#32
  let v782 : BitVec 1 := Scalar.cmpi .ne v781 c0_i32_556
  let v783 : BitVec 1 := Scalar.andi v780 v782
  let v769 : BitVec 32 := Scalar.divsi v2 c1_i32_551
  let c1_i32_557 : BitVec 32 := 1#32
  let v784 : BitVec 32 := Scalar.subi v769 c1_i32_557
  let v785 : BitVec 32 := Scalar.select v783 v784 v769
  let c2_i32_558 : BitVec 32 := 2#32
  let v786 : BitVec 32 := Scalar.remsi v785 c2_i32_558
  let c0_i32_559 : BitVec 32 := 0#32
  let v787 : BitVec 1 := Scalar.cmpi .eq v786 c0_i32_559
  let v788 : BitVec 32 := Scalar.extui v787
  let c0_i32_562 : BitVec 32 := 0#32
  let v789 : BitVec 1 := Scalar.cmpi .ne v788 c0_i32_562
  v789

def k0_dev27 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_743 : BitVec 32 := 1#32
  let v972 : BitVec 32 := Scalar.xori v2 c1_i32_743
  let c1_i32_744 : BitVec 32 := 1#32
  let v973 : BitVec 32 := Scalar.muli v972 c1_i32_744
  let v974 : BitVec 32 := Scalar.addi c0_i32_745 v973
  v974.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let v770 : BitVec 1 := Scalar.cmpi .sgt v2 c0_i32_552
  let v771 : BitVec 32 := Scalar.extui v770
  let c0_i32_553 : BitVec 32 := 0#32
  let v772 : BitVec 1 := Scalar.cmpi .slt v2 c0_i32_553
  let v773 : BitVec 32 := Scalar.extui v772
  let v774 : BitVec 32 := Scalar.subi v771 v773
  let c1_i32_551 : BitVec 32 := 1#32
  let c0_i32_554 : BitVec 32 := 0#32
  let v775 : BitVec 1 := Scalar.cmpi .sgt c1_i32_551 c0_i32_554
  let v776 : BitVec 32 := Scalar.extui v775
  let c0_i32_555 : BitVec 32 := 0#32
  let v777 : BitVec 1 := Scalar.cmpi .slt c1_i32_551 c0_i32_555
  let v778 : BitVec 32 := Scalar.extui v777
  let v779 : BitVec 32 := Scalar.subi v776 v778
  let v780 : BitVec 1 := Scalar.cmpi .ne v774 v779
  let v781 : BitVec 32 := Scalar.remsi v2 c1_i32_551
  let c0_i32_556 : BitVec 32 := 0#32
  let v782 : BitVec 1 := Scalar.cmpi .ne v781 c0_i32_556
  let v783 : BitVec 1 := Scalar.andi v780 v782
  let v769 : BitVec 32 := Scalar.divsi v2 c1_i32_551
  let c1_i32_557 : BitVec 32 := 1#32
  let v784 : BitVec 32 := Scalar.subi v769 c1_i32_557
  let v785 : BitVec 32 := Scalar.select v783 v784 v769
  let c2_i32_558 : BitVec 32 := 2#32
  let v786 : BitVec 32 := Scalar.remsi v785 c2_i32_558
  let c0_i32_559 : BitVec 32 := 0#32
  let v787 : BitVec 1 := Scalar.cmpi .eq v786 c0_i32_559
  let true_563 : BitVec 1 := 1#1
  let v790 : BitVec 1 := Scalar.xori v787 true_563
  let v791 : BitVec 32 := Scalar.extui v790
  let c0_i32_566 : BitVec 32 := 0#32
  let v792 : BitVec 1 := Scalar.cmpi .ne v791 c0_i32_566
  v792

def k0_dev28 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_743 : BitVec 32 := 1#32
  let v972 : BitVec 32 := Scalar.xori v2 c1_i32_743
  let c1_i32_744 : BitVec 32 := 1#32
  let v973 : BitVec 32 := Scalar.muli v972 c1_i32_744
  let v974 : BitVec 32 := Scalar.addi c0_i32_745 v973
  v974.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_581 : BitVec 32 := 0#32
  let v805 : BitVec 1 := Scalar.cmpi .sgt v2 c0_i32_581
  let v806 : BitVec 32 := Scalar.extui v805
  let c0_i32_582 : BitVec 32 := 0#32
  let v807 : BitVec 1 := Scalar.cmpi .slt v2 c0_i32_582
  let v808 : BitVec 32 := Scalar.extui v807
  let v809 : BitVec 32 := Scalar.subi v806 v808
  let c2_i32_580 : BitVec 32 := 2#32
  let c0_i32_583 : BitVec 32 := 0#32
  let v810 : BitVec 1 := Scalar.cmpi .sgt c2_i32_580 c0_i32_583
  let v811 : BitVec 32 := Scalar.extui v810
  let c0_i32_584 : BitVec 32 := 0#32
  let v812 : BitVec 1 := Scalar.cmpi .slt c2_i32_580 c0_i32_584
  let v813 : BitVec 32 := Scalar.extui v812
  let v814 : BitVec 32 := Scalar.subi v811 v813
  let v815 : BitVec 1 := Scalar.cmpi .ne v809 v814
  let v816 : BitVec 32 := Scalar.remsi v2 c2_i32_580
  let c0_i32_585 : BitVec 32 := 0#32
  let v817 : BitVec 1 := Scalar.cmpi .ne v816 c0_i32_585
  let v818 : BitVec 1 := Scalar.andi v815 v817
  let v804 : BitVec 32 := Scalar.divsi v2 c2_i32_580
  let c1_i32_586 : BitVec 32 := 1#32
  let v819 : BitVec 32 := Scalar.subi v804 c1_i32_586
  let v820 : BitVec 32 := Scalar.select v818 v819 v804
  let c2_i32_587 : BitVec 32 := 2#32
  let v821 : BitVec 32 := Scalar.remsi v820 c2_i32_587
  let c0_i32_588 : BitVec 32 := 0#32
  let v822 : BitVec 1 := Scalar.cmpi .eq v821 c0_i32_588
  let v823 : BitVec 32 := Scalar.extui v822
  let c0_i32_591 : BitVec 32 := 0#32
  let v824 : BitVec 1 := Scalar.cmpi .ne v823 c0_i32_591
  v824

def k0_dev29 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_743 : BitVec 32 := 2#32
  let v972 : BitVec 32 := Scalar.xori v2 c2_i32_743
  let c1_i32_744 : BitVec 32 := 1#32
  let v973 : BitVec 32 := Scalar.muli v972 c1_i32_744
  let v974 : BitVec 32 := Scalar.addi c0_i32_745 v973
  v974.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_581 : BitVec 32 := 0#32
  let v805 : BitVec 1 := Scalar.cmpi .sgt v2 c0_i32_581
  let v806 : BitVec 32 := Scalar.extui v805
  let c0_i32_582 : BitVec 32 := 0#32
  let v807 : BitVec 1 := Scalar.cmpi .slt v2 c0_i32_582
  let v808 : BitVec 32 := Scalar.extui v807
  let v809 : BitVec 32 := Scalar.subi v806 v808
  let c2_i32_580 : BitVec 32 := 2#32
  let c0_i32_583 : BitVec 32 := 0#32
  let v810 : BitVec 1 := Scalar.cmpi .sgt c2_i32_580 c0_i32_583
  let v811 : BitVec 32 := Scalar.extui v810
  let c0_i32_584 : BitVec 32 := 0#32
  let v812 : BitVec 1 := Scalar.cmpi .slt c2_i32_580 c0_i32_584
  let v813 : BitVec 32 := Scalar.extui v812
  let v814 : BitVec 32 := Scalar.subi v811 v813
  let v815 : BitVec 1 := Scalar.cmpi .ne v809 v814
  let v816 : BitVec 32 := Scalar.remsi v2 c2_i32_580
  let c0_i32_585 : BitVec 32 := 0#32
  let v817 : BitVec 1 := Scalar.cmpi .ne v816 c0_i32_585
  let v818 : BitVec 1 := Scalar.andi v815 v817
  let v804 : BitVec 32 := Scalar.divsi v2 c2_i32_580
  let c1_i32_586 : BitVec 32 := 1#32
  let v819 : BitVec 32 := Scalar.subi v804 c1_i32_586
  let v820 : BitVec 32 := Scalar.select v818 v819 v804
  let c2_i32_587 : BitVec 32 := 2#32
  let v821 : BitVec 32 := Scalar.remsi v820 c2_i32_587
  let c0_i32_588 : BitVec 32 := 0#32
  let v822 : BitVec 1 := Scalar.cmpi .eq v821 c0_i32_588
  let true_592 : BitVec 1 := 1#1
  let v825 : BitVec 1 := Scalar.xori v822 true_592
  let v826 : BitVec 32 := Scalar.extui v825
  let c0_i32_595 : BitVec 32 := 0#32
  let v827 : BitVec 1 := Scalar.cmpi .ne v826 c0_i32_595
  v827

def k0_dev30 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_743 : BitVec 32 := 2#32
  let v972 : BitVec 32 := Scalar.xori v2 c2_i32_743
  let c1_i32_744 : BitVec 32 := 1#32
  let v973 : BitVec 32 := Scalar.muli v972 c1_i32_744
  let v974 : BitVec 32 := Scalar.addi c0_i32_745 v973
  v974.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_598 : BitVec 32 := 0#32
  let v830 : BitVec 1 := Scalar.cmpi .sgt v2 c0_i32_598
  let v831 : BitVec 32 := Scalar.extui v830
  let c0_i32_599 : BitVec 32 := 0#32
  let v832 : BitVec 1 := Scalar.cmpi .slt v2 c0_i32_599
  let v833 : BitVec 32 := Scalar.extui v832
  let v834 : BitVec 32 := Scalar.subi v831 v833
  let c8_i32_597 : BitVec 32 := 8#32
  let c0_i32_600 : BitVec 32 := 0#32
  let v835 : BitVec 1 := Scalar.cmpi .sgt c8_i32_597 c0_i32_600
  let v836 : BitVec 32 := Scalar.extui v835
  let c0_i32_601 : BitVec 32 := 0#32
  let v837 : BitVec 1 := Scalar.cmpi .slt c8_i32_597 c0_i32_601
  let v838 : BitVec 32 := Scalar.extui v837
  let v839 : BitVec 32 := Scalar.subi v836 v838
  let v840 : BitVec 1 := Scalar.cmpi .ne v834 v839
  let v841 : BitVec 32 := Scalar.remsi v2 c8_i32_597
  let c0_i32_602 : BitVec 32 := 0#32
  let v842 : BitVec 1 := Scalar.cmpi .ne v841 c0_i32_602
  let v843 : BitVec 1 := Scalar.andi v840 v842
  let v829 : BitVec 32 := Scalar.divsi v2 c8_i32_597
  let c1_i32_603 : BitVec 32 := 1#32
  let v844 : BitVec 32 := Scalar.subi v829 c1_i32_603
  let v845 : BitVec 32 := Scalar.select v843 v844 v829
  let c2_i32_604 : BitVec 32 := 2#32
  let v846 : BitVec 32 := Scalar.remsi v845 c2_i32_604
  let c0_i32_605 : BitVec 32 := 0#32
  let v847 : BitVec 1 := Scalar.cmpi .eq v846 c0_i32_605
  let v848 : BitVec 32 := Scalar.extui v847
  let c0_i32_608 : BitVec 32 := 0#32
  let v849 : BitVec 1 := Scalar.cmpi .ne v848 c0_i32_608
  v849

def k0_dev31 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_743 : BitVec 32 := 8#32
  let v972 : BitVec 32 := Scalar.xori v2 c8_i32_743
  let c1_i32_744 : BitVec 32 := 1#32
  let v973 : BitVec 32 := Scalar.muli v972 c1_i32_744
  let v974 : BitVec 32 := Scalar.addi c0_i32_745 v973
  v974.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_598 : BitVec 32 := 0#32
  let v830 : BitVec 1 := Scalar.cmpi .sgt v2 c0_i32_598
  let v831 : BitVec 32 := Scalar.extui v830
  let c0_i32_599 : BitVec 32 := 0#32
  let v832 : BitVec 1 := Scalar.cmpi .slt v2 c0_i32_599
  let v833 : BitVec 32 := Scalar.extui v832
  let v834 : BitVec 32 := Scalar.subi v831 v833
  let c8_i32_597 : BitVec 32 := 8#32
  let c0_i32_600 : BitVec 32 := 0#32
  let v835 : BitVec 1 := Scalar.cmpi .sgt c8_i32_597 c0_i32_600
  let v836 : BitVec 32 := Scalar.extui v835
  let c0_i32_601 : BitVec 32 := 0#32
  let v837 : BitVec 1 := Scalar.cmpi .slt c8_i32_597 c0_i32_601
  let v838 : BitVec 32 := Scalar.extui v837
  let v839 : BitVec 32 := Scalar.subi v836 v838
  let v840 : BitVec 1 := Scalar.cmpi .ne v834 v839
  let v841 : BitVec 32 := Scalar.remsi v2 c8_i32_597
  let c0_i32_602 : BitVec 32 := 0#32
  let v842 : BitVec 1 := Scalar.cmpi .ne v841 c0_i32_602
  let v843 : BitVec 1 := Scalar.andi v840 v842
  let v829 : BitVec 32 := Scalar.divsi v2 c8_i32_597
  let c1_i32_603 : BitVec 32 := 1#32
  let v844 : BitVec 32 := Scalar.subi v829 c1_i32_603
  let v845 : BitVec 32 := Scalar.select v843 v844 v829
  let c2_i32_604 : BitVec 32 := 2#32
  let v846 : BitVec 32 := Scalar.remsi v845 c2_i32_604
  let c0_i32_605 : BitVec 32 := 0#32
  let v847 : BitVec 1 := Scalar.cmpi .eq v846 c0_i32_605
  let true_609 : BitVec 1 := 1#1
  let v850 : BitVec 1 := Scalar.xori v847 true_609
  let v851 : BitVec 32 := Scalar.extui v850
  let c0_i32_612 : BitVec 32 := 0#32
  let v852 : BitVec 1 := Scalar.cmpi .ne v851 c0_i32_612
  v852

def k0_dev32 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_743 : BitVec 32 := 8#32
  let v972 : BitVec 32 := Scalar.xori v2 c8_i32_743
  let c1_i32_744 : BitVec 32 := 1#32
  let v973 : BitVec 32 := Scalar.muli v972 c1_i32_744
  let v974 : BitVec 32 := Scalar.addi c0_i32_745 v973
  v974.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_627 : BitVec 32 := 0#32
  let v865 : BitVec 1 := Scalar.cmpi .sgt v2 c0_i32_627
  let v866 : BitVec 32 := Scalar.extui v865
  let c0_i32_628 : BitVec 32 := 0#32
  let v867 : BitVec 1 := Scalar.cmpi .slt v2 c0_i32_628
  let v868 : BitVec 32 := Scalar.extui v867
  let v869 : BitVec 32 := Scalar.subi v866 v868
  let c1_i32_626 : BitVec 32 := 1#32
  let c0_i32_629 : BitVec 32 := 0#32
  let v870 : BitVec 1 := Scalar.cmpi .sgt c1_i32_626 c0_i32_629
  let v871 : BitVec 32 := Scalar.extui v870
  let c0_i32_630 : BitVec 32 := 0#32
  let v872 : BitVec 1 := Scalar.cmpi .slt c1_i32_626 c0_i32_630
  let v873 : BitVec 32 := Scalar.extui v872
  let v874 : BitVec 32 := Scalar.subi v871 v873
  let v875 : BitVec 1 := Scalar.cmpi .ne v869 v874
  let v876 : BitVec 32 := Scalar.remsi v2 c1_i32_626
  let c0_i32_631 : BitVec 32 := 0#32
  let v877 : BitVec 1 := Scalar.cmpi .ne v876 c0_i32_631
  let v878 : BitVec 1 := Scalar.andi v875 v877
  let v864 : BitVec 32 := Scalar.divsi v2 c1_i32_626
  let c1_i32_632 : BitVec 32 := 1#32
  let v879 : BitVec 32 := Scalar.subi v864 c1_i32_632
  let v880 : BitVec 32 := Scalar.select v878 v879 v864
  let c2_i32_633 : BitVec 32 := 2#32
  let v881 : BitVec 32 := Scalar.remsi v880 c2_i32_633
  let c0_i32_634 : BitVec 32 := 0#32
  let v882 : BitVec 1 := Scalar.cmpi .eq v881 c0_i32_634
  let v883 : BitVec 32 := Scalar.extui v882
  let c0_i32_637 : BitVec 32 := 0#32
  let v884 : BitVec 1 := Scalar.cmpi .ne v883 c0_i32_637
  v884

def k0_dev33 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_744 : BitVec 32 := 1#32
  let v972 : BitVec 32 := Scalar.xori v2 c1_i32_744
  let c1_i32_746 : BitVec 32 := 1#32
  let v973 : BitVec 32 := Scalar.muli v972 c1_i32_746
  let v974 : BitVec 32 := Scalar.addi c0_i32_747 v973
  v974.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_627 : BitVec 32 := 0#32
  let v865 : BitVec 1 := Scalar.cmpi .sgt v2 c0_i32_627
  let v866 : BitVec 32 := Scalar.extui v865
  let c0_i32_628 : BitVec 32 := 0#32
  let v867 : BitVec 1 := Scalar.cmpi .slt v2 c0_i32_628
  let v868 : BitVec 32 := Scalar.extui v867
  let v869 : BitVec 32 := Scalar.subi v866 v868
  let c1_i32_626 : BitVec 32 := 1#32
  let c0_i32_629 : BitVec 32 := 0#32
  let v870 : BitVec 1 := Scalar.cmpi .sgt c1_i32_626 c0_i32_629
  let v871 : BitVec 32 := Scalar.extui v870
  let c0_i32_630 : BitVec 32 := 0#32
  let v872 : BitVec 1 := Scalar.cmpi .slt c1_i32_626 c0_i32_630
  let v873 : BitVec 32 := Scalar.extui v872
  let v874 : BitVec 32 := Scalar.subi v871 v873
  let v875 : BitVec 1 := Scalar.cmpi .ne v869 v874
  let v876 : BitVec 32 := Scalar.remsi v2 c1_i32_626
  let c0_i32_631 : BitVec 32 := 0#32
  let v877 : BitVec 1 := Scalar.cmpi .ne v876 c0_i32_631
  let v878 : BitVec 1 := Scalar.andi v875 v877
  let v864 : BitVec 32 := Scalar.divsi v2 c1_i32_626
  let c1_i32_632 : BitVec 32 := 1#32
  let v879 : BitVec 32 := Scalar.subi v864 c1_i32_632
  let v880 : BitVec 32 := Scalar.select v878 v879 v864
  let c2_i32_633 : BitVec 32 := 2#32
  let v881 : BitVec 32 := Scalar.remsi v880 c2_i32_633
  let c0_i32_634 : BitVec 32 := 0#32
  let v882 : BitVec 1 := Scalar.cmpi .eq v881 c0_i32_634
  let true_638 : BitVec 1 := 1#1
  let v885 : BitVec 1 := Scalar.xori v882 true_638
  let v886 : BitVec 32 := Scalar.extui v885
  let c0_i32_641 : BitVec 32 := 0#32
  let v887 : BitVec 1 := Scalar.cmpi .ne v886 c0_i32_641
  v887

def k0_dev34 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_744 : BitVec 32 := 1#32
  let v972 : BitVec 32 := Scalar.xori v2 c1_i32_744
  let c1_i32_746 : BitVec 32 := 1#32
  let v973 : BitVec 32 := Scalar.muli v972 c1_i32_746
  let v974 : BitVec 32 := Scalar.addi c0_i32_747 v973
  v974.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let v890 : BitVec 1 := Scalar.cmpi .sgt v2 c0_i32_644
  let v891 : BitVec 32 := Scalar.extui v890
  let c0_i32_645 : BitVec 32 := 0#32
  let v892 : BitVec 1 := Scalar.cmpi .slt v2 c0_i32_645
  let v893 : BitVec 32 := Scalar.extui v892
  let v894 : BitVec 32 := Scalar.subi v891 v893
  let c4_i32_643 : BitVec 32 := 4#32
  let c0_i32_646 : BitVec 32 := 0#32
  let v895 : BitVec 1 := Scalar.cmpi .sgt c4_i32_643 c0_i32_646
  let v896 : BitVec 32 := Scalar.extui v895
  let c0_i32_647 : BitVec 32 := 0#32
  let v897 : BitVec 1 := Scalar.cmpi .slt c4_i32_643 c0_i32_647
  let v898 : BitVec 32 := Scalar.extui v897
  let v899 : BitVec 32 := Scalar.subi v896 v898
  let v900 : BitVec 1 := Scalar.cmpi .ne v894 v899
  let v901 : BitVec 32 := Scalar.remsi v2 c4_i32_643
  let c0_i32_648 : BitVec 32 := 0#32
  let v902 : BitVec 1 := Scalar.cmpi .ne v901 c0_i32_648
  let v903 : BitVec 1 := Scalar.andi v900 v902
  let v889 : BitVec 32 := Scalar.divsi v2 c4_i32_643
  let c1_i32_649 : BitVec 32 := 1#32
  let v904 : BitVec 32 := Scalar.subi v889 c1_i32_649
  let v905 : BitVec 32 := Scalar.select v903 v904 v889
  let c2_i32_650 : BitVec 32 := 2#32
  let v906 : BitVec 32 := Scalar.remsi v905 c2_i32_650
  let c0_i32_651 : BitVec 32 := 0#32
  let v907 : BitVec 1 := Scalar.cmpi .eq v906 c0_i32_651
  let v908 : BitVec 32 := Scalar.extui v907
  let c0_i32_654 : BitVec 32 := 0#32
  let v909 : BitVec 1 := Scalar.cmpi .ne v908 c0_i32_654
  v909

def k0_dev35 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_744 : BitVec 32 := 4#32
  let v972 : BitVec 32 := Scalar.xori v2 c4_i32_744
  let c1_i32_746 : BitVec 32 := 1#32
  let v973 : BitVec 32 := Scalar.muli v972 c1_i32_746
  let v974 : BitVec 32 := Scalar.addi c0_i32_747 v973
  v974.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let v890 : BitVec 1 := Scalar.cmpi .sgt v2 c0_i32_644
  let v891 : BitVec 32 := Scalar.extui v890
  let c0_i32_645 : BitVec 32 := 0#32
  let v892 : BitVec 1 := Scalar.cmpi .slt v2 c0_i32_645
  let v893 : BitVec 32 := Scalar.extui v892
  let v894 : BitVec 32 := Scalar.subi v891 v893
  let c4_i32_643 : BitVec 32 := 4#32
  let c0_i32_646 : BitVec 32 := 0#32
  let v895 : BitVec 1 := Scalar.cmpi .sgt c4_i32_643 c0_i32_646
  let v896 : BitVec 32 := Scalar.extui v895
  let c0_i32_647 : BitVec 32 := 0#32
  let v897 : BitVec 1 := Scalar.cmpi .slt c4_i32_643 c0_i32_647
  let v898 : BitVec 32 := Scalar.extui v897
  let v899 : BitVec 32 := Scalar.subi v896 v898
  let v900 : BitVec 1 := Scalar.cmpi .ne v894 v899
  let v901 : BitVec 32 := Scalar.remsi v2 c4_i32_643
  let c0_i32_648 : BitVec 32 := 0#32
  let v902 : BitVec 1 := Scalar.cmpi .ne v901 c0_i32_648
  let v903 : BitVec 1 := Scalar.andi v900 v902
  let v889 : BitVec 32 := Scalar.divsi v2 c4_i32_643
  let c1_i32_649 : BitVec 32 := 1#32
  let v904 : BitVec 32 := Scalar.subi v889 c1_i32_649
  let v905 : BitVec 32 := Scalar.select v903 v904 v889
  let c2_i32_650 : BitVec 32 := 2#32
  let v906 : BitVec 32 := Scalar.remsi v905 c2_i32_650
  let c0_i32_651 : BitVec 32 := 0#32
  let v907 : BitVec 1 := Scalar.cmpi .eq v906 c0_i32_651
  let true_655 : BitVec 1 := 1#1
  let v910 : BitVec 1 := Scalar.xori v907 true_655
  let v911 : BitVec 32 := Scalar.extui v910
  let c0_i32_658 : BitVec 32 := 0#32
  let v912 : BitVec 1 := Scalar.cmpi .ne v911 c0_i32_658
  v912

def k0_dev36 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_744 : BitVec 32 := 4#32
  let v972 : BitVec 32 := Scalar.xori v2 c4_i32_744
  let c1_i32_746 : BitVec 32 := 1#32
  let v973 : BitVec 32 := Scalar.muli v972 c1_i32_746
  let v974 : BitVec 32 := Scalar.addi c0_i32_747 v973
  v974.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x32x64 : Shape := ⟨4, ![2, 128, 32, 64]⟩
abbrev S8192x512 : Shape := ⟨2, ![8192, 512]⟩
abbrev S2x128x8192 : Shape := ⟨3, ![2, 128, 8192]⟩
abbrev S2x128x128x64 : Shape := ⟨4, ![2, 128, 128, 64]⟩
abbrev S2x128x32x4x64 : Shape := ⟨5, ![2, 128, 32, 4, 64]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x32x64, .f32⟩
  | .hbm, ⟨3, _⟩ => ⟨S2x128x32x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S2x128x32x4x64, .f32⟩
  | .hbm, ⟨8, _⟩ => ⟨S2x128x128x64, .f32⟩
  | .hbm, ⟨9, _⟩ => ⟨S2x128x32x4x64, .f32⟩
  | .hbm, ⟨10, _⟩ => ⟨S2x128x128x64, .f32⟩
  | .hbm, ⟨11, _⟩ => ⟨S_, .f32⟩
  | .hbm, ⟨12, _⟩ => ⟨S2x128x128x64, .f32⟩
  | .hbm, ⟨13, _⟩ => ⟨S_, .f32⟩
  | .hbm, ⟨14, _⟩ => ⟨S2x128x128x1, .f32⟩
  | .hbm, ⟨15, _⟩ => ⟨S_, .f32⟩
  | .hbm, ⟨16, _⟩ => ⟨S2x128x128x1, .f32⟩
  | .hbm, ⟨17, _⟩ => ⟨S2x128x128x128, .f32⟩
  | .hbm, ⟨18, _⟩ => ⟨S_, .f32⟩
  | .hbm, ⟨19, _⟩ => ⟨S2x128x128x128, .f32⟩
  | .hbm, ⟨20, _⟩ => ⟨S2x128x128x128, .f32⟩
  | .hbm, ⟨21, _⟩ => ⟨S_, .f32⟩
  | .hbm, ⟨22, _⟩ => ⟨S2x128x128, .f32⟩
  | .hbm, ⟨23, _⟩ => ⟨S2x128x128x1, .f32⟩
  | .hbm, ⟨24, _⟩ => ⟨S2x128x128x1, .f32⟩
  | .hbm, ⟨25, _⟩ => ⟨S2x128x128x1, .f32⟩
  | .hbm, ⟨26, _⟩ => ⟨S2x128x128x1, .f32⟩
  | .hbm, ⟨27, _⟩ => ⟨S2x128x128x128, .f32⟩
  | .hbm, ⟨28, _⟩ => ⟨S2x128x128x128, .f32⟩
  | .hbm, ⟨29, _⟩ => ⟨S2x128x128x128, .f32⟩
  | .hbm, ⟨30, _⟩ => ⟨S2x128x128x1, .f32⟩
  | .hbm, ⟨31, _⟩ => ⟨S_, .f32⟩
  | .hbm, ⟨32, _⟩ => ⟨S2x128x128, .f32⟩
  | .hbm, ⟨33, _⟩ => ⟨S2x128x128x1, .f32⟩
  | .hbm, ⟨34, _⟩ => ⟨S2x128x128x1, .f32⟩
  | .hbm, ⟨35, _⟩ => ⟨S2x128x128x1, .f32⟩
  | .hbm, ⟨36, _⟩ => ⟨S2x128x128x64, .f32⟩
  | .hbm, ⟨37, _⟩ => ⟨S2x128x128x64, .f32⟩
  | .hbm, ⟨38, _⟩ => ⟨S2x128x64x128, .f32⟩
  | .hbm, ⟨39, _⟩ => ⟨S2x128x128x64, .f32⟩
  | .hbm, ⟨40, _⟩ => ⟨S2x128x128x64, .f32⟩
  | .hbm, ⟨41, _⟩ => ⟨S2x128x128x1, .f32⟩
  | .hbm, ⟨42, _⟩ => ⟨S2x128x128x64, .f32⟩
  | .hbm, ⟨43, _⟩ => ⟨S2x128x128x64, .f32⟩
  | .hbm, ⟨44, _⟩ => ⟨S2x128x8192, .f32⟩
  | .hbm, ⟨45, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Own.lean ====
/-
# Loads, stores, shares, halves and remote copies in terms of `owns`

`owns c m q X` says that core `c` holds the elements the memref `m` places, at share `q`, and reads `X` through it.
Everything the kernel does to its buffers is stated here in that vocabulary: a load answers the part of `X` its
rectangle names; a store through a rectangle replaces what the slice at that rectangle reads; a buffer is the two
slices at two complementary rectangles; a share splits in two and joins again; a remote copy takes the source at any
share and the destination outright and hands both payloads on, the destination reading what the source reads.
-/
module

public import Idealize.ShloMosaic.Lib.Memref
public import Idealize.ShloMosaic.Lib.Rounds
public import Idealize.ShloMosaic.Lib.Pipeline.Value
public import Idealize.ShloMosaic.Lib.Tactic

@[expose] public section

noncomputable section

namespace Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {s : Shape} {e : EltTy} (m : Memref sig c.2.kind sp s e) (q : PosShare TreeShare)

/-! ## Two halves -/

section Halves

variable (r₀ r₁ : Rect s) (h₀ : ∀ a, r₀.stride a = 1) (h₁ : ∀ a, r₁.stride a = 1)
  (hd : Disjoint r₀.set r₁.set) (hc : r₀.set ∪ r₁.set = Finset.univ)
include hd hc

theorem set_diff : m.view.set \ (m.slice r₀ h₀).view.set = (m.slice r₁ h₁).view.set := by
  show Finset.univ.map m.view.emb \ (m.view.slice r₀).set = (m.view.slice r₁).set
  rw [View.set_slice, View.set_slice, ← Finset.map_sdiff]
  congr 1
  ext x
  have hx : x ∈ r₀.set ∪ r₁.set := hc ▸ Finset.mem_univ x
  simp only [Finset.mem_sdiff, Finset.mem_univ, true_and]
  constructor
  · intro h; exact (Finset.mem_union.mp hx).resolve_left h
  · intro h h'; exact Finset.disjoint_left.mp hd h' h

/-- A memref owned is its two complementary slices owned. -/
theorem split (X : s.Idx → Val e) :
    (owns c m q X : sProp 𝕄)
      ⊢ iprop(owns c (m.slice r₀ h₀) q (fun i => X (r₀.emb i)) ∗ owns c (m.slice r₁ h₁) q (fun i => X (r₁.emb i))) := by
  iintro H
  ihave H' := (owns_slice_split c m q r₀ h₀ X) $$ H
  icases H' with ⟨H0, %f, %hf, H1⟩
  isplitl [H0]; · iexact H0
  rw [set_diff c m r₀ r₁ h₀ h₁ hd hc]
  subst hf
  iapply (owns_intro c (m.slice r₁ h₁) q f); iexact H1

/-- Two complementary slices owned are the memref owned, at any function that reads as they do on each. -/
theorem join (X : s.Idx → Val e) (X₀ : r₀.shape.Idx → Val e) (X₁ : r₁.shape.Idx → Val e)
    (e₀ : ∀ i, X (r₀.emb i) = X₀ i) (e₁ : ∀ i, X (r₁.emb i) = X₁ i) :
    iprop(owns c (m.slice r₀ h₀) q X₀ ∗ owns c (m.slice r₁ h₁) q X₁) ⊢ (owns c m q X : sProp 𝕄) := by
  iintro ⟨H0, H1⟩
  ihave H1' := (show owns c (m.slice r₁ h₁) q X₁ ⊢ iprop(∃ g, ⌜(m.slice r₁ h₁).view.read Val g = X₁⌝
    ∗ (m.slice r₁ h₁).view.loc c ↦[(m.slice r₁ h₁).view.set]{q} g) from .rfl) $$ H1
  icases H1' with ⟨%g, %hg, H1⟩
  have hX : r₀.overlay (m.view.read Val g) X₀ = X := by
    funext x
    by_cases hx : x ∈ r₀.set
    · obtain ⟨i, rfl⟩ := r₀.exists_idx_of_mem hx
      exact (Rect.overlay_emb r₀ _ X₀ i).trans (e₀ i).symm
    · rw [Rect.overlay_of_not_mem _ _ _ hx]
      have hx1 : x ∈ r₁.set := (Finset.mem_union.mp (hc ▸ Finset.mem_univ x)).resolve_left hx
      obtain ⟨i, rfl⟩ := r₁.exists_idx_of_mem hx1
      exact (congrFun hg i).trans (e₁ i).symm
  rw [← hX]
  iapply (owns_slice_join c m q r₀ h₀ X₀ g)
  isplitl [H0]; · iexact H0
  rw [set_diff c m r₀ r₁ h₀ h₁ hd hc]
  iexact H1

end Halves

/-! ## Shares -/

/-- A memref owned is the same memref owned at the two halves of the share. -/
theorem share (X : s.Idx → Val e) : (owns c m q X : sProp 𝕄) ⊢ iprop(owns c m q.left X ∗ owns c m q.right X) := by
  iintro H
  ihave H' := (show owns c m q X ⊢ iprop(∃ g, ⌜m.view.read Val g = X⌝ ∗ m.view.loc c ↦[m.view.set]{q} g) from .rfl) $$ H
  icases H' with ⟨%g, %hg, H⟩
  subst hg
  ihave H' := (pointsTo_share (PosShare.mem_left_op_right q)).1 $$ H
  icases H' with ⟨Hl, Hr⟩
  isplitl [Hl]
  · iapply (owns_intro c m q.left g); iexact Hl
  · iapply (owns_intro c m q.right g); iexact Hr

/-- The two halves of a share join. -/
theorem unshare (X : s.Idx → Val e) : iprop(owns c m q.left X ∗ owns c m q.right X) ⊢ (owns c m q X : sProp 𝕄) := by
  iintro ⟨Hl, Hr⟩
  ihave Hl' := (show owns c m q.left X ⊢ iprop(∃ g, ⌜m.view.read Val g = X⌝ ∗ m.view.loc c ↦[m.view.set]{q.left} g) from .rfl) $$ Hl
  icases Hl' with ⟨%g, %hg, Hl⟩
  ihave Hr' := (show owns c m q.right X ⊢ iprop(∃ g, ⌜m.view.read Val g = X⌝ ∗ m.view.loc c ↦[m.view.set]{q.right} g) from .rfl) $$ Hr
  icases Hr' with ⟨%g', %hg', Hr⟩
  have he : (m.view.loc c ↦[m.view.set]{q.right} g' : sProp 𝕄) = m.view.loc c ↦[m.view.set]{q.right} g :=
    pointsTo_congr fun i hi => by
      rw [View.set, Finset.mem_map] at hi
      obtain ⟨x, -, rfl⟩ := hi
      have := congrFun (hg'.trans hg.symm) x
      simp only [View.read] at this
      exact (cast_inj _).mp this
  subst hg
  have hj : iprop((m.view.loc c ↦[m.view.set]{q.left} g) ∗ (m.view.loc c ↦[m.view.set]{q.right} g')) ⊢ (owns c m q (m.view.read Val g) : sProp 𝕄) :=
    (Entails.of_eq (congrArg _ he)).trans ((pointsTo_share (PosShare.mem_left_op_right q)).2.trans (owns_intro c m q g))
  iapply hj
  isplitl [Hl] <;> iassumption

/-! ## Slices that are everything -/

/-- The slice at offset zero of the memref's own size is the memref. -/
theorem slice_zero {off : Fin s.rank → Nat} (h : off = fun _ => 0) (inb : ∀ a, off a + s.size a ≤ s.size a)
    (hr : ∀ a, (Rect.unit off s.size inb).stride a = 1) (X : s.Idx → Val e) :
    (owns c (m.slice (Rect.unit off s.size inb) hr) q X : sProp 𝕄) = owns c m q X := by
  subst h
  have hemb : ∀ i : s.Idx, (Rect.unit (s := s) (fun _ => 0) s.size inb).emb i = i := fun i => Rect.emb_whole_apply s i
  have hset : (m.view.slice (Rect.unit (fun _ => 0) s.size inb)).set = m.view.set := by
    rw [View.set_slice]
    show Finset.map _ _ = Finset.map _ _
    congr 1
    exact Finset.eq_univ_iff_forall.mpr fun i => by
      have := Rect.map_emb_univ (Rect.unit (s := s) (fun _ => 0) s.size inb)
      rw [← this]
      exact Finset.mem_map.mpr ⟨i, Finset.mem_univ _, hemb i⟩
  unfold owns
  show iprop(∃ f, ⌜(m.view.slice (Rect.unit (fun _ => 0) s.size inb)).read Val f = X⌝
    ∗ (m.view.loc c ↦[(m.view.slice (Rect.unit (fun _ => 0) s.size inb)).set]{q} f)) = _
  rw [hset]
  congr 1
  funext f
  congr 2
  refine propext ⟨fun h => ?_, fun h => ?_⟩
  · rw [← h]; funext i; exact congrArg (m.view.read Val f) (hemb i).symm
  · rw [← h]; funext i; exact congrArg (m.view.read Val f) (hemb i)

/-! ## A unit axis dropped -/

/-- A memref squeezed reads the contents re-indexed. -/
theorem squeeze {s' : Shape} (h : s.Squeezes s') (X : s'.Idx → Val e) (hc : s'.ShapeCasts s) :
    (owns c (m.squeeze s' h) q X : sProp 𝕄) = owns c m q (shapeCast s X hc) := by
  unfold owns
  show iprop(∃ f, ⌜(m.view.reshape s' h.numel_eq).read Val f = X⌝
    ∗ (m.view.loc c ↦[(m.view.reshape s' h.numel_eq).set]{q} f)) = _
  rw [View.set_reshape]
  congr 1
  funext f
  congr 2
  have hr : ∀ f, (m.view.reshape s' h.numel_eq).read Val f = shapeCast s' (m.view.read Val f) h.numel_eq := fun f => rfl
  rw [hr]
  refine propext ⟨fun h => ?_, fun h => ?_⟩
  · rw [← h, shapeCast_shapeCast]
  · rw [h, shapeCast_shapeCast]

/-! ## Loads and stores -/

section Ops

variable [Preorder Lvl]
variable {Λ : Labels} {defs : Defs nD τ sig Val Λ} (𝒱 : Variants) (bd : Option 𝒱.V) {Γ : PendingWaitsCtx sig Ix} (E : Set Name)
variable {α : Type} {Q : α → sProp (MT nD τ sig Ix Val Name U Lvl)}

/-- A load through a rectangle answers what the memref reads there. -/
theorem wp_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (fun i => X (r.emb i))) Q)
        -∗ wp frame (wpE' defs 𝒱 c bd Γ) E (.op (.load m r.toLoadRect hl) k) Q) := by
  iintro H Hk
  ihave H' := (show owns c m q X ⊢ iprop(∃ g, ⌜m.view.read Val g = X⌝ ∗ m.view.loc c ↦[m.view.set]{q} g) from .rfl) $$ H
  icases H' with ⟨%g, %hg, H⟩
  subst hg
  iapply (wp_load_rect 𝒱 c bd E (m := m) (r := r) (S := m.view.set) (q := q) (f := g) (View.set_slice_subset _ _)) $$ [H]
  · iexact H
  iintro H
  iapply Hk
  iapply (show (m.view.loc c ↦[m.view.set]{q} g : sProp 𝕄) ⊢ owns c m q (m.view.read Val g) from owns_intro c m q g)
  iexact H

/-- A load through a rectangle, holding the slice there alone. -/
theorem wp_load_slice {cs : CoreSpace} {m : Memref sig c.2.kind cs s e} {r : Rect s} {hl : m.view.LoadsAt r.toLoadRect} {hr : ∀ a, r.stride a = 1}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  iintro H Hk
  ihave H' := (show owns c (m.slice r hr) q X ⊢ iprop(∃ g, ⌜(m.slice r hr).view.read Val g = X⌝
    ∗ (m.slice r hr).view.loc c ↦[(m.slice r hr).view.set]{q} g) from .rfl) $$ H
  icases H' with ⟨%g, %hg, H⟩
  subst hg
  iapply (wp_load_rect 𝒱 c bd E (m := m) (r := r) (S := (m.access r).set) (q := q) (f := g) (Finset.Subset.refl _)) $$ [H]
  · iexact H
  iintro H
  iapply Hk
  iapply (show ((m.slice r hr).view.loc c ↦[(m.slice r hr).view.set]{q} g : sProp 𝕄)
    ⊢ owns c (m.slice r hr) q ((m.slice r hr).view.read Val g) from owns_intro c (m.slice r hr) q g)
  iexact H

/-- A store through a rectangle, holding the slice there: it reads what was stored. -/
theorem wp_store_slice {cs : CoreSpace} {m : Memref sig c.2.kind cs s e} {r : Rect s} {w : r.shape.Idx → Val e}
    {hx : (m.access r).Stores Finset.univ} {hm : Finset.univ = Finset.univ ∨ ∀ a, r.stride a = 1} {hr : ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  iintro H Hk
  ihave H' := (show owns c (m.slice r hr) fullShare X ⊢ iprop(∃ g, ⌜(m.slice r hr).view.read Val g = X⌝
    ∗ (m.slice r hr).view.loc c ↦[(m.slice r hr).view.set]{fullShare} g) from .rfl) $$ H
  icases H' with ⟨%g, -, H⟩
  iapply (Idealize.ShloMosaic.wp_store 𝒱 c bd E (m := m) (r := r) (w := w) (Mk := Finset.univ) (hx := hx) (hm := hm) (S := (m.access r).set) (f := g) (Finset.Subset.refl _)) $$ [H]
  · iexact H
  iintro H
  iapply Hk
  have hw : (m.slice r hr).view.read Val ((m.access r).write Val g w Finset.univ) = w := View.read_write_univ _ _
  iapply (show ((m.slice r hr).view.loc c ↦[(m.slice r hr).view.set]{fullShare} ((m.access r).write Val g w Finset.univ) : sProp 𝕄)
    ⊢ owns c (m.slice r hr) fullShare w from (owns_intro c (m.slice r hr) fullShare _).trans (Entails.of_eq (congrArg _ hw)))
  iexact H

/-- A load of the whole memref. -/
theorem wp_load_whole {cs : CoreSpace} {m : Memref sig c.2.kind cs s e} {off : Fin s.rank → Nat} (h : off = fun _ => 0)
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit off s.size inb).toLoadRect hl) k) Q) := by
  have := wp_load_slice (defs := defs) (Name := Name) (Ix := Ix) (U := U) (Lvl := Lvl) (Γ := Γ) (Q := Q) c 𝒱 bd E (m := m) (r := Rect.unit off s.size inb) (hl := hl) (hr := fun _ => rfl) (k := k) (q := q) (X := X)
  rw [slice_zero c m q h inb] at this
  exact this

/-- A store over the whole memref: it reads what was stored. -/
theorem wp_store_whole {cs : CoreSpace} {m : Memref sig c.2.kind cs s e} {off : Fin s.rank → Nat} (h : off = fun _ => 0)
    {inb : ∀ a, off a + s.size a ≤ s.size a} {w : s.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  have := wp_store_slice (defs := defs) (Name := Name) (Ix := Ix) (U := U) (Lvl := Lvl) (Γ := Γ) (Q := Q) c 𝒱 bd E (m := m) (r := Rect.unit off s.size inb) (w := w) (hx := hx) (hm := hm) (hr := fun _ => rfl) (k := k) (X := X)
  rw [slice_zero c m fullShare h inb, slice_zero c m fullShare h inb] at this
  exact this

end Ops

end Cert.Own

end
-- ==== Proof.KernelIdealDevs.lean ====
/-
# Which device talks to which

The sixteen devices are the corners of a four-dimensional cube: device `c`'s four binary digits are its coordinates,
and `peer i c` is the corner across edge `i`. The kernel computes the peers and its own digits by integer arithmetic on
its device word; this module gives each of those computations its closed form, checked over the sixteen devices.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic

/-- Binary digit `i` of a device's number. -/
def bit (i : Fin 4) (c : Dev nD) : Bool := c.val.testBit i.val

/-- The device whose number differs in digit `i` alone. -/
def peer (i : Fin 4) (c : Dev nD) : Dev nD :=
  ⟨c.val ^^^ 2 ^ i.val, by
    have hi : 2 ^ i.val < 2 ^ 4 := Nat.pow_lt_pow_right (by decide) i.isLt
    exact Nat.xor_lt_two_pow (n := 4) c.isLt hi⟩

theorem peer_peer (i : Fin 4) (c : Dev nD) : peer i (peer i c) = c := by revert i c; decide +kernel
theorem peer_ne (i : Fin 4) (c : Dev nD) : peer i c ≠ c := by revert i c; decide +kernel
theorem bit_peer (i : Fin 4) (c : Dev nD) : bit i (peer i c) = !bit i c := by revert i c; decide +kernel
theorem bit_peer_ne (i j : Fin 4) (h : i ≠ j) (c : Dev nD) : bit j (peer i c) = bit j c := by revert i j c; decide +kernel

/-- Crossing edge `i`, as a permutation of the devices. -/
def swap (i : Fin 4) : Dev nD ≃ Dev nD := ⟨peer i, peer i, peer_peer i, peer_peer i⟩

/-- The device's own word, as the kernel computes it. -/
def word (c : Dev nD) : BitVec 32 := Scalar.remsi (Scalar.divsi (Dev.word c) 1#32) 16#32

/-- The truth value the kernel selects on: digit `i` is zero. -/
def isLow (b : Bool) : BitVec 1 := if b then 0#1 else 1#1

/-! ## The four barrier signals -/

theorem dev1_eq (c : Dev nD) : (⟨k0_dev1 c, k0_dev1_lt c⟩ : Dev nD) = peer 0 c := by
  apply Fin.ext; revert c; decide +kernel
theorem dev2_eq (c : Dev nD) : (⟨k0_dev2 c, k0_dev2_lt c⟩ : Dev nD) = peer 1 c := by
  apply Fin.ext; revert c; decide +kernel
theorem dev3_eq (c : Dev nD) : (⟨k0_dev3 c, k0_dev3_lt c⟩ : Dev nD) = peer 2 c := by
  apply Fin.ext; revert c; decide +kernel
theorem dev4_eq (c : Dev nD) : (⟨k0_dev4 c, k0_dev4_lt c⟩ : Dev nD) = peer 3 c := by
  apply Fin.ext; revert c; decide +kernel

/-! ## The transfers: each is written twice, once for either value of the digit -/

theorem cond1_iff (c : Dev nD) : k0_cond1 c = 1#1 ↔ bit 0 c = false := by revert c; decide +kernel
theorem dev5_eq (c : Dev nD) (h : k0_cond1 c = 1#1) : (⟨k0_dev5 c, k0_dev5_lt c h⟩ : Dev nD) = peer 0 c := by
  apply Fin.ext; revert c; decide +kernel
theorem cond2_iff (c : Dev nD) : k0_cond2 c = 1#1 ↔ bit 0 c = true := by revert c; decide +kernel
theorem dev6_eq (c : Dev nD) (h : k0_cond2 c = 1#1) : (⟨k0_dev6 c, k0_dev6_lt c h⟩ : Dev nD) = peer 0 c := by
  apply Fin.ext; revert c; decide +kernel
theorem cond3_iff (c : Dev nD) : k0_cond3 c = 1#1 ↔ bit 2 c = false := by revert c; decide +kernel
theorem dev7_eq (c : Dev nD) (h : k0_cond3 c = 1#1) : (⟨k0_dev7 c, k0_dev7_lt c h⟩ : Dev nD) = peer 2 c := by
  apply Fin.ext; revert c; decide +kernel
theorem cond4_iff (c : Dev nD) : k0_cond4 c = 1#1 ↔ bit 2 c = true := by revert c; decide +kernel
theorem dev8_eq (c : Dev nD) (h : k0_cond4 c = 1#1) : (⟨k0_dev8 c, k0_dev8_lt c h⟩ : Dev nD) = peer 2 c := by
  apply Fin.ext; revert c; decide +kernel
theorem cond5_iff (c : Dev nD) : k0_cond5 c = 1#1 ↔ bit 1 c = false := by revert c; decide +kernel
theorem dev9_eq (c : Dev nD) (h : k0_cond5 c = 1#1) : (⟨k0_dev9 c, k0_dev9_lt c h⟩ : Dev nD) = peer 1 c := by
  apply Fin.ext; revert c; decide +kernel
theorem cond6_iff (c : Dev nD) : k0_cond6 c = 1#1 ↔ bit 1 c = true := by revert c; decide +kernel
theorem dev10_eq (c : Dev nD) (h : k0_cond6 c = 1#1) : (⟨k0_dev10 c, k0_dev10_lt c h⟩ : Dev nD) = peer 1 c := by
  apply Fin.ext; revert c; decide +kernel
theorem cond7_iff (c : Dev nD) : k0_cond7 c = 1#1 ↔ bit 3 c = false := by revert c; decide +kernel
theorem dev11_eq (c : Dev nD) (h : k0_cond7 c = 1#1) : (⟨k0_dev11 c, k0_dev11_lt c h⟩ : Dev nD) = peer 3 c := by
  apply Fin.ext; revert c; decide +kernel
theorem cond8_iff (c : Dev nD) : k0_cond8 c = 1#1 ↔ bit 3 c = true := by revert c; decide +kernel
theorem dev12_eq (c : Dev nD) (h : k0_cond8 c = 1#1) : (⟨k0_dev12 c, k0_dev12_lt c h⟩ : Dev nD) = peer 3 c := by
  apply Fin.ext; revert c; decide +kernel
theorem cond9_iff (c : Dev nD) : k0_cond9 c = 1#1 ↔ bit 2 c = false := by revert c; decide +kernel
theorem dev13_eq (c : Dev nD) (h : k0_cond9 c = 1#1) : (⟨k0_dev13 c, k0_dev13_lt c h⟩ : Dev nD) = peer 2 c := by
  apply Fin.ext; revert c; decide +kernel
theorem cond10_iff (c : Dev nD) : k0_cond10 c = 1#1 ↔ bit 2 c = true := by revert c; decide +kernel
theorem dev14_eq (c : Dev nD) (h : k0_cond10 c = 1#1) : (⟨k0_dev14 c, k0_dev14_lt c h⟩ : Dev nD) = peer 2 c := by
  apply Fin.ext; revert c; decide +kernel
theorem cond11_iff (c : Dev nD) : k0_cond11 c = 1#1 ↔ bit 0 c = false := by revert c; decide +kernel
theorem dev15_eq (c : Dev nD) (h : k0_cond11 c = 1#1) : (⟨k0_dev15 c, k0_dev15_lt c h⟩ : Dev nD) = peer 0 c := by
  apply Fin.ext; revert c; decide +kernel
theorem cond12_iff (c : Dev nD) : k0_cond12 c = 1#1 ↔ bit 0 c = true := by revert c; decide +kernel
theorem dev16_eq (c : Dev nD) (h : k0_cond12 c = 1#1) : (⟨k0_dev16 c, k0_dev16_lt c h⟩ : Dev nD) = peer 0 c := by
  apply Fin.ext; revert c; decide +kernel
theorem cond13_iff (c : Dev nD) : k0_cond13 c = 1#1 ↔ bit 3 c = false := by revert c; decide +kernel
theorem dev17_eq (c : Dev nD) (h : k0_cond13 c = 1#1) : (⟨k0_dev17 c, k0_dev17_lt c h⟩ : Dev nD) = peer 3 c := by
  apply Fin.ext; revert c; decide +kernel
theorem cond14_iff (c : Dev nD) : k0_cond14 c = 1#1 ↔ bit 3 c = true := by revert c; decide +kernel
theorem dev18_eq (c : Dev nD) (h : k0_cond14 c = 1#1) : (⟨k0_dev18 c, k0_dev18_lt c h⟩ : Dev nD) = peer 3 c := by
  apply Fin.ext; revert c; decide +kernel
theorem cond15_iff (c : Dev nD) : k0_cond15 c = 1#1 ↔ bit 1 c = false := by revert c; decide +kernel
theorem dev19_eq (c : Dev nD) (h : k0_cond15 c = 1#1) : (⟨k0_dev19 c, k0_dev19_lt c h⟩ : Dev nD) = peer 1 c := by
  apply Fin.ext; revert c; decide +kernel
theorem cond16_iff (c : Dev nD) : k0_cond16 c = 1#1 ↔ bit 1 c = true := by revert c; decide +kernel
theorem dev20_eq (c : Dev nD) (h : k0_cond16 c = 1#1) : (⟨k0_dev20 c, k0_dev20_lt c h⟩ : Dev nD) = peer 1 c := by
  apply Fin.ext; revert c; decide +kernel
theorem cond17_iff (c : Dev nD) : k0_cond17 c = 1#1 ↔ bit 3 c = false := by revert c; decide +kernel
theorem dev21_eq (c : Dev nD) (h : k0_cond17 c = 1#1) : (⟨k0_dev21 c, k0_dev21_lt c h⟩ : Dev nD) = peer 3 c := by
  apply Fin.ext; revert c; decide +kernel
theorem cond18_iff (c : Dev nD) : k0_cond18 c = 1#1 ↔ bit 3 c = true := by revert c; decide +kernel
theorem dev22_eq (c : Dev nD) (h : k0_cond18 c = 1#1) : (⟨k0_dev22 c, k0_dev22_lt c h⟩ : Dev nD) = peer 3 c := by
  apply Fin.ext; revert c; decide +kernel
theorem cond19_iff (c : Dev nD) : k0_cond19 c = 1#1 ↔ bit 1 c = false := by revert c; decide +kernel
theorem dev23_eq (c : Dev nD) (h : k0_cond19 c = 1#1) : (⟨k0_dev23 c, k0_dev23_lt c h⟩ : Dev nD) = peer 1 c := by
  apply Fin.ext; revert c; decide +kernel
theorem cond20_iff (c : Dev nD) : k0_cond20 c = 1#1 ↔ bit 1 c = true := by revert c; decide +kernel
theorem dev24_eq (c : Dev nD) (h : k0_cond20 c = 1#1) : (⟨k0_dev24 c, k0_dev24_lt c h⟩ : Dev nD) = peer 1 c := by
  apply Fin.ext; revert c; decide +kernel
theorem cond21_iff (c : Dev nD) : k0_cond21 c = 1#1 ↔ bit 2 c = false := by revert c; decide +kernel
theorem dev25_eq (c : Dev nD) (h : k0_cond21 c = 1#1) : (⟨k0_dev25 c, k0_dev25_lt c h⟩ : Dev nD) = peer 2 c := by
  apply Fin.ext; revert c; decide +kernel
theorem cond22_iff (c : Dev nD) : k0_cond22 c = 1#1 ↔ bit 2 c = true := by revert c; decide +kernel
theorem dev26_eq (c : Dev nD) (h : k0_cond22 c = 1#1) : (⟨k0_dev26 c, k0_dev26_lt c h⟩ : Dev nD) = peer 2 c := by
  apply Fin.ext; revert c; decide +kernel
theorem cond23_iff (c : Dev nD) : k0_cond23 c = 1#1 ↔ bit 0 c = false := by revert c; decide +kernel
theorem dev27_eq (c : Dev nD) (h : k0_cond23 c = 1#1) : (⟨k0_dev27 c, k0_dev27_lt c h⟩ : Dev nD) = peer 0 c := by
  apply Fin.ext; revert c; decide +kernel
theorem cond24_iff (c : Dev nD) : k0_cond24 c = 1#1 ↔ bit 0 c = true := by revert c; decide +kernel
theorem dev28_eq (c : Dev nD) (h : k0_cond24 c = 1#1) : (⟨k0_dev28 c, k0_dev28_lt c h⟩ : Dev nD) = peer 0 c := by
  apply Fin.ext; revert c; decide +kernel
theorem cond25_iff (c : Dev nD) : k0_cond25 c = 1#1 ↔ bit 1 c = false := by revert c; decide +kernel
theorem dev29_eq (c : Dev nD) (h : k0_cond25 c = 1#1) : (⟨k0_dev29 c, k0_dev29_lt c h⟩ : Dev nD) = peer 1 c := by
  apply Fin.ext; revert c; decide +kernel
theorem cond26_iff (c : Dev nD) : k0_cond26 c = 1#1 ↔ bit 1 c = true := by revert c; decide +kernel
theorem dev30_eq (c : Dev nD) (h : k0_cond26 c = 1#1) : (⟨k0_dev30 c, k0_dev30_lt c h⟩ : Dev nD) = peer 1 c := by
  apply Fin.ext; revert c; decide +kernel
theorem cond27_iff (c : Dev nD) : k0_cond27 c = 1#1 ↔ bit 3 c = false := by revert c; decide +kernel
theorem dev31_eq (c : Dev nD) (h : k0_cond27 c = 1#1) : (⟨k0_dev31 c, k0_dev31_lt c h⟩ : Dev nD) = peer 3 c := by
  apply Fin.ext; revert c; decide +kernel
theorem cond28_iff (c : Dev nD) : k0_cond28 c = 1#1 ↔ bit 3 c = true := by revert c; decide +kernel
theorem dev32_eq (c : Dev nD) (h : k0_cond28 c = 1#1) : (⟨k0_dev32 c, k0_dev32_lt c h⟩ : Dev nD) = peer 3 c := by
  apply Fin.ext; revert c; decide +kernel
theorem cond29_iff (c : Dev nD) : k0_cond29 c = 1#1 ↔ bit 0 c = false := by revert c; decide +kernel
theorem dev33_eq (c : Dev nD) (h : k0_cond29 c = 1#1) : (⟨k0_dev33 c, k0_dev33_lt c h⟩ : Dev nD) = peer 0 c := by
  apply Fin.ext; revert c; decide +kernel
theorem cond30_iff (c : Dev nD) : k0_cond30 c = 1#1 ↔ bit 0 c = true := by revert c; decide +kernel
theorem dev34_eq (c : Dev nD) (h : k0_cond30 c = 1#1) : (⟨k0_dev34 c, k0_dev34_lt c h⟩ : Dev nD) = peer 0 c := by
  apply Fin.ext; revert c; decide +kernel
theorem cond31_iff (c : Dev nD) : k0_cond31 c = 1#1 ↔ bit 2 c = false := by revert c; decide +kernel
theorem dev35_eq (c : Dev nD) (h : k0_cond31 c = 1#1) : (⟨k0_dev35 c, k0_dev35_lt c h⟩ : Dev nD) = peer 2 c := by
  apply Fin.ext; revert c; decide +kernel
theorem cond32_iff (c : Dev nD) : k0_cond32 c = 1#1 ↔ bit 2 c = true := by revert c; decide +kernel
theorem dev36_eq (c : Dev nD) (h : k0_cond32 c = 1#1) : (⟨k0_dev36 c, k0_dev36_lt c h⟩ : Dev nD) = peer 2 c := by
  apply Fin.ext; revert c; decide +kernel

end Cert.KernelIdealProof

end
-- ==== Proof.KernelIdealData.lean ====
/-
# The buffers, what they hold, and the sixteen exchanges

Two independent streams (columns 0–255 and 256–511 of the output) run the same algorithm along different orders of the
cube's edges. Each stream first REDUCES in four steps: a device keeps the half of its block named by its digit, sends
the other half across the edge, and adds what it receives; the block shrinks from 256 to 16 rows. It then GATHERS in
four steps: a device sends its whole block across the edge and puts its own and its peer's blocks together, each in the
half the owner's digit names; the block grows back to 256 rows, the last step into the output itself.

The contents are functions of `P s c`, the 256 × 256 partial product of device `c` in stream `s`.
-/
module

public import proofs.«01_k».proof.Proof.KernelIdealDevs
public import Idealize.ShloMosaic.Lib.Memref
public import Idealize.ShloMosaic.Lib.Tactic

@[expose] public section

noncomputable section

namespace Cert.KernelIdealProof

open Cert.KernelIdeal Cert.KernelIdeal.Gen
open Idealize.ShloMosaic
open Idealize.ShloMosaic.TcCoe

variable {F : FTy → Type} [FloatOps F]

/-! ## Halves -/

/-- The two halves of the rows of a block of 256, 128, 64 and 32 rows. -/
abbrev h256 (b : Bool) : Rect S256x256 := Rect.unit (s := S256x256) ![bif b then 128 else 0, 0] S128x256.size
  (match b with | false => inb_S256x256_S128x256_0_0 | true => inb_S256x256_S128x256_128_0)
abbrev h128 (b : Bool) : Rect S128x256 := Rect.unit (s := S128x256) ![bif b then 64 else 0, 0] S64x256.size
  (match b with | false => inb_S128x256_S64x256_0_0 | true => inb_S128x256_S64x256_64_0)
abbrev h64 (b : Bool) : Rect S64x256 := Rect.unit (s := S64x256) ![bif b then 32 else 0, 0] S32x256.size
  (match b with | false => inb_S64x256_S32x256_0_0 | true => inb_S64x256_S32x256_32_0)
abbrev h32 (b : Bool) : Rect S32x256 := Rect.unit (s := S32x256) ![bif b then 16 else 0, 0] S16x256.size
  (match b with | false => inb_S32x256_S16x256_0_0 | true => inb_S32x256_S16x256_16_0)

/-- Two rectangles that are complementary. -/
structure Halves {s : Shape} (r : Bool → Rect s) : Prop where
  disj : Disjoint (r false).set (r true).set
  cover : (r false).set ∪ (r true).set = Finset.univ

theorem halves256 : Halves h256 where
  disj := Finset.disjoint_left.mpr fun i h h' => by
    rw [Rect.mem_set_unit] at h h'
    have := h 0; have := h' 0; simp [S128x256] at *; omega
  cover := Finset.eq_univ_iff_forall.mpr fun i => by
    rw [Finset.mem_union, Rect.mem_set_unit, Rect.mem_set_unit, Fin.forall_fin_two, Fin.forall_fin_two]
    have h0 : (i 0 : Nat) < 256 := (i 0).isLt
    have h1 : (i 1 : Nat) < 256 := (i 1).isLt
    simp [S128x256]; omega
theorem halves128 : Halves h128 where
  disj := Finset.disjoint_left.mpr fun i h h' => by
    rw [Rect.mem_set_unit] at h h'
    have := h 0; have := h' 0; simp [S64x256] at *; omega
  cover := Finset.eq_univ_iff_forall.mpr fun i => by
    rw [Finset.mem_union, Rect.mem_set_unit, Rect.mem_set_unit, Fin.forall_fin_two, Fin.forall_fin_two]
    have h0 : (i 0 : Nat) < 128 := (i 0).isLt
    have h1 : (i 1 : Nat) < 256 := (i 1).isLt
    simp [S64x256]; omega
theorem halves64 : Halves h64 where
  disj := Finset.disjoint_left.mpr fun i h h' => by
    rw [Rect.mem_set_unit] at h h'
    have := h 0; have := h' 0; simp [S32x256] at *; omega
  cover := Finset.eq_univ_iff_forall.mpr fun i => by
    rw [Finset.mem_union, Rect.mem_set_unit, Rect.mem_set_unit, Fin.forall_fin_two, Fin.forall_fin_two]
    have h0 : (i 0 : Nat) < 64 := (i 0).isLt
    have h1 : (i 1 : Nat) < 256 := (i 1).isLt
    simp [S32x256]; omega
theorem halves32 : Halves h32 where
  disj := Finset.disjoint_left.mpr fun i h h' => by
    rw [Rect.mem_set_unit] at h h'
    have := h 0; have := h' 0; simp [S16x256] at *; omega
  cover := Finset.eq_univ_iff_forall.mpr fun i => by
    rw [Finset.mem_union, Rect.mem_set_unit, Rect.mem_set_unit, Fin.forall_fin_two, Fin.forall_fin_two]
    have h0 : (i 0 : Nat) < 32 := (i 0).isLt
    have h1 : (i 1 : Nat) < 256 := (i 1).isLt
    simp [S16x256]; omega

theorem Halves.exists_emb {s : Shape} {r : Bool → Rect s} (h : Halves r) (x : s.Idx) : ∃ b, ∃ j, (r b).emb j = x := by
  rcases Finset.mem_union.mp (h.cover ▸ Finset.mem_univ x) with hx | hx
  · exact ⟨false, (r false).exists_idx_of_mem hx⟩
  · exact ⟨true, (r true).exists_idx_of_mem hx⟩

/-- The function that is `X b` on half `b`. -/
def glue {s : Shape} {r : Bool → Rect s} (h : Halves r) {α : Type} (X : (b : Bool) → (r b).shape.Idx → α) (x : s.Idx) : α :=
  X (h.exists_emb x).choose (h.exists_emb x).choose_spec.choose

theorem glue_emb {s : Shape} {r : Bool → Rect s} (h : Halves r) {α : Type} (X : (b : Bool) → (r b).shape.Idx → α) (b : Bool)
    (j : (r b).shape.Idx) : glue h X ((r b).emb j) = X b j := by
  have key : ∀ (b' : Bool) (j' : (r b').shape.Idx), (r b').emb j' = (r b).emb j → X b' j' = X b j := by
    intro b' j' e
    have hb : b' = b := by
      by_contra hne
      have m' : (r b').emb j' ∈ (r b').set := by rw [← Rect.map_emb_univ]; exact Finset.mem_map_of_mem _ (Finset.mem_univ _)
      have m : (r b).emb j ∈ (r b).set := by rw [← Rect.map_emb_univ]; exact Finset.mem_map_of_mem _ (Finset.mem_univ _)
      rw [e] at m'
      cases b <;> cases b'
      · exact hne rfl
      · exact Finset.disjoint_left.mp h.disj m m'
      · exact Finset.disjoint_left.mp h.disj m' m
      · exact hne rfl
    subst hb
    rw [(r b').emb.injective e]
  exact key _ _ (h.exists_emb ((r b).emb j)).choose_spec.choose_spec

/-! ## Buffers -/

abbrev Buf2 (s : Shape) : Type := Memref sig .tc .vmem s .f32

abbrev xM : Buf2 S2x128x512 := Memref.whole cc0_stg0_0
abbrev qM : Buf2 S512x512 := Memref.whole cc0_stg1_0
abbrev woM : Buf2 S512x512 := Memref.whole cc0_stg2_0
abbrev kM : Buf2 S2x128x128 := Memref.whole cc0_stg3_0
abbrev vM : Buf2 S2x128x128 := Memref.whole cc0_stg4_0
abbrev oM : Buf2 S2x128x512 := Memref.whole cc0_stg5_0
abbrev attM : Buf2 S2x128x512 := Memref.whole cc0_scratch0

/-- The blocks of the reduction, of 256, 128, 64, 32 and 16 rows. -/
abbrev w0M (s : Bool) : Buf2 S256x256 := match s with | false => Memref.whole cc0_scratch1 | true => Memref.whole cc0_scratch13
abbrev w1M (s : Bool) : Buf2 S128x256 := match s with | false => Memref.whole cc0_scratch2 | true => Memref.whole cc0_scratch14
abbrev w2M (s : Bool) : Buf2 S64x256 := match s with | false => Memref.whole cc0_scratch3 | true => Memref.whole cc0_scratch15
abbrev w3M (s : Bool) : Buf2 S32x256 := match s with | false => Memref.whole cc0_scratch4 | true => Memref.whole cc0_scratch16
abbrev w4M (s : Bool) : Buf2 S16x256 := match s with | false => Memref.whole cc0_scratch5 | true => Memref.whole cc0_scratch17
/-- Where the reduction's transfers land. -/
abbrev r0M (s : Bool) : Buf2 S128x256 := match s with | false => Memref.whole cc0_scratch6 | true => Memref.whole cc0_scratch18
abbrev r1M (s : Bool) : Buf2 S64x256 := match s with | false => Memref.whole cc0_scratch7 | true => Memref.whole cc0_scratch19
abbrev r2M (s : Bool) : Buf2 S32x256 := match s with | false => Memref.whole cc0_scratch8 | true => Memref.whole cc0_scratch20
abbrev r3M (s : Bool) : Buf2 S16x256 := match s with | false => Memref.whole cc0_scratch9 | true => Memref.whole cc0_scratch21
/-- The blocks of the gather, of 32, 64 and 128 rows. -/
abbrev g3M (s : Bool) : Buf2 S32x256 := match s with | false => Memref.whole cc0_scratch10 | true => Memref.whole cc0_scratch22
abbrev g2M (s : Bool) : Buf2 S64x256 := match s with | false => Memref.whole cc0_scratch11 | true => Memref.whole cc0_scratch23
abbrev g1M (s : Bool) : Buf2 S128x256 := match s with | false => Memref.whole cc0_scratch12 | true => Memref.whole cc0_scratch24

/-- Quarter `b`, `s` of the output: batch `b`, the columns of stream `s`. -/
abbrev oRect (s b : Bool) : Rect S2x128x512 :=
  Rect.unit (s := S2x128x512) ![bif b then 1 else 0, 0, bif s then 256 else 0] S1x128x256.size
    (match s, b with
      | false, false => inb_S2x128x512_S1x128x256_0_0_0
      | false, true => inb_S2x128x512_S1x128x256_1_0_0
      | true, false => inb_S2x128x512_S1x128x256_0_0_256
      | true, true => inb_S2x128x512_S1x128x256_1_0_256)
abbrev oSl (s b : Bool) : Buf2 S1x128x256 := (oM : Buf2 S2x128x512).slice (oRect s b) (fun _ => rfl)
abbrev oQ (s b : Bool) : Buf2 S128x256 := (oSl s b).squeeze S128x256 squeezes_S1x128x256_S128x256

/-! ## Contents -/

/-- The edge stream `s` crosses at step `k` of its reduction; the gather crosses them in the opposite order. -/
def dimR (s : Bool) (k : Fin 4) : Fin 4 := match s with | false => ![0, 1, 2, 3] k | true => ![2, 3, 0, 1] k

/-- The device of the pair `c`, `peer i c` whose digit `i` is `b`. -/
def holder (i : Fin 4) (c : Dev nD) (b : Bool) : Dev nD := if bit i c = b then c else peer i c

/-- One step of a reduction: half `bit i c` of the device's own block plus the same half of its peer's. -/
def reduce {s s' : Shape} (i : Fin 4) (e : Bool → s'.Idx → s.Idx) (X : Dev nD → Vec F s .f32) (c : Dev nD) : FVec F s' .f32 :=
  addf (fun j => X c (e (bit i c) j)) (fun j => X (peer i c) (e (bit i c) j))

variable (P : Bool → Dev nD → Vec F S256x256 .f32)

def W1 (s : Bool) : Dev nD → Vec F S128x256 .f32 := reduce (dimR s 0) (fun b => (h256 b).emb) (P s)
def W2 (s : Bool) : Dev nD → Vec F S64x256 .f32 := reduce (dimR s 1) (fun b => (h128 b).emb) (W1 P s)
def W3 (s : Bool) : Dev nD → Vec F S32x256 .f32 := reduce (dimR s 2) (fun b => (h64 b).emb) (W2 P s)
def W4 (s : Bool) : Dev nD → Vec F S16x256 .f32 := reduce (dimR s 3) (fun b => (h32 b).emb) (W3 P s)
def G3 (s : Bool) (c : Dev nD) : Vec F S32x256 .f32 := glue halves32 fun b => W4 P s (holder (dimR s 3) c b)
def G2 (s : Bool) (c : Dev nD) : Vec F S64x256 .f32 := glue halves64 fun b => G3 P s (holder (dimR s 2) c b)
def G1 (s : Bool) (c : Dev nD) : Vec F S128x256 .f32 := glue halves128 fun b => G2 P s (holder (dimR s 1) c b)
/-- What quarter `b` of the output's columns of stream `s` holds at the end. -/
def G0 (s : Bool) (c : Dev nD) (b : Bool) : Vec F S128x256 .f32 := G1 P s (holder (dimR s 0) c b)

/-! ## The exchanges, in program order -/

/-- The edge exchange `e` crosses. -/
def dim (e : Fin 16) : Fin 4 := ![0, 2, 1, 3, 2, 0, 3, 1, 3, 1, 2, 0, 1, 3, 0, 2] e

/-- The four exchanges across edge `i`. -/
def across (i n : Fin 4) : Fin 16 := (![![0, 5, 11, 14], ![2, 7, 9, 12], ![1, 4, 10, 15], ![3, 6, 8, 13]] : Fin 4 → Fin 4 → Fin 16) i n

theorem dim_across (i n : Fin 4) : dim (across i n) = i := by revert i n; decide
theorem across_injective : Function.Injective fun p : Fin 4 × Fin 4 => across p.1 p.2 := by decide

/-- One exchange: the source and the destination by the SENDER's digit, and what device `c` sends. -/
structure Exch (F : FTy → Type) where
  sh : Shape
  src : Bool → Buf2 sh
  dst : Bool → Buf2 sh
  val : Dev nD → sh.Idx → Elt F .f32

/-- The reduction's exchanges of stream `s`. -/
def exR0 (s : Bool) : Exch F := ⟨S128x256, fun b => (w0M s).slice (h256 !b) (fun _ => rfl), fun _ => r0M s, fun c j => P s c ((h256 !bit (dimR s 0) c).emb j)⟩
def exR1 (s : Bool) : Exch F := ⟨S64x256, fun b => (w1M s).slice (h128 !b) (fun _ => rfl), fun _ => r1M s, fun c j => W1 P s c ((h128 !bit (dimR s 1) c).emb j)⟩
def exR2 (s : Bool) : Exch F := ⟨S32x256, fun b => (w2M s).slice (h64 !b) (fun _ => rfl), fun _ => r2M s, fun c j => W2 P s c ((h64 !bit (dimR s 2) c).emb j)⟩
def exR3 (s : Bool) : Exch F := ⟨S16x256, fun b => (w3M s).slice (h32 !b) (fun _ => rfl), fun _ => r3M s, fun c j => W3 P s c ((h32 !bit (dimR s 3) c).emb j)⟩
/-- The gather's exchanges of stream `s`. -/
def exG3 (s : Bool) : Exch F := ⟨S16x256, fun _ => w4M s, fun b => (g3M s).slice (h32 b) (fun _ => rfl), W4 P s⟩
def exG2 (s : Bool) : Exch F := ⟨S32x256, fun _ => g3M s, fun b => (g2M s).slice (h64 b) (fun _ => rfl), G3 P s⟩
def exG1 (s : Bool) : Exch F := ⟨S64x256, fun _ => g2M s, fun b => (g1M s).slice (h128 b) (fun _ => rfl), G2 P s⟩
def exG0 (s : Bool) : Exch F := ⟨S128x256, fun _ => g1M s, fun b => oQ s b, G1 P s⟩

/-- Exchange `e`. -/
def ex (e : Fin 16) : Exch F :=
  ![exR0 P false, exR0 P true, exR1 P false, exR1 P true, exR2 P false, exR2 P true, exR3 P false, exR3 P true,
    exG3 P false, exG3 P true, exG2 P false, exG2 P true, exG1 P false, exG1 P true, exG0 P false, exG0 P true] e

/-- The semaphore exchange `e` is counted on at the sender, and at the receiver. -/
def sIx (e : Fin 16) : DmaSem sig :=
  ⟨6 + 16 * (e.val % 2) + 8 * (e.val / 8) + (e.val / 2) % 4, by show _ < 38; omega⟩
def rIx (e : Fin 16) : DmaSem sig :=
  ⟨6 + 16 * (e.val % 2) + 8 * (e.val / 8) + 4 + (e.val / 2) % 4, by show _ < 38; omega⟩

/-- What a semaphore counts: nothing of an exchange, the sending (`false`) or the landing (`true`) of exchange `e`. -/
def which (d : DmaSem sig) : Option (Bool × Fin 16) :=
  if d.val < 6 then none
  else some (decide (((d.val - 6) / 4) % 2 = 1),
    ⟨8 * (((d.val - 6) / 8) % 2) + 2 * ((d.val - 6) % 4) + (d.val - 6) / 16 % 2, by omega⟩)

theorem which_s (e : Fin 16) : which (sIx e) = some (false, e) := by revert e; decide
theorem which_r (e : Fin 16) : which (rIx e) = some (true, e) := by revert e; decide

/-- The units exchange `e` credits. -/
def amt (e : Fin 16) : ℕ := RefSig.tileCredit
  ((![S128x256, S128x256, S64x256, S64x256, S32x256, S32x256, S16x256, S16x256,
    S16x256, S16x256, S32x256, S32x256, S64x256, S64x256, S128x256, S128x256] : Fin 16 → Shape) e) .f32

theorem amt_pos (e : Fin 16) : 0 < amt e := by revert e; decide +kernel

theorem amt_eq (e : Fin 16) (v : Buf2 (ex (F := F) P e).sh) : v.view.dmaCredit = amt e := by
  fin_cases e <;> rfl

end Cert.KernelIdealProof

end
-- ==== Proof.KernelIdealProto.lean ====
/-
# The protocol

Every device has one barrier cell and, for each of the sixteen exchanges, a sending and a landing cell. Each cell is used
in one round.

* BARRIER cell of `c`: its four peers each signal one unit; with the unit, `peer i c` hands over the buffers it will let
  `c` write in the four exchanges across edge `i`, and the fact that the landing cells there are open. `c` waits for all
  four units before any transfer.
* LANDING cell of exchange `e` on `c`: credited once, by the copy of `c`'s peer, which hands `c` its buffer back holding
  what the peer sent.
* SENDING cell of exchange `e` on `c`: credited once, by `c`'s own copy, which hands back the share of the source lent to it;
  waited for at the very end.

A device waits on its barrier owing all its landings, and on landing `e` owing the landings of later exchanges only, so
levels that grow with the exchange (barrier 1, landing `e` at `2 + e`) forbid every cycle.
-/
module

public import proofs.«01_k».proof.Proof.KernelIdealData
public import proofs.«01_k».proof.Proof.Own
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UR : Type := URounds (GSem nD τ sig) Unit
abbrev UU : Type := UR × URounds (GSem nD τ sig) (Fin 4)

local notation "𝕄" => MT nD τ sig Unit (Elt F) ℕ UU ℕ

abbrev EP : Emb UR (MT nD τ sig Unit (Elt F) ℕ UU ℕ) := embL
abbrev ER : Emb (URounds (GSem nD τ sig) (Fin 4)) (MT nD τ sig Unit (Elt F) ℕ UU ℕ) := embR

abbrev 𝒱₀ : Variants := Variants.none

/-! ## Cells -/

abbrev barCell (c : Dev nD) : GSem nD τ sig := ((c : Thread nD τ), .reg barrier0)
abbrev sendCell (e : Fin 16) (c : Dev nD) : GSem nD τ sig := ((c : Thread nD τ), .dma (sIx e))
abbrev recvCell (e : Fin 16) (c : Dev nD) : GSem nD τ sig := ((c : Thread nD τ), .dma (rIx e))

/-- The device exchange `e` pairs `c` with. -/
abbrev mate (e : Fin 16) (c : Dev nD) : Dev nD := peer (dim e) c
theorem mate_mate (e : Fin 16) (c : Dev nD) : mate e (mate e c) = c := peer_peer _ _

/-! ## What each landing hands over -/

variable (P : Bool → Dev nD → Vec F S256x256 .f32)

/-- `c`'s source of exchange `e`, the share lent to the copy, holding what it sends. -/
def sendPay (e : Fin 16) (c : Dev nD) : sProp 𝕄 :=
  owns (c : Thread nD τ) ((ex P e).src (bit (dim e) c)) fullShare.left ((ex P e).val c)
/-- The buffer of `c` exchange `e` lands in, holding what its mate sent. -/
def recvPay (e : Fin 16) (c : Dev nD) : sProp 𝕄 :=
  owns (c : Thread nD τ) ((ex P e).dst (!bit (dim e) c)) fullShare ((ex P e).val (mate e c))
/-- The buffer of `c` exchange `e` will land in, at any contents, its landing cell open. -/
def dstOwn (e : Fin 16) (c : Dev nD) : sProp 𝕄 :=
  iprop((∃ X, owns (c : Thread nD τ) ((ex (F := F) P e).dst (!bit (dim e) c)) fullShare X) ∗ reached ER (recvCell e c) 0)
/-- The buffer of `c`'s mate that `c` writes in exchange `e`. -/
def dstAny (e : Fin 16) (c : Dev nD) : sProp 𝕄 := dstOwn P e (mate e c)
/-- What `peer i c`'s signal hands `c`. -/
def barPay (i : Fin 4) (c : Dev nD) : sProp 𝕄 :=
  iprop(dstAny P (across i 0) c ∗ dstAny P (across i 1) c ∗ dstAny P (across i 2) c ∗ dstAny P (across i 3) c)

instance sendPay_storable (e c) : BI.Storable (upEmb : UEmb _ 𝕄) (sendPay P e c) := by unfold sendPay; infer_instance
instance recvPay_storable (e c) : BI.Storable (upEmb : UEmb _ 𝕄) (recvPay P e c) := by unfold recvPay; infer_instance
instance dstOwn_storable (e c) : BI.Storable (upEmb : UEmb _ 𝕄) (dstOwn (F := F) P e c) := by unfold dstOwn; infer_instance
instance dstAny_storable (e c) : BI.Storable (upEmb : UEmb _ 𝕄) (dstAny (F := F) P e c) := by unfold dstAny; infer_instance
instance barPay_storable (i c) : BI.Storable (upEmb : UEmb _ 𝕄) (barPay (F := F) P i c) := by unfold barPay; infer_instance

/-! ## The schedule -/

def rd : Rounds.Schedule (GSem nD τ sig) (Fin 4) 𝕄 where
  duties g r := if r = 0 ∧ g.1.2 = .tc then
      (match g.2 with | .reg b => if b = barrier0 then Finset.univ else ∅ | .dma d => if (which d).isSome then {0} else ∅)
    else ∅
  unitless _ := False
  amount g _ _ := match g.2 with | .reg _ => 1 | .dma d => match which d with | some (_, e) => amt e | none => 1
  payload g _ i := match g.2 with
    | .reg _ => barPay P i g.1.1
    | .dma d => match which d with
      | some (false, e) => sendPay P e g.1.1
      | some (true, e) => recvPay P e g.1.1
      | none => iprop(emp)
  amount_pos g _ _ _ := by
    split
    · exact Nat.one_pos
    · split
      · exact amt_pos _
      · exact Nat.one_pos

instance rd_payload_storable (g : GSem nD τ sig) (r : ℕ) (d : Fin 4) : BI.Storable (upEmb : UEmb _ 𝕄) ((rd (F := F) P).payload g r d) := by
  dsimp only [rd]
  (repeat' split) <;> infer_instance

section Tables

variable (e : Fin 16) (c : Dev nD)

theorem duties_bar : (rd (F := F) P).duties (barCell c) 0 = Finset.univ := by
  dsimp only [rd]; rw [if_pos ⟨rfl, rfl⟩, if_pos rfl]
theorem duties_send : (rd (F := F) P).duties (sendCell e c) 0 = {0} := by
  dsimp only [rd]; rw [if_pos ⟨rfl, rfl⟩, which_s]; rfl
theorem duties_recv : (rd (F := F) P).duties (recvCell e c) 0 = {0} := by
  dsimp only [rd]; rw [if_pos ⟨rfl, rfl⟩, which_r]; rfl
theorem duties_later (g : GSem nD τ sig) : ∀ r, 1 ≤ r → (rd (F := F) P).duties g r = ∅ :=
  fun r hr => by dsimp only [rd]; exact if_neg fun h => by omega

theorem amount_bar (i : Fin 4) : (rd (F := F) P).amount (barCell c) 0 i = 1 := rfl
theorem amount_send (i : Fin 4) : (rd (F := F) P).amount (sendCell e c) 0 i = amt e := by dsimp only [rd]; rw [which_s]
theorem amount_recv (i : Fin 4) : (rd (F := F) P).amount (recvCell e c) 0 i = amt e := by dsimp only [rd]; rw [which_r]

theorem expect_bar : (rd (F := F) P).expect (barCell c) 0 = 4 := by
  unfold Schedule.expect Schedule.amountOf; rw [duties_bar]; rfl
theorem expect_send : (rd (F := F) P).expect (sendCell e c) 0 = amt e := by
  unfold Schedule.expect Schedule.amountOf; rw [duties_send, Finset.sum_singleton, amount_send]
theorem expect_recv : (rd (F := F) P).expect (recvCell e c) 0 = amt e := by
  unfold Schedule.expect Schedule.amountOf; rw [duties_recv, Finset.sum_singleton, amount_recv]

theorem payload_bar (i : Fin 4) : (rd (F := F) P).payload (barCell c) 0 i = barPay P i c := rfl
theorem payload_send (i : Fin 4) : (rd (F := F) P).payload (sendCell e c) 0 i = sendPay P e c := by dsimp only [rd]; rw [which_s]
theorem payload_recv (i : Fin 4) : (rd (F := F) P).payload (recvCell e c) 0 i = recvPay P e c := by dsimp only [rd]; rw [which_r]

theorem rest_bar : bigSep ((rd (F := F) P).duties (barCell c) 0 \ ∅) (fun i => (rd (F := F) P).payload (barCell c) 0 i)
    = iprop(barPay P 0 c ∗ barPay P 1 c ∗ barPay P 2 c ∗ barPay P 3 c) := by
  rw [Finset.sdiff_empty, duties_bar]
  exact bigSep_univ_eq_bigSepL [0, 1, 2, 3] (by decide) (by decide) _
theorem rest_send : bigSep ((rd (F := F) P).duties (sendCell e c) 0 \ ∅) (fun i => (rd (F := F) P).payload (sendCell e c) 0 i) = sendPay P e c := by
  rw [Finset.sdiff_empty, duties_send, bigSep_singleton, payload_send]
theorem rest_recv : bigSep ((rd (F := F) P).duties (recvCell e c) 0 \ ∅) (fun i => (rd (F := F) P).payload (recvCell e c) 0 i) = recvPay P e c := by
  rw [Finset.sdiff_empty, duties_recv, bigSep_singleton, payload_recv]

end Tables

/-! ## What each device owes; the levels -/

/-- The landings of the exchanges from `n` on. -/
def owedR (n : ℕ) (c : Dev nD) : CellTallies nD τ sig Unit :=
  ∑ e ∈ Finset.univ.filter (fun e : Fin 16 => n ≤ e.val), tallyAt (recvCell e (mate e c)) () (amt e)
/-- The barrier units across the edges from `n` on. -/
def owedB (n : ℕ) (c : Dev nD) : CellTallies nD τ sig Unit :=
  ∑ i ∈ Finset.univ.filter (fun i : Fin 4 => n ≤ i.val), tallyAt (barCell (peer i c)) () 1
/-- What a device owes at launch. -/
def O₀ (c : Dev nD) : CellTallies nD τ sig Unit := owedR 0 c + owedB 0 c

theorem owedR_step (e : Fin 16) (c : Dev nD) : owedR e.val c = owedR (e.val + 1) c + tallyAt (recvCell e (mate e c)) () (amt e) := by
  unfold owedR
  have : Finset.univ.filter (fun x : Fin 16 => e.val ≤ x.val) = insert e (Finset.univ.filter fun x : Fin 16 => e.val + 1 ≤ x.val) := by
    ext x; simp only [Finset.mem_filter, Finset.mem_univ, true_and, Finset.mem_insert]; constructor
    · intro h; by_cases hx : x = e
      · exact .inl hx
      · exact .inr (by have := Fin.val_ne_of_ne hx; omega)
    · rintro (rfl | h)
      · exact le_rfl
      · omega
  rw [this, Finset.sum_insert (by simp), add_comm]
theorem owedB_step (i : Fin 4) (c : Dev nD) : owedB i.val c = owedB (i.val + 1) c + tallyAt (barCell (peer i c)) () 1 := by
  unfold owedB
  have : Finset.univ.filter (fun x : Fin 4 => i.val ≤ x.val) = insert i (Finset.univ.filter fun x : Fin 4 => i.val + 1 ≤ x.val) := by
    revert i; decide
  rw [this, Finset.sum_insert (by simp), add_comm]
theorem owedR_end (c : Dev nD) : owedR 16 c = 0 := by
  unfold owedR; rw [Finset.filter_false_of_mem fun e _ => by omega, Finset.sum_empty]
theorem owedB_end (c : Dev nD) : owedB 4 c = 0 := by
  unfold owedB; rw [Finset.filter_false_of_mem fun e _ => by omega, Finset.sum_empty]

def L (g : GSem nD τ sig) : Finset Unit := if g.1.2 = .tc then {()} else ∅
def lv (g : GSem nD τ sig) (_ : Unit) : ℕ := match g.2 with
  | .reg _ => 1
  | .dma d => match which d with | some (true, e) => 2 + e.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (e : Fin 16) (c : Dev nD) (u : Unit) : lv (recvCell e c) u = 2 + e.val := by
  dsimp only [lv]; rw [which_r]

theorem owedR_pos {n : ℕ} {c : Dev nD} {g : GSem nD τ sig} {u : Unit} (h : 0 < owedR n c g u) :
    ∃ e : Fin 16, n ≤ e.val ∧ g = recvCell e (mate e c) := by
  unfold owedR at h
  rw [Finset.sum_apply, Finsupp.finset_sum_apply] at h
  obtain ⟨e, he, hp⟩ := Finset.exists_ne_zero_of_sum_ne_zero h.ne'
  rw [tallyAt_apply] at hp
  refine ⟨e, (Finset.mem_filter.mp he).2, ?_⟩
  by_contra hg
  exact hp (if_neg fun h' => hg h'.1)
theorem owedB_pos {n : ℕ} {c : Dev nD} {g : GSem nD τ sig} {u : Unit} (h : 0 < owedB n c g u) :
    ∃ i : Fin 4, g = barCell (peer i c) := by
  unfold owedB at h
  rw [Finset.sum_apply, Finsupp.finset_sum_apply] at h
  obtain ⟨e, he, hp⟩ := Finset.exists_ne_zero_of_sum_ne_zero h.ne'
  rw [tallyAt_apply] at hp
  refine ⟨e, ?_⟩
  by_contra hg
  exact hp (if_neg fun h' => hg h'.1)
theorem O₀_pos {c : Dev nD} {g : GSem nD τ sig} {u : Unit} (h : 0 < O₀ c g u) :
    (∃ e : Fin 16, g = recvCell e (mate e c)) ∨ ∃ i : Fin 4, g = barCell (peer i c) := by
  unfold O₀ at h
  rw [Pi.add_apply, Finsupp.add_apply] at h
  rcases Nat.eq_zero_or_pos (owedR 0 c g u) with h' | h'
  · rw [h', Nat.zero_add] at h; exact .inr (owedB_pos h)
  · obtain ⟨e, -, he⟩ := owedR_pos h'; exact .inl ⟨e, he⟩

/-- A wait at a level below every landing still owed. -/
theorem mayWait_of_lt (c : Dev nD) (sm : SemLoc sig) (n : ℕ) (hl : lv ((c : Thread nD τ), sm) () < 2 + n) :
    (levAts L lv : sProp 𝕄) ⊢ MayWait (c : Thread nD τ) sm () (owedR n c) :=
  MayOwe.of_cut (L := L) (lev := lv) (lv ((c : Thread nD τ), sm) ()) (fun p hp => by rw [Finset.mem_singleton.mp hp, L_tc]; exact Finset.mem_singleton_self _)
    (fun g u hg => by obtain ⟨e, -, rfl⟩ := owedR_pos hg; rw [L_tc]; exact Finset.mem_singleton_self _)
    (fun p hp => by rw [Finset.mem_singleton.mp hp])
    (fun g u hg => by obtain ⟨e, he, rfl⟩ := owedR_pos hg; rw [lv_recv]; omega)

/-- A wait at level zero owing what a device owes at launch, or nothing. -/
theorem mayWait_zero_level (c : Dev nD) (sm : SemLoc sig) (hl : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨e, rfl⟩ | ⟨i, rfl⟩ <;> (rw [L_tc]; exact Finset.mem_singleton_self _))
      (fun p hp => by rw [Finset.mem_singleton.mp hp, hl])
      (fun g u hg => by rcases O₀_pos hg with ⟨e, rfl⟩ | ⟨i, rfl⟩
                        · rw [lv_recv]; omega
                        · rw [lv_bar]; omega)
  · rw [MayWait_zero]; iintro -; iempintro

/-! ## What a device carries -/

variable (K : GSem nD τ sig → ℕ)

/-- Every cell's invariant and the levels: known to all. -/
def env : sProp 𝕄 :=
  iprop((bigSep Finset.univ fun c : Dev nD => cellInv ER (rd P) (K (barCell c)) (barCell c))
    ∗ (bigSep Finset.univ fun c : Dev nD => bigSep Finset.univ fun e : Fin 16 => cellInv ER (rd P) (K (sendCell e c)) (sendCell e c))
    ∗ (bigSep Finset.univ fun c : Dev nD => bigSep Finset.univ fun e : Fin 16 => cellInv ER (rd P) (K (recvCell e c)) (recvCell e c))
    ∗ (bigSep Finset.univ fun c : Dev nD => reached ER (barCell c) 0)
    ∗ levAts L lv)

instance env_persistent : BI.Persistent (env (F := F) P K) := by unfold env; infer_instance

theorem ent_elim {I : Type} [DecidableEq I] [Fintype I] {Φ : I → sProp 𝕄} {i : I} (h : i ∈ (Finset.univ : Finset I)) :
    (bigSep Finset.univ Φ : sProp 𝕄) ⊢ Φ i := bigSep_elim h

theorem env_bar (c : Dev nD) : (env P K : sProp 𝕄) ⊢ cellInv ER (rd P) (K (barCell c)) (barCell c) := by
  unfold env; iintro ⟨H, -⟩; iapply (ent_elim (Φ := fun c : Dev nD => cellInv ER (rd P) (K (barCell c)) (barCell c)) (Finset.mem_univ c)); iexact H
theorem env_send (e : Fin 16) (c : Dev nD) : (env P K : sProp 𝕄) ⊢ cellInv ER (rd P) (K (sendCell e c)) (sendCell e c) := by
  unfold env; iintro ⟨-, H, -⟩
  ihave H' := (ent_elim (Φ := fun c : Dev nD => bigSep Finset.univ fun e : Fin 16 => cellInv ER (rd P) (K (sendCell e c)) (sendCell e c)) (Finset.mem_univ c)) $$ H
  iapply (ent_elim (Φ := fun e : Fin 16 => cellInv ER (rd P) (K (sendCell e c)) (sendCell e c)) (Finset.mem_univ e)); iexact H'
theorem env_recv (e : Fin 16) (c : Dev nD) : (env P K : sProp 𝕄) ⊢ cellInv ER (rd P) (K (recvCell e c)) (recvCell e c) := by
  unfold env; iintro ⟨-, -, H, -⟩
  ihave H' := (ent_elim (Φ := fun c : Dev nD => bigSep Finset.univ fun e : Fin 16 => cellInv ER (rd P) (K (recvCell e c)) (recvCell e c)) (Finset.mem_univ c)) $$ H
  iapply (ent_elim (Φ := fun e : Fin 16 => cellInv ER (rd P) (K (recvCell e c)) (recvCell e c)) (Finset.mem_univ e)); iexact H'
theorem env_reached (c : Dev nD) : (env P K : sProp 𝕄) ⊢ reached ER (barCell c) 0 := by
  unfold env; iintro ⟨-, -, -, H, -⟩
  iapply (ent_elim (Φ := fun c : Dev nD => (reached ER (barCell c) 0 : sProp 𝕄)) (Finset.mem_univ c)); iexact H
/-- A wait at a level below every landing still owed. -/
theorem env_mayWait (c : Dev nD) (sm : SemLoc sig) (n : ℕ) (hl : lv ((c : Thread nD τ), sm) () < 2 + n) :
    (env P K : sProp 𝕄) ⊢ MayWait (c : Thread nD τ) sm () (owedR n c) := by
  refine BIBase.Entails.trans ?_ (mayWait_of_lt c sm n hl)
  unfold env; iintro ⟨-, -, -, -, H⟩; iexact H
theorem env_lev : (env P K : sProp 𝕄) ⊢ levAts L lv := by unfold env; iintro ⟨-, -, -, -, H⟩; iexact H

/-- The right to make exchange `e`'s copy, and the place on its sending cell. -/
def sendTok (e : Fin 16) (c : Dev nD) : sProp 𝕄 :=
  iprop(dutyTok ER (sendCell e c) 0 0 ∗ dutyTok ER (recvCell e (mate e c)) 0 0 ∗ reached ER (sendCell e c) 0 ∗ atPos ER (sendCell e c) 0 ∅ 0)
/-- Exchange `e`'s copy made and not yet waited for at the sender. -/
def inFlight (e : Fin 16) (c : Dev nD) : sProp 𝕄 := iprop(cred (tallyAt (sendCell e c) () (amt e)) ∗ atPos ER (sendCell e c) 0 ∅ 0)
/-- The right to wait for exchange `e`'s landing. -/
def recvRdy (e : Fin 16) (c : Dev nD) : sProp 𝕄 := iprop(cred (tallyAt (recvCell e c) () (amt e)) ∗ atPos ER (recvCell e c) 0 ∅ 0)
/-- What the device still owes: the landings from `n` on. -/
def owed (n : ℕ) (c : Dev nD) : sProp 𝕄 := iprop(∃ W, owes (c : Thread nD τ) (owedR n c) W)

/-- A program's weakest precondition on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Exchange `e`'s copy: the source's lent share and the mate's buffer go, the sending cell's credit comes. -/
theorem wp_snd (e : Fin 16) (c : Dev nD) {b : Bool} (hb : bit (dim e) c = b) {n : Dev nD} (hn : n = mate e c)
    {src dst : Buf2 (ex (F := F) P e).sh} (hs : src = (ex P e).src b) (hd : dst = (ex P e).dst b)
    {sS sD : DmaSem sig} (hsS : sS = sIx e) (hsD : sD = rIx e)
    {hsc : (dst : Memref sig (Dev.tc n : Thread nD τ).2.kind .vmem _ .f32).view.ref.isScScratch = false}
    {hsrc : src.view.WordExact} {hdst : dst.view.WordExact}
    {hsem : DmaTarget.Typed .vmem (.dma sD) (.remote (Dev.tc n : Thread nD τ) dst (.dma sS) hsc)}
    {α : Type} {Q : α → sProp 𝕄} {k : PUnit → Prog (TpuEff nD τ sig (Elt F) Λ₀ .tc) α} :
    iprop(env P K ∗ sendTok e c ∗ sendPay P e c ∗ dstAny P e c ∗ owed e.val c)
      ⊢ iprop(((inFlight e c ∗ owed (e.val + 1) c) -∗ run c (k ⟨⟩) Q)
          -∗ run c (.op (.enqueueDma src (.remote (Dev.tc n : Thread nD τ) dst (.dma sS) hsc) (.dma sD) hsrc hdst hsem) k) Q) := by
  subst hn hsS hsD
  unfold sendTok sendPay dstAny dstOwn owed
  rw [show bit (dim e) (mate e c) = !bit (dim e) c from bit_peer _ _, Bool.not_not, hb, ← hs, ← hd]
  iintro ⟨#He, ⟨HtS, HtR, #HrS, Hat⟩, Hsrc, ⟨⟨%Y, Hdst⟩, #HrR⟩, %W, HO⟩ Hk
  ihave Hsrc := (show owns (c : Thread nD τ) src fullShare.left ((ex P e).val c) ⊢ iprop(∃ g, ⌜src.view.read (Elt F) g = (ex P e).val c⌝
    ∗ src.view.loc (c : Thread nD τ) ↦[src.view.set]{fullShare.left} g) from .rfl) $$ Hsrc
  icases Hsrc with ⟨%g, %hg, Hsrc⟩
  ihave Hdst := (show owns (mate e c : Thread nD τ) dst fullShare Y ⊢ iprop(∃ g, ⌜dst.view.read (Elt F) g = Y⌝
    ∗ dst.view.loc (mate e c : Thread nD τ) ↦[dst.view.set]{fullShare} g) from .rfl) $$ Hdst
  icases Hdst with ⟨%g', -, Hdst⟩
  iapply (Rounds.wp_send_pointsTo 𝒱₀ ER (rd P) (c : Thread nD τ) none (c' := (mate e c : Thread nD τ)) (src := src) (dst := dst)
    (sS := .dma (sIx e)) (sem := .dma (rIx e)) (q := fullShare.left) (fs := g) (fd := g')
    (κ₁ := K (sendCell e c)) (κ₂ := K (recvCell e (mate e c))) (r₁ := 0) (r₂ := 0) (d₁ := 0) (d₂ := 0)
    (by rw [duties_send]; exact Finset.mem_singleton_self _) (by rw [duties_recv]; exact Finset.mem_singleton_self _)
    () () (amt e) (amt_eq P e dst) (amount_send P e c 0) (amount_recv P e (mate e c) 0) (owedR (e.val + 1) c) (owedR_step e c) (W := W)
    (by rw [payload_send]; unfold sendPay; rw [hb, ← hs, ← hg]; exact owns_intro (c : Thread nD τ) src fullShare.left g)
    (by
      rw [payload_recv]; unfold recvPay
      rw [mate_mate, show bit (dim e) (mate e c) = !bit (dim e) c from bit_peer _ _, Bool.not_not, hb, ← hd, ← hg]
      have hw : dst.view.read (Elt F) (dst.view.write (Elt F) g' (src.view.read (Elt F) g) Finset.univ) = src.view.read (Elt F) g := View.read_write_univ _ _
      exact (owns_intro (mate e c : Thread nD τ) dst fullShare _).trans (Entails.of_eq (congrArg _ hw)))) $$ [Hsrc Hdst HO HtS HtR]
  · isplitr; · iapply (env_send P K e c); iexact He
    isplitr; · iapply (env_recv P K e (mate e c)); iexact He
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  unfold inFlight
  isplitl [Hc Hat]
  · isplitl [Hc] <;> iassumption
  iexists W; iexact HO

/-- The wait for exchange `e`'s landing, later landings still owed: the mate's data, and the cell's counter back at zero. -/
theorem wp_rcv (e : Fin 16) (c : Dev nD) {n : ℕ} (hn : e.val < n) {sD : DmaSem sig} (hsD : sD = rIx e)
    {sp : Space} {s : Shape} {el : EltTy} {src : Memref sig .tc sp s el} {dst : Buf2 (ex (F := F) P e).sh} {hsrc : src.view.WordExact} {hdst : dst.view.WordExact}
    {α : Type} {Q : α → sProp 𝕄} {k : PUnit → Prog (TpuEff nD τ sig (Elt F) Λ₀ .tc) α} :
    iprop(env P K ∗ recvRdy e c ∗ owed n c)
      ⊢ iprop(((recvPay P e c ∗ semVal (recvCell e c) 0 ∗ owed n c) -∗ run c (k ⟨⟩) Q)
          -∗ run c (.op (.waitDma2 sD src dst hsrc hdst) k) Q) := by
  subst hsD
  unfold recvRdy owed
  iintro ⟨#He, ⟨Hc, Hat⟩, %W, HO⟩ Hk
  iapply (Rounds.wp_wait_rest_token 𝒱₀ ER (rd P) (c : Thread nD τ) none (κ := K (recvCell e c))
      (wpE_waitDma2_eq 𝒱₀ (c : Thread nD τ) none Set.univ) (Set.mem_univ _) () (O := owedR n c) (W := W) (R := 0) (m := 0) (T := ∅)
      (by rw [Nat.zero_add, expect_recv]; exact amt_eq P e dst)) $$ [Hc HO Hat]
  · isplitr; · iapply (env_recv P K e c); iexact He
    isplitl [Hc]; · rw [amt_eq P e dst]; iexact Hc
    isplitl [HO]; · iexact HO
    isplitr; · iapply (env_mayWait P K c (.dma (rIx e)) n (by rw [lv_recv]; omega)); iexact He
    iexact Hat
  iintro ⟨HO, Hat, -, Hpay⟩
  ihave Hp := (Entails.of_eq (rest_recv P e c)) $$ Hpay
  imod (Rounds.cell_close ER (rd P) (Set.mem_univ (K (recvCell e c))) (fun h => h) (R := 0 + 1) (duties_later P (recvCell e c))) $$ [Hat] with Hz
  · isplitr; · iapply (env_recv P K e c); iexact He
    iexact Hat
  iapply Hk
  isplitl [Hp]; · iexact Hp
  isplitl [Hz]; · iexact Hz
  iexists _; iexact HO

/-- The wait for the end of exchange `e`'s copy, at the end of the kernel: the lent share back, and the cell's counter at zero. -/
theorem wp_don (e : Fin 16) (c : Dev nD) {sD : DmaSem sig} (hsD : sD = sIx e)
    {sp : Space} {s : Shape} {el : EltTy} {src : Memref sig .tc sp s el} {dst : Buf2 (ex (F := F) P e).sh} {hsrc : src.view.WordExact} {hdst : dst.view.WordExact}
    {α : Type} {Q : α → sProp 𝕄} {k : PUnit → Prog (TpuEff nD τ sig (Elt F) Λ₀ .tc) α} :
    iprop(env P K ∗ inFlight e c ∗ owed 16 c)
      ⊢ iprop(((sendPay P e c ∗ semVal (sendCell e c) 0 ∗ owed 16 c) -∗ run c (k ⟨⟩) Q)
          -∗ run c (.op (.waitDma2 sD src dst hsrc hdst) k) Q) := by
  subst hsD
  unfold inFlight owed
  iintro ⟨#He, ⟨Hc, Hat⟩, %W, HO⟩ Hk
  iapply (Rounds.wp_wait_rest_token 𝒱₀ ER (rd P) (c : Thread nD τ) none (κ := K (sendCell e c))
      (wpE_waitDma2_eq 𝒱₀ (c : Thread nD τ) none Set.univ) (Set.mem_univ _) () (O := owedR 16 c) (W := W) (R := 0) (m := 0) (T := ∅)
      (by rw [Nat.zero_add, expect_send]; exact amt_eq P e dst)) $$ [Hc HO Hat]
  · isplitr; · iapply (env_send P K e c); iexact He
    isplitl [Hc]; · rw [amt_eq P e dst]; iexact Hc
    isplitl [HO]; · iexact HO
    isplitr; · rw [owedR_end, MayWait_zero]; iempintro
    iexact Hat
  iintro ⟨HO, Hat, -, Hpay⟩
  ihave Hp := (Entails.of_eq (rest_send P e c)) $$ Hpay
  imod (Rounds.cell_close ER (rd P) (Set.mem_univ (K (sendCell e c))) (fun h => h) (R := 0 + 1) (duties_later P (sendCell e c))) $$ [Hat] with Hz
  · isplitr; · iapply (env_send P K e c); iexact He
    iexact Hat
  iapply Hk
  isplitl [Hp]; · iexact Hp
  isplitl [Hz]; · iexact Hz
  iexists _; iexact HO

/-- The signal across edge `i`: it pays one barrier unit with the buffers the peer may write. -/
theorem wp_sig (i : Fin 4) (c : Dev nD) {n : Dev nD} (hn : n = peer i c) {sm : Sem sig} (hsm : sm = barrier0) {k' : ℕ} (hk' : k' = 1)
    {α : Type} {Q : α → sProp 𝕄} {k : PUnit → Prog (TpuEff nD τ sig (Elt F) Λ₀ .tc) α} :
    iprop(env P K ∗ dutyTok ER (barCell (peer i c)) 0 i ∗ (dstOwn P (across i 0) c ∗ dstOwn P (across i 1) c ∗ dstOwn P (across i 2) c ∗ dstOwn P (across i 3) c)
        ∗ (∃ W, owes (c : Thread nD τ) (owedR 0 c + owedB i.val c) W))
      ⊢ iprop(((∃ W, owes (c : Thread nD τ) (owedR 0 c + owedB (i.val + 1) c) W) -∗ run c (k ⟨⟩) Q)
          -∗ run c (.op (.semSignal (Dev.tc n : Thread nD τ) sm k') k) Q) := by
  subst hn hsm hk'
  iintro ⟨#He, Ht, Hd, %W, HO⟩ Hk
  iapply (Rounds.wp_signal 𝒱₀ ER (rd P) (c : Thread nD τ) none (dst := (peer i c : Thread nD τ)) (sem := barrier0) (r := 0) (d := i) (κ := K (barCell (peer i c)))
      (by rw [duties_bar]; exact Finset.mem_univ _) (amount_bar P (peer i c) i) () (O₀ := owedR 0 c + owedB i.val c) (owedR 0 c + owedB (i.val + 1) c)
      (by rw [owedB_step i c, add_assoc])) $$ [HO Ht Hd]
  · isplitr; · iapply (env_bar P K (peer i c)); iexact He
    isplitl [HO]; · iexact HO
    isplitl [Ht]; · iexact Ht
    isplitl [Hd]
    · rw [payload_bar]; unfold barPay dstAny mate
      rw [dim_across, dim_across, dim_across, dim_across, peer_peer]; iexact Hd
    · iapply (env_reached P K (peer i c)); iexact He
  iintro HO
  iapply Hk; iexists W; iexact HO

/-- The wait on the barrier: the buffers of all four peers, the counter back at zero. -/
theorem wp_bar (c : Dev nD) {sm : Sem sig} (hsm : sm = barrier0) {k' : ℕ} (hk' : k' = 4)
    {α : Type} {Q : α → sProp 𝕄} {k : PUnit → Prog (TpuEff nD τ sig (Elt F) Λ₀ .tc) α} :
    iprop(env P K ∗ cred (tallyAt (barCell c) () 4) ∗ atPos ER (barCell c) 0 ∅ 0 ∗ (∃ W, owes (c : Thread nD τ) (owedR 0 c + owedB 4 c) W))
      ⊢ iprop((((barPay P 0 c ∗ barPay P 1 c ∗ barPay P 2 c ∗ barPay P 3 c) ∗ semVal (barCell c) 0 ∗ owed 0 c) -∗ run c (k ⟨⟩) Q)
          -∗ run c (.op (.semWait sm k') k) Q) := by
  subst hsm hk'
  rw [owedB_end, add_zero]
  iintro ⟨#He, Hc, Hat, %W, HO⟩ Hk
  iapply (Rounds.wp_wait_rest_token 𝒱₀ ER (rd P) (c : Thread nD τ) none (κ := K (barCell c))
      (wpE_semWait_eq 𝒱₀ (c : Thread nD τ) none Set.univ) (Set.mem_univ _) () (O := owedR 0 c) (W := W) (R := 0) (m := 0) (T := ∅)
      (by rw [expect_bar])) $$ [Hc HO Hat]
  · isplitr; · iapply (env_bar P K c); iexact He
    isplitl [Hc]; · iexact Hc
    isplitl [HO]; · iexact HO
    isplitr; · iapply (env_mayWait P K c (.reg barrier0) 0 (by rw [lv_bar]; omega)); iexact He
    iexact Hat
  iintro ⟨HO, Hat, -, Hpay⟩
  ihave Hp := (Entails.of_eq (rest_bar P c)) $$ Hpay
  imod (Rounds.cell_close ER (rd P) (Set.mem_univ (K (barCell c))) (fun h => h) (R := 0 + 1) (duties_later P (barCell c))) $$ [Hat] with Hz
  · isplitr; · iapply (env_bar P K c); iexact He
    iexact Hat
  iapply Hk
  isplitl [Hp]; · iexact Hp
  isplitl [Hz]; · iexact Hz
  unfold owed
  iexists _; iexact HO

end Cert.KernelIdealProof

end
-- ==== Proof.KernelIdealStep.lean ====
/-
# Steps of the body

Each part of the kernel's body is given the kernel's own buffers and semaphores. An exchange is one of two conditional copies;
a step of the reduction adds what landed to the kept half; a step of the gather copies the block into its half of the next one.
-/
module

public import proofs.«01_k».proof.Proof.KernelIdealProto
public import proofs.«01_k».proof.Proof.KernelIdealDevs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel's body at the kernel's own buffers and semaphores. -/
abbrev app {β : Type 1} (f : (arg0 : Memref sig .tc .vmem S2x128x512 .f32) → (harg0 : arg0.IsWhole) → (arg1 : Memref sig .tc .vmem S512x512 .f32) → (harg1 : arg1.IsWhole) → (arg2 : Memref sig .tc .vmem S512x512 .f32) → (harg2 : arg2.IsWhole) → (arg3 : Memref sig .tc .vmem S2x128x128 .f32) → (harg3 : arg3.IsWhole) → (arg4 : Memref sig .tc .vmem S2x128x128 .f32) → (harg4 : arg4.IsWhole) → (arg5 : Memref sig .tc .vmem S2x128x512 .f32) → (harg5 : arg5.IsWhole) → (arg6 : Memref sig .tc .vmem S2x128x512 .f32) → (harg6 : arg6.IsWhole) → (arg7 : Memref sig .tc .vmem S256x256 .f32) → (harg7 : arg7.IsWhole) → (arg8 : Memref sig .tc .vmem S128x256 .f32) → (harg8 : arg8.IsWhole) → (arg9 : Memref sig .tc .vmem S64x256 .f32) → (harg9 : arg9.IsWhole) → (arg10 : Memref sig .tc .vmem S32x256 .f32) → (harg10 : arg10.IsWhole) → (arg11 : Memref sig .tc .vmem S16x256 .f32) → (harg11 : arg11.IsWhole) → (arg12 : Memref sig .tc .vmem S128x256 .f32) → (harg12 : arg12.IsWhole) → (arg13 : Memref sig .tc .vmem S64x256 .f32) → (harg13 : arg13.IsWhole) → (arg14 : Memref sig .tc .vmem S32x256 .f32) → (harg14 : arg14.IsWhole) → (arg15 : Memref sig .tc .vmem S16x256 .f32) → (harg15 : arg15.IsWhole) → (arg16 : Memref sig .tc .vmem S32x256 .f32) → (harg16 : arg16.IsWhole) → (arg17 : Memref sig .tc .vmem S64x256 .f32) → (harg17 : arg17.IsWhole) → (arg18 : Memref sig .tc .vmem S128x256 .f32) → (harg18 : arg18.IsWhole) → (arg19 : Memref sig .tc .vmem S256x256 .f32) → (harg19 : arg19.IsWhole) → (arg20 : Memref sig .tc .vmem S128x256 .f32) → (harg20 : arg20.IsWhole) → (arg21 : Memref sig .tc .vmem S64x256 .f32) → (harg21 : arg21.IsWhole) → (arg22 : Memref sig .tc .vmem S32x256 .f32) → (harg22 : arg22.IsWhole) → (arg23 : Memref sig .tc .vmem S16x256 .f32) → (harg23 : arg23.IsWhole) → (arg24 : Memref sig .tc .vmem S128x256 .f32) → (harg24 : arg24.IsWhole) → (arg25 : Memref sig .tc .vmem S64x256 .f32) → (harg25 : arg25.IsWhole) → (arg26 : Memref sig .tc .vmem S32x256 .f32) → (harg26 : arg26.IsWhole) → (arg27 : Memref sig .tc .vmem S16x256 .f32) → (harg27 : arg27.IsWhole) → (arg28 : Memref sig .tc .vmem S32x256 .f32) → (harg28 : arg28.IsWhole) → (arg29 : Memref sig .tc .vmem S64x256 .f32) → (harg29 : arg29.IsWhole) → (arg30 : Memref sig .tc .vmem S128x256 .f32) → (harg30 : arg30.IsWhole) → (arg31 : DmaSems sig S4) → (arg32 : DmaSems sig S4) → (arg33 : DmaSems sig S4) → (arg34 : DmaSems sig S4) → (arg35 : DmaSems sig S4) → (arg36 : DmaSems sig S4) → (arg37 : DmaSems sig S4) → (arg38 : DmaSems sig S4) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 cc0_scratch30 cc0_scratch31 cc0_scratch32

section Steps

variable (c : Dev nD) {α : Type} {Q : α → sProp (MT nD τ sig Unit (Elt F) ℕ UU ℕ)}

/-- A copy made where the device's digit is 0. -/
theorem run_if₀ {A : Prop} [Decidable A] {b : Bool} (hA : A ↔ b = false) {p : A → Prog (TpuEff nD τ sig (Elt F) Λ₀ .tc) α}
    {kk : Prog (TpuEff nD τ sig (Elt F) Λ₀ .tc) α} {H R : sProp 𝕄}
    (h : b = false → ∀ a, H ⊢ iprop((R -∗ run c kk Q) -∗ run c (p a) Q)) :
    H ⊢ iprop(((bif b then H else R) -∗ run c kk Q) -∗ run c (if a : A then p a else kk) Q) := by
  by_cases a : A
  · rw [dif_pos a]
    have hb := hA.mp a
    subst hb
    exact h rfl a
  · rw [dif_neg a]
    have hb : b = true := by cases b with | false => exact absurd (hA.mpr rfl) a | true => rfl
    subst hb
    show H ⊢ iprop((H -∗ _) -∗ _)
    iintro HH Hk; iapply Hk; iexact HH

/-- The other copy, made where the digit is 1. -/
theorem run_if₁ {A : Prop} [Decidable A] {b : Bool} (hA : A ↔ b = true) {p : A → Prog (TpuEff nD τ sig (Elt F) Λ₀ .tc) α}
    {kk : Prog (TpuEff nD τ sig (Elt F) Λ₀ .tc) α} {H R : sProp 𝕄}
    (h : b = true → ∀ a, H ⊢ iprop((R -∗ run c kk Q) -∗ run c (p a) Q)) :
    (bif b then H else R) ⊢ iprop((R -∗ run c kk Q) -∗ run c (if a : A then p a else kk) Q) := by
  by_cases a : A
  · rw [dif_pos a]
    have hb := hA.mp a
    subst hb
    exact h rfl a
  · rw [dif_neg a]
    have hb : b = false := by cases b with | true => exact absurd (hA.mpr rfl) a | false => rfl
    subst hb
    show R ⊢ iprop((R -∗ _) -∗ _)
    iintro HH Hk; iapply Hk; iexact HH

variable (P : Bool → Dev nD → Vec F S256x256 .f32) (K : GSem nD τ sig → ℕ)

/-- What exchange `e`'s copy needs besides the source: its tokens and the mate's buffer. -/
def ready (e : Fin 16) : sProp 𝕄 := iprop(sendTok e c ∗ dstAny P e c)
/-- What a copy of the reduction takes, and what it leaves. -/
def HR (e : Fin 16) : sProp 𝕄 := iprop(env P K ∗ ready c P e ∗ sendPay P e c ∗ owed e.val c)
def RR (e : Fin 16) : sProp 𝕄 := iprop(inFlight e c ∗ owed (e.val + 1) c)
/-- Between the two conditional copies of exchange `e`. -/
def midR (e : Fin 16) : sProp 𝕄 := bif bit (dim e) c then HR c P K e else RR c e
/-- What a step of the gather takes: the block and its half of the next one; what it leaves. -/
def HG (e : Fin 16) : sProp 𝕄 :=
  iprop(env P K ∗ ready c P e ∗ owns (c : Thread nD τ) ((ex P e).src (bit (dim e) c)) fullShare ((ex P e).val c)
    ∗ (∃ X, owns (c : Thread nD τ) ((ex P e).dst (bit (dim e) c)) fullShare X) ∗ owed e.val c)
def RG (e : Fin 16) : sProp 𝕄 :=
  iprop(inFlight e c ∗ owed (e.val + 1) c ∗ owns (c : Thread nD τ) ((ex P e).src (bit (dim e) c)) fullShare.right ((ex P e).val c)
    ∗ owns (c : Thread nD τ) ((ex P e).dst (bit (dim e) c)) fullShare ((ex P e).val c))
def midG (e : Fin 16) : sProp 𝕄 := bif bit (dim e) c then HG c P K e else RG c P e

/-- The block exchange `e` of the gather sends. -/
def curG (e : Fin 16) : sProp 𝕄 := owns (c : Thread nD τ) ((ex P e).src (bit (dim e) c)) fullShare ((ex P e).val c)
/-- Its half of the next block, at any contents; holding the block; and what is kept of the block while it is sent. -/
def nextG (e : Fin 16) : sProp 𝕄 := iprop(∃ X, owns (c : Thread nD τ) ((ex (F := F) P e).dst (bit (dim e) c)) fullShare X)
def stashedG (e : Fin 16) : sProp 𝕄 := owns (c : Thread nD τ) ((ex P e).dst (bit (dim e) c)) fullShare ((ex P e).val c)
def spentG (e : Fin 16) : sProp 𝕄 := iprop(inFlight e c ∗ owns (c : Thread nD τ) ((ex P e).src (bit (dim e) c)) fullShare.right ((ex P e).val c))

section Sends

variable (e : Fin 16) {A : Prop} [Decidable A] {n : A → Dev nD}
  {src dst : Buf2 (ex (F := F) P e).sh} {sS sD : DmaSem sig} (hsS : sS = sIx e) (hsD : sD = rIx e) (hn : ∀ a, n a = mate e c)
  {hsc : ∀ a, (dst : Memref sig (Dev.tc (n a) : Thread nD τ).2.kind .vmem _ .f32).view.ref.isScScratch = false}
  {hsrc : A → src.view.WordExact} {hdst : A → dst.view.WordExact}
  {hsem : ∀ a, DmaTarget.Typed .vmem (.dma sD) (.remote (Dev.tc (n a) : Thread nD τ) dst (.dma sS) (hsc a))}
  {kk : Prog (TpuEff nD τ sig (Elt F) Λ₀ .tc) α}

include hn hsS hsD

/-- The copy of an exchange of the reduction. -/
theorem sendR {b : Bool} (hs : src = (ex P e).src b) (hd : dst = (ex P e).dst b) (hb : bit (dim e) c = b) (a : A) :
    HR c P K e ⊢ iprop((RR c e -∗ run c kk Q)
      -∗ run c (.op (.enqueueDma src (.remote (Dev.tc (n a) : Thread nD τ) dst (.dma sS) (hsc a)) (.dma sD) (hsrc a) (hdst a) (hsem a)) fun _ => kk) Q) := by
  unfold HR RR ready
  iintro ⟨#He, ⟨Ht, Hd⟩, Hs, HO⟩ Hk
  iapply (wp_snd P K e c hb (hn a) hs hd hsS hsD) $$ [Ht Hd Hs HO] [Hk]
  · isplitr; · iexact He
    isplitl [Ht]; · iexact Ht
    isplitl [Hs]; · iexact Hs
    isplitl [Hd]; · iexact Hd
    iexact HO
  iintro H; iapply Hk; iexact H

theorem sendR₀ (o : ℕ) (ho : e.val = o) (hA : A ↔ bit (dim e) c = false) (hs : src = (ex P e).src false) (hd : dst = (ex P e).dst false) :
    env P K ⊢ iprop(ready c P e -∗ sendPay P e c -∗ owed o c -∗ (midR c P K e -∗ run c kk Q)
      -∗ run c (if a : A then .op (.enqueueDma src (.remote (Dev.tc (n a) : Thread nD τ) dst (.dma sS) (hsc a)) (.dma sD) (hsrc a) (hdst a) (hsem a)) fun _ => kk else kk) Q) := by
  subst ho
  iintro #He Hr Hs HO Hk
  iapply (run_if₀ c hA (H := HR c P K e) (R := RR c e) fun hb a => sendR c P K e hsS hsD hn hs hd hb a) $$ [Hr Hs HO] [Hk]
  · unfold HR
    isplitr; · iexact He
    isplitl [Hr]; · iexact Hr
    isplitl [Hs]; · iexact Hs
    iexact HO
  iintro H; iapply Hk; unfold midR; iexact H

theorem sendR₁ (o : ℕ) (ho : e.val + 1 = o) (hA : A ↔ bit (dim e) c = true) (hs : src = (ex P e).src true) (hd : dst = (ex P e).dst true) :
    midR c P K e ⊢ iprop((inFlight e c -∗ owed o c -∗ run c kk Q)
      -∗ run c (if a : A then .op (.enqueueDma src (.remote (Dev.tc (n a) : Thread nD τ) dst (.dma sS) (hsc a)) (.dma sD) (hsrc a) (hdst a) (hsem a)) fun _ => kk else kk) Q) := by
  subst ho
  iintro H Hk
  iapply (run_if₁ c hA (H := HR c P K e) (R := RR c e) fun hb a => sendR c P K e hsS hsD hn hs hd hb a) $$ [H] [Hk]
  · unfold midR; iexact H
  unfold RR
  iintro ⟨Hf, HO⟩
  iapply Hk $$ Hf HO

/-- The copies of an exchange of the gather: `p a` first copies the block into its half of the next one, then sends it. -/
theorem sendG {p : A → Prog (TpuEff nD τ sig (Elt F) Λ₀ .tc) α} {b : Bool} (hs : src = (ex P e).src b) (hd : dst = (ex P e).dst b) (hb : bit (dim e) c = b) (a : A)
    (hp : iprop(owns (c : Thread nD τ) src fullShare ((ex P e).val c) ∗ (∃ X, owns (c : Thread nD τ) dst fullShare X))
      ⊢ iprop((iprop(owns (c : Thread nD τ) src fullShare ((ex P e).val c) ∗ owns (c : Thread nD τ) dst fullShare ((ex P e).val c))
        -∗ run c (.op (.enqueueDma src (.remote (Dev.tc (n a) : Thread nD τ) dst (.dma sS) (hsc a)) (.dma sD) (hsrc a) (hdst a) (hsem a)) fun _ => kk) Q) -∗ run c (p a) Q)) :
    HG c P K e ⊢ iprop((RG c P e -∗ run c kk Q) -∗ run c (p a) Q) := by
  unfold HG RG ready
  iintro ⟨#He, ⟨Ht, Hd⟩, Hs, Hm, HO⟩ Hk
  rw [hb, ← hs, ← hd]
  iapply hp $$ [Hs Hm] [Hk Ht Hd HO]
  · isplitl [Hs]; · iexact Hs
    iexact Hm
  iintro ⟨Hs, Hm⟩
  ihave Hs := (Own.share (c : Thread nD τ) src fullShare ((ex P e).val c)) $$ Hs
  icases Hs with ⟨Hl, Hr⟩
  iapply (wp_snd P K e c hb (hn a) hs hd hsS hsD) $$ [Ht Hd Hl HO] [Hk Hr Hm]
  · isplitr; · iexact He
    isplitl [Ht]; · iexact Ht
    isplitl [Hl]; · unfold sendPay; rw [hb, ← hs]; iexact Hl
    isplitl [Hd]; · iexact Hd
    iexact HO
  iintro ⟨Hf, HO⟩; iapply Hk
  isplitl [Hf]; · iexact Hf
  isplitl [HO]; · iexact HO
  isplitl [Hr] <;> iassumption

theorem sendG₀ (o : ℕ) (ho : e.val = o) {p : A → Prog (TpuEff nD τ sig (Elt F) Λ₀ .tc) α} (hA : A ↔ bit (dim e) c = false) (hs : src = (ex P e).src false) (hd : dst = (ex P e).dst false)
    (hp : ∀ a, iprop(owns (c : Thread nD τ) src fullShare ((ex P e).val c) ∗ (∃ X, owns (c : Thread nD τ) dst fullShare X))
      ⊢ iprop((iprop(owns (c : Thread nD τ) src fullShare ((ex P e).val c) ∗ owns (c : Thread nD τ) dst fullShare ((ex P e).val c))
        -∗ run c (.op (.enqueueDma src (.remote (Dev.tc (n a) : Thread nD τ) dst (.dma sS) (hsc a)) (.dma sD) (hsrc a) (hdst a) (hsem a)) fun _ => kk) Q) -∗ run c (p a) Q)) :
    env P K ⊢ iprop(ready c P e -∗ curG c P e -∗ nextG c P e -∗ owed o c -∗ (midG c P K e -∗ run c kk Q)
      -∗ run c (if a : A then p a else kk) Q) := by
  subst ho
  iintro #He Hr Hs Hd HO Hk
  iapply (run_if₀ c hA (H := HG c P K e) (R := RG c P e) fun hb a => sendG c P K e hsS hsD hn hs hd hb a (hp a)) $$ [Hr Hs Hd HO] [Hk]
  · unfold HG
    isplitr; · iexact He
    isplitl [Hr]; · iexact Hr
    isplitl [Hs]; · unfold curG; iexact Hs
    isplitl [Hd]; · unfold nextG; iexact Hd
    iexact HO
  iintro H; iapply Hk; unfold midG; iexact H

theorem sendG₁ (o : ℕ) (ho : e.val + 1 = o) {p : A → Prog (TpuEff nD τ sig (Elt F) Λ₀ .tc) α} (hA : A ↔ bit (dim e) c = true) (hs : src = (ex P e).src true) (hd : dst = (ex P e).dst true)
    (hp : ∀ a, iprop(owns (c : Thread nD τ) src fullShare ((ex P e).val c) ∗ (∃ X, owns (c : Thread nD τ) dst fullShare X))
      ⊢ iprop((iprop(owns (c : Thread nD τ) src fullShare ((ex P e).val c) ∗ owns (c : Thread nD τ) dst fullShare ((ex P e).val c))
        -∗ run c (.op (.enqueueDma src (.remote (Dev.tc (n a) : Thread nD τ) dst (.dma sS) (hsc a)) (.dma sD) (hsrc a) (hdst a) (hsem a)) fun _ => kk) Q) -∗ run c (p a) Q)) :
    midG c P K e ⊢ iprop((spentG c P e -∗ stashedG c P e -∗ owed o c -∗ run c kk Q)
      -∗ run c (if a : A then p a else kk) Q) := by
  subst ho
  iintro H Hk
  iapply (run_if₁ c hA (H := HG c P K e) (R := RG c P e) fun hb a => sendG c P K e hsS hsD hn hs hd hb a (hp a)) $$ [H] [Hk]
  · unfold midG; iexact H
  unfold RG spentG stashedG
  iintro ⟨Hf, HO, Hr, Hm⟩
  iapply Hk $$ [Hf Hr] [Hm] [HO]
  · isplitl [Hf] <;> iassumption
  · iexact Hm
  · iexact HO

end Sends

/-- The first three of a step of the gather: the block is read, and written into half of the next one. -/
theorem stash {S : Shape} {off : Fin S.rank → ℕ} {sz : Fin S.rank → ℕ} {inb : ∀ a, off a + sz a ≤ S.size a}
    {cur : Buf2 ⟨S.rank, sz⟩} {big : Buf2 S} {off0 : Fin S.rank → ℕ} (h0 : off0 = fun _ => 0) {inb0 : ∀ a, off0 a + sz a ≤ sz a}
    {hl : cur.view.LoadsAt (Rect.unit (s := ⟨S.rank, sz⟩) off0 sz inb0).toLoadRect} {hl' : big.view.LoadsAt (Rect.unit off sz inb).toLoadRect}
    {hr : ∀ a, (Rect.unit off sz inb).stride a = 1}
    {pay : (Shape.Idx ⟨S.rank, sz⟩ → Elt F .f32) → (Shape.Idx ⟨S.rank, sz⟩ → Elt F .f32)} (hpay : ∀ v, pay v = v)
    {hx : (big.access (Rect.unit off sz inb)).Stores Finset.univ} {hm : Finset.univ = Finset.univ ∨ ∀ a, (Rect.unit off sz inb).stride a = 1}
    {k : Prog (TpuEff nD τ sig (Elt F) Λ₀ .tc) α} {V : Shape.Idx ⟨S.rank, sz⟩ → Elt F .f32} :
    iprop(owns (c : Thread nD τ) cur fullShare V ∗ (∃ X, owns (c : Thread nD τ) (big.slice (Rect.unit off sz inb) hr) fullShare X))
      ⊢ iprop((iprop(owns (c : Thread nD τ) cur fullShare V ∗ owns (c : Thread nD τ) (big.slice (Rect.unit off sz inb) hr) fullShare V) -∗ run c k Q)
        -∗ run c (.op (.load cur (Rect.unit (s := ⟨S.rank, sz⟩) off0 sz inb0).toLoadRect hl) fun v => .op (.load big (Rect.unit off sz inb).toLoadRect hl') fun _ =>
            .op (.store big (Rect.unit off sz inb) (pay v) Finset.univ hx hm) fun _ => k) Q) := by
  iintro ⟨Hs, %X, Hd⟩ Hk
  iapply (Own.wp_load_whole (c : Thread nD τ) 𝒱₀ none Set.univ (m := cur) h0) $$ Hs; iintro Hs
  iapply (Own.wp_load_slice (c : Thread nD τ) 𝒱₀ none Set.univ) $$ Hd; iintro Hd
  iapply (Own.wp_store_slice (c : Thread nD τ) 𝒱₀ none Set.univ) $$ Hd; iintro Hd
  iapply Hk
  isplitl [Hs]; · iexact Hs
  rw [hpay]; iexact Hd

/-- The same into a quarter of the output. -/
theorem stashO {s b : Bool} {off : Fin 3 → ℕ} {inb : ∀ a, off a + S1x128x256.size a ≤ S2x128x512.size a} {hr : ∀ a, (Rect.unit (s := S2x128x512) off S1x128x256.size inb).stride a = 1}
    {cur : Buf2 S128x256} {off0 : Fin 2 → ℕ} (h0 : off0 = fun _ => 0) {inb0 : ∀ a, off0 a + S128x256.size a ≤ S128x256.size a}
    {hl : cur.view.LoadsAt (Rect.unit (s := S128x256) off0 S128x256.size inb0).toLoadRect} {hl' : (oM : Buf2 S2x128x512).view.LoadsAt (Rect.unit (s := S2x128x512) off S1x128x256.size inb).toLoadRect}
    {pay : Vec F S128x256 .f32 → Vec F S1x128x256 .f32} (hpay : ∀ v, pay v = shapeCast S1x128x256 v shapeCasts_S128x256_S1x128x256)
    {hx : ((oM : Buf2 S2x128x512).access (Rect.unit (s := S2x128x512) off S1x128x256.size inb)).Stores Finset.univ} {hm : Finset.univ = Finset.univ ∨ ∀ a, (Rect.unit (s := S2x128x512) off S1x128x256.size inb).stride a = 1}
    {k : Prog (TpuEff nD τ sig (Elt F) Λ₀ .tc) α} {V : Vec F S128x256 .f32} :
    iprop(owns (c : Thread nD τ) cur fullShare V
        ∗ (∃ X, owns (c : Thread nD τ) (((oM : Buf2 S2x128x512).slice (Rect.unit (s := S2x128x512) off S1x128x256.size inb) hr).squeeze S128x256 squeezes_S1x128x256_S128x256) fullShare X))
      ⊢ iprop((iprop(owns (c : Thread nD τ) cur fullShare V
          ∗ owns (c : Thread nD τ) (((oM : Buf2 S2x128x512).slice (Rect.unit (s := S2x128x512) off S1x128x256.size inb) hr).squeeze S128x256 squeezes_S1x128x256_S128x256) fullShare V) -∗ run c k Q)
        -∗ run c (.op (.load cur (Rect.unit (s := S128x256) off0 S128x256.size inb0).toLoadRect hl) fun v =>
            .op (.load (oM : Buf2 S2x128x512) (Rect.unit (s := S2x128x512) off S1x128x256.size inb).toLoadRect hl') fun _ =>
            .op (.store (oM : Buf2 S2x128x512) (Rect.unit (s := S2x128x512) off S1x128x256.size inb) (pay v) Finset.univ hx hm) fun _ => k) Q) := by
  rw [Own.squeeze (c : Thread nD τ) _ fullShare squeezes_S1x128x256_S128x256 V shapeCasts_S128x256_S1x128x256]
  iintro ⟨Hs, %X, Hd⟩ Hk
  ihave Hd := (Entails.of_eq (Own.squeeze (c : Thread nD τ) _ fullShare squeezes_S1x128x256_S128x256 X shapeCasts_S128x256_S1x128x256)) $$ Hd
  iapply (Own.wp_load_whole (c : Thread nD τ) 𝒱₀ none Set.univ (m := cur) h0) $$ Hs; iintro Hs
  iapply (Own.wp_load_slice (c : Thread nD τ) 𝒱₀ none Set.univ) $$ Hd; iintro Hd
  iapply (Own.wp_store_slice (c : Thread nD τ) 𝒱₀ none Set.univ) $$ Hd; iintro Hd
  iapply Hk
  isplitl [Hs]; · iexact Hs
  rw [hpay]; iexact Hd

/-- Choosing between the two halves of a block by the device's digit. -/
theorem select_half {s s' : Shape} (e : Bool → s'.Idx → s.Idx) (X : Vec F s .f32) (b : Bool) :
    Scalar.select (isLow b) (fun j => X (e false j)) (fun j => X (e true j)) = fun j => X (e b j) := by
  cases b <;> rfl

/-- A step of the reduction: both halves of the block and what landed are read, the next block written. -/
theorem fold_step {S : Shape} {sz : Fin S.rank → ℕ} {o₀ o₁ : Fin S.rank → ℕ} {i₀ : ∀ a, o₀ a + sz a ≤ S.size a} {i₁ : ∀ a, o₁ a + sz a ≤ S.size a}
    {m : Buf2 S} {mr mw : Buf2 ⟨S.rank, sz⟩} {off0 : Fin S.rank → ℕ} (h0 : off0 = fun _ => 0) {inb0 : ∀ a, off0 a + sz a ≤ sz a}
    {hl₀ : m.view.LoadsAt (Rect.unit o₀ sz i₀).toLoadRect} {hl₁ : m.view.LoadsAt (Rect.unit o₁ sz i₁).toLoadRect}
    {hlr : mr.view.LoadsAt (Rect.unit (s := ⟨S.rank, sz⟩) off0 sz inb0).toLoadRect} {hlw : mw.view.LoadsAt (Rect.unit (s := ⟨S.rank, sz⟩) off0 sz inb0).toLoadRect}
    {pay : (v₀ v₁ v₂ : Shape.Idx ⟨S.rank, sz⟩ → Elt F .f32) → (Shape.Idx ⟨S.rank, sz⟩ → Elt F .f32)}
    {hx : (mw.access (Rect.unit (s := ⟨S.rank, sz⟩) off0 sz inb0)).Stores Finset.univ} {hm : Finset.univ = Finset.univ ∨ ∀ a, (Rect.unit (s := ⟨S.rank, sz⟩) off0 sz inb0).stride a = 1}
    {k : PUnit → Prog (TpuEff nD τ sig (Elt F) Λ₀ .tc) α} {q : PosShare TreeShare} {X : S.Idx → Elt F .f32} {R : Shape.Idx ⟨S.rank, sz⟩ → Elt F .f32} {W : Shape.Idx ⟨S.rank, sz⟩ → Elt F .f32}
    (hW : pay (fun j => X ((Rect.unit o₀ sz i₀).emb j)) (fun j => X ((Rect.unit o₁ sz i₁).emb j)) R = W) :
    (owns (c : Thread nD τ) m q X : sProp 𝕄) ⊢ iprop(owns (c : Thread nD τ) mr fullShare R -∗ (∃ Y, owns (c : Thread nD τ) mw fullShare Y)
      -∗ (owns (c : Thread nD τ) m q X -∗ owns (c : Thread nD τ) mr fullShare R -∗ owns (c : Thread nD τ) mw fullShare W -∗ run c (k ⟨⟩) Q)
      -∗ run c (.op (.load m (Rect.unit o₀ sz i₀).toLoadRect hl₀) fun v₀ => .op (.load m (Rect.unit o₁ sz i₁).toLoadRect hl₁) fun v₁ =>
          .op (.load mr (Rect.unit (s := ⟨S.rank, sz⟩) off0 sz inb0).toLoadRect hlr) fun v₂ => .op (.load mw (Rect.unit (s := ⟨S.rank, sz⟩) off0 sz inb0).toLoadRect hlw) fun _ =>
          .op (.store mw (Rect.unit (s := ⟨S.rank, sz⟩) off0 sz inb0) (pay v₀ v₁ v₂) Finset.univ hx hm) k) Q) := by
  subst hW
  iintro Hs Hr ⟨%Y, Hw⟩ Hk
  iapply (Own.wp_load (c : Thread nD τ) 𝒱₀ none Set.univ) $$ Hs; iintro Hs
  iapply (Own.wp_load (c : Thread nD τ) 𝒱₀ none Set.univ) $$ Hs; iintro Hs
  iapply (Own.wp_load_whole (c : Thread nD τ) 𝒱₀ none Set.univ (m := mr) h0) $$ Hr; iintro Hr
  iapply (Own.wp_load_whole (c : Thread nD τ) 𝒱₀ none Set.univ (m := mw) h0) $$ Hw; iintro Hw
  iapply (Own.wp_store_whole (c : Thread nD τ) 𝒱₀ none Set.univ (m := mw) h0) $$ Hw; iintro Hw
  iapply Hk $$ Hs Hr [Hw]; iexact Hw

/-- The landing of exchange `e`, later ones still owed. -/
theorem land (e : Fin 16) {n : ℕ} (hn : e.val < n) {sD : DmaSem sig} (hsD : sD = rIx e)
    {sp : Space} {s : Shape} {el : EltTy} {src : Memref sig .tc sp s el} {dst : Buf2 (ex (F := F) P e).sh} {hsrc : src.view.WordExact} {hdst : dst.view.WordExact}
    {k : PUnit → Prog (TpuEff nD τ sig (Elt F) Λ₀ .tc) α} :
    env P K ⊢ iprop(recvRdy e c -∗ owed n c -∗ (recvPay P e c -∗ semVal (recvCell e c) 0 -∗ owed n c -∗ run c (k ⟨⟩) Q)
      -∗ run c (.op (.waitDma2 sD src dst hsrc hdst) k) Q) := by
  iintro #He Hr HO Hk
  iapply (wp_rcv P K e c hn hsD) $$ [Hr HO] [Hk]
  · isplitr; · iexact He
    isplitl [Hr] <;> iassumption
  iintro ⟨Hp, Hz, HO⟩; iapply Hk $$ Hp Hz HO

/-- The wait for the end of exchange `e`'s copy. -/
theorem done (e : Fin 16) {sD : DmaSem sig} (hsD : sD = sIx e)
    {sp : Space} {s : Shape} {el : EltTy} {src : Memref sig .tc sp s el} {dst : Buf2 (ex (F := F) P e).sh} {hsrc : src.view.WordExact} {hdst : dst.view.WordExact}
    {k : PUnit → Prog (TpuEff nD τ sig (Elt F) Λ₀ .tc) α} :
    env P K ⊢ iprop(inFlight e c -∗ owed 16 c -∗ (iprop(sendPay P e c ∗ semVal (sendCell e c) 0) -∗ owed 16 c -∗ run c (k ⟨⟩) Q)
      -∗ run c (.op (.waitDma2 sD src dst hsrc hdst) k) Q) := by
  iintro #He Hr HO Hk
  iapply (wp_don P K e c hsD) $$ [Hr HO] [Hk]
  · isplitr; · iexact He
    isplitl [Hr] <;> iassumption
  iintro ⟨Hp, Hz, HO⟩; iapply Hk $$ [Hp Hz] HO
  isplitl [Hp] <;> iassumption

/-- What is kept of a block one of whose halves is lent: the left share of the other half, and a share of the whole to read by. -/
def spare {S : Shape} (e : Fin 16) (m : Buf2 S) (r : Bool → Rect S) (hr : ∀ b a, (r b).stride a = 1) (X : S.Idx → Elt F .f32) : sProp 𝕄 :=
  iprop(owns (c : Thread nD τ) (m.slice (r (bit (dim e) c)) (hr _)) fullShare.left (fun j => X ((r (bit (dim e) c)).emb j)) ∗ owns (c : Thread nD τ) m fullShare.right X)

theorem lend_bit {S : Shape} (m : Buf2 S) (r : Bool → Rect S) (hr : ∀ b a, (r b).stride a = 1) (h : Halves r) (b : Bool) (X : S.Idx → Elt F .f32) :
    (owns (c : Thread nD τ) m fullShare X : sProp 𝕄) ⊢ iprop(owns (c : Thread nD τ) (m.slice (r !b) (hr _)) fullShare.left (fun j => X ((r !b).emb j))
      ∗ owns (c : Thread nD τ) (m.slice (r b) (hr _)) fullShare.left (fun j => X ((r b).emb j)) ∗ owns (c : Thread nD τ) m fullShare.right X) := by
  iintro H
  ihave H := (Own.share (c : Thread nD τ) m fullShare X) $$ H
  icases H with ⟨Hl, Hr⟩
  ihave Hl := (Own.split (c : Thread nD τ) m fullShare.left (r false) (r true) (hr _) (hr _) h.disj h.cover X) $$ Hl
  icases Hl with ⟨H0, H1⟩
  cases b
  · isplitl [H1]; · iexact H1
    isplitl [H0]; · iexact H0
    iexact Hr
  · isplitl [H0]; · iexact H0
    isplitl [H1]; · iexact H1
    iexact Hr

/-- Lending half of a block for a copy. -/
theorem lend {S : Shape} (e : Fin 16) (m : Buf2 S) (r : Bool → Rect S) (hr : ∀ b a, (r b).stride a = 1) (h : Halves r) (X : S.Idx → Elt F .f32)
    (hpay : (owns (c : Thread nD τ) (m.slice (r !bit (dim e) c) (hr _)) fullShare.left (fun j => X ((r !bit (dim e) c).emb j)) : sProp 𝕄) ⊢ sendPay P e c) :
    (owns (c : Thread nD τ) m fullShare X : sProp 𝕄) ⊢ iprop(sendPay P e c ∗ spare c e m r hr X) :=
  (lend_bit c m r hr h (bit (dim e) c) X).trans (sep_mono_l hpay)

theorem unlend_bit {S : Shape} (m : Buf2 S) (r : Bool → Rect S) (hr : ∀ b a, (r b).stride a = 1) (h : Halves r) (b : Bool) (X : S.Idx → Elt F .f32) :
    iprop(owns (c : Thread nD τ) (m.slice (r !b) (hr _)) fullShare.left (fun j => X ((r !b).emb j))
      ∗ owns (c : Thread nD τ) (m.slice (r b) (hr _)) fullShare.left (fun j => X ((r b).emb j)) ∗ owns (c : Thread nD τ) m fullShare.right X)
      ⊢ (owns (c : Thread nD τ) m fullShare X : sProp 𝕄) := by
  iintro ⟨Ha, Hb, Hr⟩
  iapply (Own.unshare (c : Thread nD τ) m fullShare X)
  isplitl [Ha Hb]
  · iapply (Own.join (c : Thread nD τ) m fullShare.left (r false) (r true) (hr _) (hr _) h.disj h.cover X (fun j => X ((r false).emb j)) (fun j => X ((r true).emb j)) (fun _ => rfl) (fun _ => rfl))
    cases b
    · isplitl [Hb]; · iexact Hb
      iexact Ha
    · isplitl [Ha]; · iexact Ha
      iexact Hb
  · iexact Hr

/-- The block whole again. -/
theorem unlend {S : Shape} (e : Fin 16) (m : Buf2 S) (r : Bool → Rect S) (hr : ∀ b a, (r b).stride a = 1) (h : Halves r) (X : S.Idx → Elt F .f32)
    (hpay : sendPay P e c ⊢ (owns (c : Thread nD τ) (m.slice (r !bit (dim e) c) (hr _)) fullShare.left (fun j => X ((r !bit (dim e) c).emb j)) : sProp 𝕄)) :
    iprop(sendPay P e c ∗ spare c e m r hr X) ⊢ (owns (c : Thread nD τ) m fullShare X : sProp 𝕄) :=
  (sep_mono_l hpay).trans (unlend_bit c m r hr h (bit (dim e) c) X)

/-- A block of the gather from its own half and the landed one. -/
theorem joined {S : Shape} (m : Buf2 S) (r : Bool → Rect S) (hr : ∀ b a, (r b).stride a = 1) (h : Halves r) (i : Fin 4)
    (V : Dev nD → (b : Bool) → (r b).shape.Idx → Elt F .f32) :
    iprop(owns (c : Thread nD τ) (m.slice (r (bit i c)) (hr _)) fullShare (V c (bit i c))
      ∗ owns (c : Thread nD τ) (m.slice (r !bit i c) (hr _)) fullShare (V (peer i c) (!bit i c)))
      ⊢ (owns (c : Thread nD τ) m fullShare (glue h fun b => V (holder i c b) b) : sProp 𝕄) := by
  iintro ⟨Ha, Hb⟩
  iapply (Own.join (c : Thread nD τ) m fullShare (r false) (r true) (hr _) (hr _) h.disj h.cover (glue h fun b => V (holder i c b) b) (V (holder i c false) false) (V (holder i c true) true)
    (fun j => glue_emb h (fun b => V (holder i c b) b) false j) (fun j => glue_emb h (fun b => V (holder i c b) b) true j))
  unfold holder
  cases hb : bit i c
  · rw [if_pos rfl, if_neg (by decide)]
    isplitl [Ha]; · iexact Ha
    iexact Hb
  · rw [if_pos rfl, if_neg (by decide)]
    isplitl [Hb]; · iexact Hb
    iexact Ha

end Steps

end Cert.KernelIdealProof

end
-- ==== Proof.KernelIdealFold.lean ====
/-
# A step of the reduction

The kept half of a block plus what landed is the next block; and the bundles of ownership the parts of the body hand on.
-/
module

public import proofs.«01_k».proof.Proof.KernelIdealStep

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (c : Dev nD)

/-- A block one of whose halves is lent to exchange `e`'s copy. -/
def spent {S : Shape} (e : Fin 16) (m : Buf2 S) (r : Bool → Rect S) (hr : ∀ b a, (r b).stride a = 1) (X : S.Idx → Elt F .f32) : sProp 𝕄 :=
  iprop(inFlight e c ∗ spare c e m r hr X)
/-- A buffer at any contents. -/
abbrev anyOf {S : Shape} (m : Buf2 S) : sProp 𝕄 := iprop(∃ X, owns (c : Thread nD τ) m fullShare X)
/-- A buffer holding `X`. -/
abbrev holds {S : Shape} (m : Buf2 S) (X : S.Idx → Elt F .f32) : sProp 𝕄 := owns (c : Thread nD τ) m fullShare X

abbrev spent0 (e : Fin 16) (s : Bool) : sProp 𝕄 := spent c e (w0M s) h256 (fun _ _ => rfl) (P s c)
abbrev spent1 (e : Fin 16) (s : Bool) : sProp 𝕄 := spent c e (w1M s) h128 (fun _ _ => rfl) (W1 P s c)
abbrev spent2 (e : Fin 16) (s : Bool) : sProp 𝕄 := spent c e (w2M s) h64 (fun _ _ => rfl) (W2 P s c)
abbrev spent3 (e : Fin 16) (s : Bool) : sProp 𝕄 := spent c e (w3M s) h32 (fun _ _ => rfl) (W3 P s c)
/-- A landed buffer and its counter at zero. -/
abbrev got (e : Fin 16) : sProp 𝕄 := iprop(recvPay P e c ∗ semVal (recvCell e c) 0)

theorem zero2 : (![0, 0] : Fin 2 → ℕ) = fun _ => 0 := by funext i; fin_cases i <;> rfl

/-- What the kept half and the landed half add to. -/
theorem fold_value {S S' : Shape} (h : Bool → S'.Idx → S.Idx) (X : Dev nD → Vec F S .f32) (i : Fin 4) :
    addf (Scalar.select (isLow (bit i c)) (fun j => X c (h false j)) (fun j => X c (h true j))) (fun j => X (peer i c) (h (!bit i (peer i c)) j))
      = (reduce i h X c : FVec F S' .f32) := by
  rw [select_half, bit_peer, Bool.not_not]; rfl

theorem run_ret {α : Type} {Q : α → sProp (MT nD τ sig Unit (Elt F) ℕ UU ℕ)} (a : α) : Q a ⊢ run c (.ret a) Q := by
  show Q a ⊢ wp _ _ _ _ _
  rw [wp_ret]; iintro H; imodintro; iexact H

theorem spent_intro {S : Shape} {e : Fin 16} {m : Buf2 S} {r : Bool → Rect S} {hr : ∀ b a, (r b).stride a = 1} {X : S.Idx → Elt F .f32} :
    (inFlight e c : sProp 𝕄) ⊢ iprop(spare c e m r hr X -∗ spent c e m r hr X) := by
  unfold spent; iintro H H'; isplitl [H] <;> iassumption

theorem spent_elim {S : Shape} {e : Fin 16} {m : Buf2 S} {r : Bool → Rect S} {hr : ∀ b a, (r b).stride a = 1} {X : S.Idx → Elt F .f32} :
    (spent c e m r hr X : sProp 𝕄) ⊢ iprop(inFlight e c ∗ spare c e m r hr X) := by
  unfold spent; exact .rfl

/-- A lent block may be read. -/
theorem load_spent (e : Fin 16) {α : Type} {Q : α → sProp (MT nD τ sig Unit (Elt F) ℕ UU ℕ)} {S : Shape} {m : Buf2 S} {r : Bool → Rect S} {hr : ∀ b a, (r b).stride a = 1} {X : S.Idx → Elt F .f32}
    {sz o : Fin S.rank → ℕ} {i : ∀ a, o a + sz a ≤ S.size a} {hl : m.view.LoadsAt (Rect.unit o sz i).toLoadRect} {k} :
    (spent c e m r hr X : sProp 𝕄) ⊢ iprop((spent c e m r hr X -∗ run c (k fun j => X ((Rect.unit o sz i).emb j)) Q) -∗ run c (.op (.load m (Rect.unit o sz i).toLoadRect hl) k) Q) := by
  unfold spent spare
  iintro ⟨Hf, Hl, Hm⟩ Hk
  iapply (Own.wp_load (c : Thread nD τ) 𝒱₀ none Set.univ) $$ Hm; iintro Hm
  iapply Hk
  isplitl [Hf]; · iexact Hf
  isplitl [Hl] <;> iassumption

/-- A step of the reduction on a lent block. -/
theorem fold_at (e : Fin 16) {α : Type} {Q : α → sProp (MT nD τ sig Unit (Elt F) ℕ UU ℕ)} {S : Shape} {sz : Fin S.rank → ℕ} {o₀ o₁ : Fin S.rank → ℕ} {i₀ : ∀ a, o₀ a + sz a ≤ S.size a} {i₁ : ∀ a, o₁ a + sz a ≤ S.size a}
    {m : Buf2 S} (r : Bool → Rect S) (hr : ∀ b a, (r b).stride a = 1) (X : S.Idx → Elt F .f32) (mr : Buf2 ⟨S.rank, sz⟩) (R : Shape.Idx ⟨S.rank, sz⟩ → Elt F .f32) (hR : recvPay P e c = owns (c : Thread nD τ) mr fullShare R) {mw : Buf2 ⟨S.rank, sz⟩} {off0 : Fin S.rank → ℕ} (h0 : off0 = fun _ => 0) {inb0 : ∀ a, off0 a + sz a ≤ sz a}
    {hl₀ : m.view.LoadsAt (Rect.unit o₀ sz i₀).toLoadRect} {hl₁ : m.view.LoadsAt (Rect.unit o₁ sz i₁).toLoadRect}
    {hlr : mr.view.LoadsAt (Rect.unit (s := ⟨S.rank, sz⟩) off0 sz inb0).toLoadRect} {hlw : mw.view.LoadsAt (Rect.unit (s := ⟨S.rank, sz⟩) off0 sz inb0).toLoadRect}
    {pay : (v₀ v₁ v₂ : Shape.Idx ⟨S.rank, sz⟩ → Elt F .f32) → (Shape.Idx ⟨S.rank, sz⟩ → Elt F .f32)}
    {hx : (mw.access (Rect.unit (s := ⟨S.rank, sz⟩) off0 sz inb0)).Stores Finset.univ} {hm : Finset.univ = Finset.univ ∨ ∀ a, (Rect.unit (s := ⟨S.rank, sz⟩) off0 sz inb0).stride a = 1}
    {k : PUnit → Prog (TpuEff nD τ sig (Elt F) Λ₀ .tc) α} (W : Shape.Idx ⟨S.rank, sz⟩ → Elt F .f32)
    (hW : pay (fun j => X ((Rect.unit o₀ sz i₀).emb j)) (fun j => X ((Rect.unit o₁ sz i₁).emb j)) R = W) :
    (spent c e m r hr X : sProp 𝕄) ⊢ iprop(recvPay P e c -∗ anyOf c mw
      -∗ (spent c e m r hr X -∗ recvPay P e c -∗ holds c mw W -∗ run c (k ⟨⟩) Q)
      -∗ run c (.op (.load m (Rect.unit o₀ sz i₀).toLoadRect hl₀) fun v₀ => .op (.load m (Rect.unit o₁ sz i₁).toLoadRect hl₁) fun v₁ =>
          .op (.load mr (Rect.unit (s := ⟨S.rank, sz⟩) off0 sz inb0).toLoadRect hlr) fun v₂ => .op (.load mw (Rect.unit (s := ⟨S.rank, sz⟩) off0 sz inb0).toLoadRect hlw) fun _ =>
          .op (.store mw (Rect.unit (s := ⟨S.rank, sz⟩) off0 sz inb0) (pay v₀ v₁ v₂) Finset.univ hx hm) k) Q) := by
  rw [hR]
  unfold spent spare
  iintro ⟨Hf, Hl, Hm⟩ Hr Hw Hk
  iapply (fold_step c h0 hW) $$ Hm Hr Hw
  iintro Hm Hr Hw
  iapply Hk $$ [Hf Hl Hm] Hr Hw
  isplitl [Hf]; · iexact Hf
  isplitl [Hl] <;> iassumption

theorem recv00 : recvPay P 0 c = holds c (r0M false) (fun j => P false (peer 0 c) ((h256 !bit 0 (peer 0 c)).emb j)) := rfl
theorem value00 : k0_pay42 (isLow (bit 0 c)) (fun j => P false c ((h256 false).emb j)) (fun j => P false c ((h256 true).emb j)) (fun j => P false (peer 0 c) ((h256 !bit 0 (peer 0 c)).emb j)) = W1 P false c :=
  (shapeCast_self _ _).trans (fold_value (S' := S128x256) c (fun b j => (h256 b).emb j) (P false) 0)

theorem recv10 : recvPay P 1 c = holds c (r0M true) (fun j => P true (peer 2 c) ((h256 !bit 2 (peer 2 c)).emb j)) := rfl
theorem value10 : k0_pay43 (isLow (bit 2 c)) (fun j => P true c ((h256 false).emb j)) (fun j => P true c ((h256 true).emb j)) (fun j => P true (peer 2 c) ((h256 !bit 2 (peer 2 c)).emb j)) = W1 P true c :=
  (shapeCast_self _ _).trans (fold_value (S' := S128x256) c (fun b j => (h256 b).emb j) (P true) 2)

theorem recv01 : recvPay P 2 c = holds c (r1M false) (fun j => W1 P false (peer 1 c) ((h128 !bit 1 (peer 1 c)).emb j)) := rfl
theorem value01 : k0_pay44 (isLow (bit 1 c)) (fun j => W1 P false c ((h128 false).emb j)) (fun j => W1 P false c ((h128 true).emb j)) (fun j => W1 P false (peer 1 c) ((h128 !bit 1 (peer 1 c)).emb j)) = W2 P false c :=
  (shapeCast_self _ _).trans (fold_value (S' := S64x256) c (fun b j => (h128 b).emb j) (W1 P false) 1)

theorem recv11 : recvPay P 3 c = holds c (r1M true) (fun j => W1 P true (peer 3 c) ((h128 !bit 3 (peer 3 c)).emb j)) := rfl

theorem recv02 : recvPay P 4 c = holds c (r2M false) (fun j => W2 P false (peer 2 c) ((h64 !bit 2 (peer 2 c)).emb j)) := rfl
theorem value02 : k0_pay47 (isLow (bit 2 c)) (fun j => W2 P false c ((h64 false).emb j)) (fun j => W2 P false c ((h64 true).emb j)) (fun j => W2 P false (peer 2 c) ((h64 !bit 2 (peer 2 c)).emb j)) = W3 P false c :=
  fold_value (S' := S32x256) c (fun b j => (h64 b).emb j) (W2 P false) 2

theorem recv12 : recvPay P 5 c = holds c (r2M true) (fun j => W2 P true (peer 0 c) ((h64 !bit 0 (peer 0 c)).emb j)) := rfl
theorem value12 : k0_pay49 (isLow (bit 0 c)) (fun j => W2 P true c ((h64 false).emb j)) (fun j => W2 P true c ((h64 true).emb j)) (fun j => W2 P true (peer 0 c) ((h64 !bit 0 (peer 0 c)).emb j)) = W3 P true c :=
  (shapeCast_self _ _).trans (fold_value (S' := S32x256) c (fun b j => (h64 b).emb j) (W2 P true) 0)

theorem recv03 : recvPay P 6 c = holds c (r3M false) (fun j => W3 P false (peer 3 c) ((h32 !bit 3 (peer 3 c)).emb j)) := rfl
theorem value03 : k0_pay50 (isLow (bit 3 c)) (fun j => W3 P false c ((h32 false).emb j)) (fun j => W3 P false c ((h32 true).emb j)) (fun j => W3 P false (peer 3 c) ((h32 !bit 3 (peer 3 c)).emb j)) = W4 P false c :=
  (shapeCast_self _ _).trans (fold_value (S' := S16x256) c (fun b j => (h32 b).emb j) (W3 P false) 3)

theorem recv13 : recvPay P 7 c = holds c (r3M true) (fun j => W3 P true (peer 1 c) ((h32 !bit 1 (peer 1 c)).emb j)) := rfl
theorem value13 : k0_pay51 (isLow (bit 1 c)) (fun j => W3 P true c ((h32 false).emb j)) (fun j => W3 P true c ((h32 true).emb j)) (fun j => W3 P true (peer 1 c) ((h32 !bit 1 (peer 1 c)).emb j)) = W4 P true c :=
  (shapeCast_self _ _).trans (fold_value (S' := S16x256) c (fun b j => (h32 b).emb j) (W3 P true) 1)

end Cert.KernelIdealProof

end
-- ==== Proof.KernelIdealAttn.lean ====
/-
# What a device computes on its own

Before anything is exchanged a device multiplies its rows of `x` by its columns of `Wq`, runs eight heads of attention per
batch element over its two key/value heads, and multiplies the result by its rows of `Wo`. The heads are written one at a
time into one buffer; `upto` says how far that has come.
-/
module

public import proofs.«01_k».proof.Proof.KernelIdealFold

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's operands: its copy of `x`, its columns of `Wq`, its rows of `Wo`, and its two heads of keys and values. -/
structure In (F : FTy → Type) where
  x : S2x128x512.Idx → Elt F .f32
  q : S512x512.Idx → Elt F .f32
  wo : S512x512.Idx → Elt F .f32
  k : S2x128x128.Idx → Elt F .f32
  v : S2x128x128.Idx → Elt F .f32

/-- Batch element `b` of a buffer of all heads' columns. -/
abbrev rowR (b : Fin 2) : Rect S2x128x512 := Rect.unit (s := S2x128x512) ![b.val, 0, 0] S1x128x512.size
  (Fin.forall_fin_succ.mpr ⟨by simp [S1x128x512, S2x128x512]; omega, Fin.forall_fin_two.mpr ⟨by simp, by simp⟩⟩)
/-- Batch element `b`, head `h`. -/
abbrev attR (b : Fin 2) (h : Fin 8) : Rect S2x128x512 := Rect.unit (s := S2x128x512) ![b.val, 0, 64 * h.val] S1x128x64.size
  (Fin.forall_fin_succ.mpr ⟨by simp [S1x128x64, S2x128x512]; omega, Fin.forall_fin_two.mpr ⟨by simp, by simp; omega⟩⟩)
/-- Batch element `b`, the key/value head that head `h` attends to. -/
abbrev kvR (b : Fin 2) (h : Fin 8) : Rect S2x128x128 := Rect.unit (s := S2x128x128) ![b.val, 0, 64 * (h.val / 4)] S1x128x64.size
  (Fin.forall_fin_succ.mpr ⟨by simp [S1x128x64, S2x128x128]; omega, Fin.forall_fin_two.mpr ⟨by simp, by simp; omega⟩⟩)

theorem slices_head (h : Fin 8) : S128x512.Slices ![0, 64 * h.val] S128x64 :=
  ⟨rfl, Fin.forall_fin_two.mpr ⟨by simp, by simp; omega⟩⟩

/-- The projected rows of batch element `b`. -/
def qp (I : In F) (b : Fin 2) : FVec F S128x512 .f32 := k0_pay1 (fun i => I.x ((rowR b).emb i)) I.q

/-- One head of attention: the scaled scores' exponentials less each row's largest, times the values, over their sums. -/
def head (h : Fin 8) (q : FVec F S128x512 .f32) (k v : FVec F S128x64 .f32) : FVec F S128x64 .f32 :=
  let s : FVec F S128x128 .f32 := mulf (matmul dot_S128x64_S128x64_S128x128_1_1_0_0_n_n none
    (extractStridedSlice S128x64 ![0, 64 * h.val] q (slices_head h)) k (constant S128x128 .f32 0x00000000#32))
    (broadcast S128x128 (Scalar.ofBits .f32 0x3E000000#32 : F .f32))
  let p : FVec F S128x128 .f32 := exp (subf s (broadcastTo S128x128 (shapeCast S128x1
    (multiReduction .maximumf [1] S128 s 0xFF800000#32 reduces_S128x128_S128 (.inl rfl) rfl) shapeCasts_S128_S128x1) broadcasts_S128x1_S128x128))
  divf (matmul dot_S128x128_S128x64_S128x64_1_0_0_1_n_n none p v (constant S128x64 .f32 0x00000000#32))
    (broadcastTo S128x64 (shapeCast S128x1 (multiReduction .add [1] S128 p 0x00000000#32 reduces_S128x128_S128 (.inl rfl) rfl)
      shapeCasts_S128_S128x1) broadcasts_S128x1_S128x64)

/-- Keys or values `X` as batch element `b`'s head `h` reads them. -/
def kv (X : S2x128x128.Idx → Elt F .f32) (b : Fin 2) (h : Fin 8) : FVec F S128x64 .f32 :=
  shapeCast S128x64 (fun i => X ((kvR b h).emb i) : FVec F S1x128x64 .f32) shapeCasts_S1x128x64_S128x64

/-- What the buffer of all heads gets at batch element `b`, head `h`. -/
def att (I : In F) (b : Fin 2) (h : Fin 8) : FVec F S1x128x64 .f32 :=
  shapeCast S1x128x64 (head h (qp I b) (kv I.k b h) (kv I.v b h)) shapeCasts_S128x64_S1x128x64

/-- A position of the row of all heads: its head, and the position within it. -/
def headOf (i : S1x128x512.Idx) : Fin 8 := ⟨(i 2).val / 64, by have : (i 2).val < 512 := (i 2).isLt; omega⟩
def inHead (i : S1x128x512.Idx) : S1x128x64.Idx :=
  fun a => match a with
    | 0 => ⟨0, by simp⟩
    | 1 => ⟨(i 1).val, (i 1).isLt⟩
    | 2 => ⟨(i 2).val % 64, by show (i 2).val % 64 < 64; omega⟩

theorem emb_head (b : Fin 2) (i : S1x128x512.Idx) : (attR b (headOf i)).emb (inHead i) = (rowR b).emb i := by
  funext a
  apply Fin.ext
  have h0 : (i 0).val < 1 := (i 0).isLt
  fin_cases a
  · simp [Rect.emb_apply, Rect.off_unit, Rect.stride_unit, inHead]; omega
  · simp [Rect.emb_apply, Rect.off_unit, Rect.stride_unit, inHead]
  · simp [Rect.emb_apply, Rect.off_unit, Rect.stride_unit, inHead, headOf]; omega

/-- All heads of batch element `b`. -/
def atts (I : In F) (b : Fin 2) : FVec F S1x128x512 .f32 := fun i => att I b (headOf i) (inHead i)

/-- Batch element `b`'s product with the device's rows of `Wo`. -/
def prod (I : In F) (b : Fin 2) : FVec F S128x512 .f32 := k0_pay18 (atts I b) I.wo

theorem slices_half (s : Bool) : S128x512.Slices ![0, bif s then 256 else 0] S128x256 := by cases s <;> decide

/-- Its columns of stream `s`. -/
def prodS (I : In F) (s : Bool) (b : Fin 2) : FVec F S128x256 .f32 :=
  shapeCast S128x256 (extractStridedSlice S128x256 ![0, bif s then 256 else 0] (prod I b) (slices_half s)) shapeCasts_S128x256_S128x256

/-- The partial product of stream `s`: batch element 0 above batch element 1. -/
def part (I : In F) (s : Bool) : S256x256.Idx → Elt F .f32 := glue halves256 fun b => prodS I s (bif b then 1 else 0)

/-! ## The buffer of all heads, written so far -/

/-- The heads before the `n`-th (counting batch element 0's first) are in place. -/
def upto (I : In F) (n : ℕ) (c : Dev nD) : sProp 𝕄 :=
  iprop(∃ X, ⌜∀ (b : Fin 2) (h : Fin 8) j, 8 * b.val + h.val < n → X ((attR b h).emb j) = att I b h j⌝ ∗ owns (c : Thread nD τ) attM fullShare X)

section Steps

variable (I : In F) (c : Dev nD) {α : Type} {Q : α → sProp (MT nD τ sig Unit (Elt F) ℕ UU ℕ)}

/-- A load whose value nothing uses. -/
theorem load_upto {n : ℕ} {r : Rect S2x128x512} {hl : attM.view.LoadsAt r.toLoadRect}
    {k : (r.shape.Idx → Elt F .f32) → Prog (TpuEff nD τ sig (Elt F) Λ₀ .tc) α} :
    (upto I n c : sProp 𝕄) ⊢ iprop((∀ v, upto I n c -∗ run c (k v) Q) -∗ run c (.op (.load attM r.toLoadRect hl) k) Q) := by
  unfold upto
  iintro ⟨%X, %hX, H⟩ Hk
  iapply (Own.wp_load (c : Thread nD τ) 𝒱₀ none Set.univ (m := attM) (r := r)) $$ H
  iintro H
  iapply Hk $$ %_ [H]
  iexists X
  isplitr; · ipureintro; exact hX
  iexact H

/-- The batch element's row, all its heads written. -/
theorem load_atts (b : Fin 2) {n : ℕ} (hn : 8 * b.val + 8 ≤ n) {off : Fin 3 → ℕ} (ho : off = ![b.val, 0, 0])
    {inb : ∀ a, off a + S1x128x512.size a ≤ S2x128x512.size a} {hl : attM.view.LoadsAt (Rect.unit (s := S2x128x512) off S1x128x512.size inb).toLoadRect}
    {k : (S1x128x512.Idx → Elt F .f32) → Prog (TpuEff nD τ sig (Elt F) Λ₀ .tc) α} :
    (upto I n c : sProp 𝕄) ⊢ iprop((upto I n c -∗ run c (k (atts I b)) Q)
      -∗ run c (.op (.load attM (Rect.unit (s := S2x128x512) off S1x128x512.size inb).toLoadRect hl) k) Q) := by
  subst ho
  unfold upto
  iintro ⟨%X, %hX, H⟩ Hk
  iapply (Own.wp_load (c : Thread nD τ) 𝒱₀ none Set.univ (m := attM) (r := rowR b)) $$ H
  have hv : (fun i => X ((rowR b).emb i)) = atts I b := by
    funext i
    rw [← emb_head b i]
    exact hX b (headOf i) (inHead i) (by have := (headOf i).isLt; omega)
  rw [hv]
  iintro H
  iapply Hk
  iexists X
  isplitr; · ipureintro; exact hX
  iexact H

theorem att_disjoint {b b' : Fin 2} {h h' : Fin 8} (hne : 8 * b'.val + h'.val ≠ 8 * b.val + h.val) (j : S1x128x64.Idx) :
    (attR b' h').emb j ∉ (attR b h).set := by
  rw [Rect.mem_set_unit]
  intro hm
  have h0 := hm 0
  have h2 := hm 2
  have j0 : (j 0).val < 1 := (j 0).isLt
  have j2 : (j 2).val < 64 := (j 2).isLt
  simp [Rect.emb_apply, Rect.off_unit, Rect.stride_unit, S1x128x64] at h0 h2
  omega

/-- The next head's store. -/
theorem store_head (b : Fin 2) (h : Fin 8) {n : ℕ} (hn : n = 8 * b.val + h.val) {off : Fin 3 → ℕ} (ho : off = ![b.val, 0, 64 * h.val])
    {inb : ∀ a, off a + S1x128x64.size a ≤ S2x128x512.size a} {w : S1x128x64.Idx → Elt F .f32} (hw : w = att I b h)
    {hx : ((attM : Buf2 S2x128x512).access (Rect.unit (s := S2x128x512) off S1x128x64.size inb)).Stores Finset.univ}
    {hm : Finset.univ = Finset.univ ∨ ∀ a, (Rect.unit (s := S2x128x512) off S1x128x64.size inb).stride a = 1}
    {k : PUnit → Prog (TpuEff nD τ sig (Elt F) Λ₀ .tc) α} :
    (upto I n c : sProp 𝕄) ⊢ iprop((upto I (n + 1) c -∗ run c (k ⟨⟩) Q)
      -∗ run c (.op (.store attM (Rect.unit (s := S2x128x512) off S1x128x64.size inb) w Finset.univ hx hm) k) Q) := by
  subst ho hw hn
  unfold upto
  iintro ⟨%X, %hX, H⟩ Hk
  ihave H := (owns_slice_split (c : Thread nD τ) attM fullShare (attR b h) (fun _ => rfl) X) $$ H
  icases H with ⟨Hs, %f, %hf, Hr⟩
  iapply (Own.wp_store_slice (c : Thread nD τ) 𝒱₀ none Set.univ (m := attM) (r := attR b h) (hr := fun _ => rfl)) $$ Hs
  iintro Hs
  iapply Hk
  ihave H := (owns_slice_join (c : Thread nD τ) attM fullShare (attR b h) (fun _ => rfl) (att I b h) f) $$ [Hs Hr]
  · isplitl [Hs]; · iexact Hs
    iexact Hr
  iexists _
  isplitr
  rotate_left
  · iexact H
  · ipureintro
    intro b' h' j hlt
    by_cases he : 8 * b'.val + h'.val = 8 * b.val + h.val
    · obtain rfl : b' = b := Fin.ext (by omega)
      obtain rfl : h' = h := Fin.ext (by omega)
      exact Rect.overlay_emb _ _ _ _
    · rw [Rect.overlay_of_not_mem _ _ _ (att_disjoint he j)]
      exact (congrFun hf _).trans (hX b' h' j (by omega))

end Steps

end Cert.KernelIdealProof
-- ==== Proof.KernelIdealCompute.lean ====
/-
# The body's computation on its own operands, first batch element

The parts before the barrier is waited for: the barrier's four signals, the eight heads of batch element 0 and the upper half
of the partial products.
-/
module

public import proofs.«01_k».proof.Proof.KernelIdealAttn

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (I : In F) (c : Dev nD)

/-- The device's operands in their buffers. -/
abbrev inputs : sProp 𝕄 :=
  iprop(holds c xM I.x ∗ holds c qM I.q ∗ holds c woM I.wo ∗ holds c kM I.k ∗ holds c vM I.v)

/-- The upper and the lower half of a block of 256 rows. -/
abbrev up (s : Bool) (X : S128x256.Idx → Elt F .f32) : sProp 𝕄 :=
  owns (c : Thread nD τ) ((w0M s).slice (Rect.unit (s := S256x256) ![0, 0] S128x256.size inb_S256x256_S128x256_0_0) (fun _ => rfl)) fullShare X
abbrev low (s : Bool) (X : S128x256.Idx → Elt F .f32) : sProp 𝕄 :=
  owns (c : Thread nD τ) ((w0M s).slice (Rect.unit (s := S256x256) ![128, 0] S128x256.size inb_S256x256_S128x256_128_0) (fun _ => rfl)) fullShare X

/-- What the device's signal to its neighbour across edge `i` carries. -/
abbrev sigPay (i : Fin 4) : sProp 𝕄 :=
  iprop(dutyTok ER (barCell (peer i c)) 0 i ∗ dstOwn P (across i 0) c ∗ dstOwn P (across i 1) c ∗ dstOwn P (across i 2) c ∗ dstOwn P (across i 3) c)
/-- What the device owes before its `n`-th signal. -/
def owedS (n : ℕ) (c : Dev nD) : sProp 𝕄 := iprop(∃ W, owes (c : Thread nD τ) (owedR 0 c + owedB n c) W)

section Ops

variable {α : Type} {Q : α → sProp (MT nD τ sig Unit (Elt F) ℕ UU ℕ)}

theorem device {k : Dev nD → Prog (TpuEff nD τ sig (Elt F) Λ₀ .tc) α} :
    run c (k c) Q ⊢ run c (.op .deviceId k) Q := Entails.of_eq (wp_deviceId 𝒱₀ (c : Thread nD τ) none Set.univ).symm

theorem signal (i : Fin 4) {n : Dev nD} (hn : n = peer i c) {sm : Sem sig} (hsm : sm = barrier0) {k' : ℕ} (hk' : k' = 1)
    {m₀ m : ℕ} (hm₀ : m₀ = i.val) (hm : m = i.val + 1) {k : PUnit → Prog (TpuEff nD τ sig (Elt F) Λ₀ .tc) α} :
    env P K ⊢ iprop(sigPay P c i -∗ owedS m₀ c -∗ (owedS m c -∗ run c (k ⟨⟩) Q)
      -∗ run c (.op (.semSignal (Dev.tc n : Thread nD τ) sm k') k) Q) := by
  subst hm hm₀
  unfold owedS
  iintro #He ⟨Ht, Hd⟩ HO Hk
  iapply (wp_sig P K i c hn hsm hk') $$ [Ht Hd HO] Hk
  isplitr; · iexact He
  isplitl [Ht]; · iexact Ht
  isplitl [Hd]; · iexact Hd
  iexact HO

theorem wait_all {sm : Sem sig} (hsm : sm = barrier0) {k' : ℕ} (hk' : k' = 4) {k : PUnit → Prog (TpuEff nD τ sig (Elt F) Λ₀ .tc) α} :
    env P K ⊢ iprop(cred (tallyAt (barCell c) () 4) -∗ atPos ER (barCell c) 0 ∅ 0 -∗ owedS 4 c
      -∗ (barPay P 0 c -∗ barPay P 1 c -∗ barPay P 2 c -∗ barPay P 3 c -∗ semVal (barCell c) 0 -∗ owed 0 c -∗ run c (k ⟨⟩) Q)
      -∗ run c (.op (.semWait sm k') k) Q) := by
  unfold owedS
  iintro #He Hc Ha HO Hk
  iapply (wp_bar P K c hsm hk') $$ [Hc Ha HO]
  · isplitr; · iexact He
    isplitl [Hc]; · iexact Hc
    isplitl [Ha]; · iexact Ha
    iexact HO
  iintro ⟨⟨B0, B1, B2, B3⟩, HS, HO⟩
  iapply Hk $$ B0 B1 B2 B3 HS HO

/-- A load of one of the operands. -/
theorem load_in {S : Shape} {m : Buf2 S} (r : Rect S) {hl : m.view.LoadsAt r.toLoadRect} (X : S.Idx → Elt F .f32)
    {k : (r.shape.Idx → Elt F .f32) → Prog (TpuEff nD τ sig (Elt F) Λ₀ .tc) α} :
    (holds c m X : sProp 𝕄) ⊢ iprop((holds c m X -∗ run c (k (fun i => X (r.emb i))) Q) -∗ run c (.op (.load m r.toLoadRect hl) k) Q) :=
  Own.wp_load (c : Thread nD τ) 𝒱₀ none Set.univ

theorem load_square {m : Buf2 S512x512} {inb : ∀ a, (![0, 0] : Fin 2 → ℕ) a + S512x512.size a ≤ S512x512.size a}
    {hl : m.view.LoadsAt (Rect.unit (s := S512x512) ![0, 0] S512x512.size inb).toLoadRect} (X : S512x512.Idx → Elt F .f32)
    {k : (S512x512.Idx → Elt F .f32) → Prog (TpuEff nD τ sig (Elt F) Λ₀ .tc) α} :
    (holds c m X : sProp 𝕄) ⊢ iprop((holds c m X -∗ run c (k X) Q)
      -∗ run c (.op (.load m (Rect.unit (s := S512x512) ![0, 0] S512x512.size inb).toLoadRect hl) k) Q) :=
  Own.wp_load_whole (c : Thread nD τ) 𝒱₀ none Set.univ (m := m) (by funext a; fin_cases a <;> rfl)

/-- A load of half a block whose value nothing uses, and the store that follows. -/
theorem load_half {s : Bool} (r : Rect S256x256) {hr : ∀ a, r.stride a = 1} {hl : (w0M s).view.LoadsAt r.toLoadRect} {X : r.shape.Idx → Elt F .f32}
    {k : (r.shape.Idx → Elt F .f32) → Prog (TpuEff nD τ sig (Elt F) Λ₀ .tc) α} :
    (owns (c : Thread nD τ) ((w0M s).slice r hr) fullShare X : sProp 𝕄) ⊢ iprop((∀ v, owns (c : Thread nD τ) ((w0M s).slice r hr) fullShare X -∗ run c (k v) Q)
      -∗ run c (.op (.load (w0M s) r.toLoadRect hl) k) Q) := by
  iintro H Hk
  iapply (Own.wp_load_slice (c : Thread nD τ) 𝒱₀ none Set.univ (m := w0M s) (r := r) (hr := hr)) $$ H
  iintro H
  iapply Hk $$ %_ H
theorem store_half {s : Bool} (r : Rect S256x256) {hr : ∀ a, r.stride a = 1} {X : r.shape.Idx → Elt F .f32} {w : r.shape.Idx → Elt F .f32} (w' : r.shape.Idx → Elt F .f32) (hw : w = w')
    {hx : ((w0M s).access r).Stores Finset.univ} {hm : Finset.univ = Finset.univ ∨ ∀ a, r.stride a = 1}
    {k : PUnit → Prog (TpuEff nD τ sig (Elt F) Λ₀ .tc) α} :
    (owns (c : Thread nD τ) ((w0M s).slice r hr) fullShare X : sProp 𝕄) ⊢ iprop((owns (c : Thread nD τ) ((w0M s).slice r hr) fullShare w' -∗ run c (k ⟨⟩) Q)
      -∗ run c (.op (.store (w0M s) r w Finset.univ hx hm) k) Q) := by
  subst hw
  exact Own.wp_store_slice (c : Thread nD τ) 𝒱₀ none Set.univ

end Ops

set_option maxHeartbeats 2000000 in
theorem part1 {Q : _ → sProp (MT nD τ sig Unit (Elt F) ℕ UU ℕ)} :
    env P K ⊢ iprop(inputs I c -∗ sigPay P c 0 -∗ sigPay P c 1 -∗ sigPay P c 2 -∗ sigPay P c 3 -∗ owedS 0 c
      -∗ (∀ r, ⌜r = ⟨c, word c, SemArray.scalar (sig.barrier 0 rfl), qp I 0, k0_pay2 (fun i => I.k ((kvR 0 0).emb i)), k0_pay3 (fun i => I.v ((kvR 0 0).emb i))⟩⌝ -∗ inputs I c -∗ owedS 4 c -∗ Q r)
      -∗ run c (app k0_part1) Q) := by
  simp only [k0_part1_eq_skeleton, k0_part1_skel, semSignalWord, semWaitWord, Prog.lift, Prog.bind_op, Prog.bind_ret, Prog.pure_eq_ret]
  iintro #He ⟨HX, HQ, HW, HK, HV⟩ S0 S1 S2 S3 HO Hk
  iapply (device c)
  iapply (signal P K c 0 (dev1_eq c) rfl rfl (m₀ := 0) (m := 1) rfl rfl) $$ He S0 HO; iintro HO
  iapply (signal P K c 1 (dev2_eq c) rfl rfl (m₀ := 1) (m := 2) rfl rfl) $$ He S1 HO; iintro HO
  iapply (signal P K c 2 (dev3_eq c) rfl rfl (m₀ := 2) (m := 3) rfl rfl) $$ He S2 HO; iintro HO
  iapply (signal P K c 3 (dev4_eq c) rfl rfl (m₀ := 3) (m := 4) rfl rfl) $$ He S3 HO; iintro HO
  iapply (load_in c _ I.x) $$ HX; iintro HX
  iapply (load_square c I.q) $$ HQ; iintro HQ
  iapply (load_in c _ I.k) $$ HK; iintro HK
  iapply (load_in c _ I.v) $$ HV; iintro HV
  iapply (run_ret c)
  iapply Hk $$ %_ [] [HX HQ HW HK HV] HO
  · ipureintro; rfl
  · isplitl [HX]; · iexact HX
    isplitl [HQ]; · iexact HQ
    isplitl [HW]; · iexact HW
    isplitl [HK]; · iexact HK
    iexact HV

set_option maxHeartbeats 2000000 in
theorem part2 {Q : _ → sProp (MT nD τ sig Unit (Elt F) ℕ UU ℕ)} :
    env P K ⊢ iprop(inputs I c -∗ upto I 0 c
      -∗ (∀ r, ⌜r = k0_pay5 (qp I 0) (fun i => I.k ((kvR 0 1).emb i)) (fun i => I.v ((kvR 0 1).emb i))⌝ -∗ inputs I c -∗ upto I 1 c -∗ Q r)
      -∗ run c (app k0_part2 (qp I 0) (k0_pay2 (fun i => I.k ((kvR 0 0).emb i))) (k0_pay3 (fun i => I.v ((kvR 0 0).emb i)))) Q) := by
  simp only [k0_part2_eq_skeleton, k0_part2_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 0 0 (n := 0) rfl rfl rfl) $$ HA; iintro HA
  iapply (load_in c _ I.k) $$ HK; iintro HK
  iapply (load_in c _ I.v) $$ HV; iintro HV
  iapply (load_upto I c) $$ HA; iintro %_ HA
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part3 {Q : _ → sProp (MT nD τ sig Unit (Elt F) ℕ UU ℕ)} :
    env P K ⊢ iprop(inputs I c -∗ upto I 1 c
      -∗ (∀ r, ⌜r = ⟨k0_pay8 (fun i => I.v ((kvR 0 3).emb i)), k0_pay9 (qp I 0) (fun i => I.k ((kvR 0 3).emb i))⟩⌝ -∗ inputs I c -∗ upto I 3 c -∗ Q r)
      -∗ run c (app k0_part3 (qp I 0) (k0_pay5 (qp I 0) (fun i => I.k ((kvR 0 1).emb i)) (fun i => I.v ((kvR 0 1).emb i)))) Q) := by
  simp only [k0_part3_eq_skeleton, k0_part3_skel, semSignalWord, semWaitWord, Prog.lift, Prog.bind_op, Prog.bind_ret, Prog.pure_eq_ret]
  iintro #He ⟨HX, HQ, HW, HK, HV⟩ HA Hk
  iapply (store_head I c 0 1 (n := 1) rfl rfl rfl) $$ HA; iintro HA
  iapply (load_in c _ I.k) $$ HK; iintro HK
  iapply (load_in c _ I.v) $$ HV; iintro HV
  iapply (load_upto I c) $$ HA; iintro %_ HA
  iapply (store_head I c 0 2 (n := 2) rfl rfl rfl) $$ HA; iintro HA
  iapply (load_in c _ I.k) $$ HK; iintro HK
  iapply (load_in c _ I.v) $$ HV; iintro HV
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part4 {Q : _ → sProp (MT nD τ sig Unit (Elt F) ℕ UU ℕ)} :
    env P K ⊢ iprop(inputs I c -∗ upto I 3 c
      -∗ (∀ r, ⌜r = ⟨k0_pay12 (fun i => I.k ((kvR 0 5).emb i)), k0_pay13 (fun i => I.v ((kvR 0 5).emb i))⟩⌝ -∗ inputs I c -∗ upto I 5 c -∗ Q r)
      -∗ run c (app k0_part4 (qp I 0) (k0_pay8 (fun i => I.v ((kvR 0 3).emb i))) (k0_pay9 (qp I 0) (fun i => I.k ((kvR 0 3).emb i)))) Q) := by
  simp only [k0_part4_eq_skeleton, k0_part4_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 0 3 (n := 3) rfl rfl rfl) $$ HA; iintro HA
  iapply (load_in c _ I.k) $$ HK; iintro HK
  iapply (load_in c _ I.v) $$ HV; iintro HV
  iapply (load_upto I c) $$ HA; iintro %_ HA
  iapply (store_head I c 0 4 (n := 4) rfl rfl rfl) $$ HA; iintro HA
  iapply (load_in c _ I.k) $$ HK; iintro HK
  iapply (load_in c _ I.v) $$ HV; iintro HV
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part5 {Q : _ → sProp (MT nD τ sig Unit (Elt F) ℕ UU ℕ)} :
    env P K ⊢ iprop(inputs I c -∗ upto I 5 c
      -∗ (∀ r, ⌜r = k0_pay15 (qp I 0) (fun i => I.k ((kvR 0 6).emb i)) (fun i => I.v ((kvR 0 6).emb i))⌝ -∗ inputs I c -∗ upto I 6 c -∗ Q r)
      -∗ run c (app k0_part5 (qp I 0) (k0_pay12 (fun i => I.k ((kvR 0 5).emb i))) (k0_pay13 (fun i => I.v ((kvR 0 5).emb i)))) Q) := by
  simp only [k0_part5_eq_skeleton, k0_part5_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 0 5 (n := 5) rfl rfl rfl) $$ HA; iintro HA
  iapply (load_in c _ I.k) $$ HK; iintro HK
  iapply (load_in c _ I.v) $$ HV; iintro HV
  iapply (load_upto I c) $$ HA; iintro %_ HA
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part6 {Q : _ → sProp (MT nD τ sig Unit (Elt F) ℕ UU ℕ)} :
    env P K ⊢ iprop(inputs I c -∗ upto I 6 c -∗ (∃ X, up c false X) -∗ (∃ X, up c true X)
      -∗ (∀ r, ⌜r.1 = k0_pay20 (atts I 0) I.wo⌝ -∗ inputs I c -∗ upto I 8 c -∗ up c false (prodS I false 0) -∗ (∃ X, up c true X) -∗ Q r)
      -∗ run c (app k0_part6 (qp I 0) (k0_pay15 (qp I 0) (fun i => I.k ((kvR 0 6).emb i)) (fun i => I.v ((kvR 0 6).emb i)))) Q) := by
  simp only [k0_part6_eq_skeleton, k0_part6_skel, semSignalWord, semWaitWord, Prog.lift, Prog.bind_op, Prog.bind_ret, Prog.pure_eq_ret]
  iintro #He ⟨HX, HQ, HW, HK, HV⟩ HA HZ HY Hk
  iapply (store_head I c 0 6 (n := 6) rfl rfl rfl) $$ HA; iintro HA
  iapply (load_in c _ I.k) $$ HK; iintro HK
  iapply (load_in c _ I.v) $$ HV; iintro HV
  iapply (load_upto I c) $$ HA; iintro %_ HA
  iapply (store_head I c 0 7 (n := 7) rfl rfl rfl) $$ HA; iintro HA
  iapply (load_atts I c 0 (n := 8) (by decide) rfl) $$ HA; iintro HA
  iapply (load_square c I.wo) $$ HW; iintro HW
  icases HZ with ⟨%X0, HZ⟩
  icases HY with ⟨%X1, HY⟩
  iapply (load_half c (s := false) (Rect.unit (s := S256x256) ![0, 0] S128x256.size inb_S256x256_S128x256_0_0)) $$ HZ; iintro %_ HZ
  iapply (store_half c (s := false) (Rect.unit (s := S256x256) ![0, 0] S128x256.size inb_S256x256_S128x256_0_0) (prodS I false 0) rfl) $$ HZ; iintro HZ
  iapply (load_half c (s := true) (Rect.unit (s := S256x256) ![0, 0] S128x256.size inb_S256x256_S128x256_0_0)) $$ HY; iintro %_ HY
  ihave HY : iprop(∃ X, up c true X) $$ [HY]
  · iexists X1; iexact HY
  iapply (run_ret c)
  iapply Hk $$ %_ [] [HX HQ HW HK HV] HA HZ HY
  · ipureintro; rfl
  · isplitl [HX]; · iexact HX
    isplitl [HQ]; · iexact HQ
    isplitl [HW]; · iexact HW
    isplitl [HK]; · iexact HK
    iexact HV

end Cert.KernelIdealProof
-- ==== Proof.KernelIdealCompute2.lean ====
/-
# The body's computation on its own operands, second batch element

The eight heads of batch element 1, the lower half of the partial products, and the wait for the four neighbours' signals.
-/
module

public import proofs.«01_k».proof.Proof.KernelIdealCompute

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (I : In F) (c : Dev nD)

set_option maxHeartbeats 2000000 in
theorem part7 (v : Vec F S128x256 .f32) {Q : _ → sProp (MT nD τ sig Unit (Elt F) ℕ UU ℕ)} :
    env P K ⊢ iprop(inputs I c -∗ upto I 8 c -∗ (∃ X, up c true X)
      -∗ (∀ r, ⌜r = ⟨(qp I 1), k0_pay24 (fun i => I.k ((kvR 1 1).emb i)), k0_pay25 (fun i => I.v ((kvR 1 1).emb i))⟩⌝ -∗ inputs I c -∗ upto I 9 c -∗ up c true (prodS I true 0) -∗ Q r)
      -∗ run c (app k0_part7 (k0_pay20 (atts I 0) I.wo) v) Q) := by
  simp only [k0_part7_eq_skeleton, k0_part7_skel, semSignalWord, semWaitWord, Prog.lift, Prog.bind_op, Prog.bind_ret, Prog.pure_eq_ret]
  iintro #He ⟨HX, HQ, HW, HK, HV⟩ HA HY Hk
  icases HY with ⟨%X1, HY⟩
  iapply (store_half c (s := true) (Rect.unit (s := S256x256) ![0, 0] S128x256.size inb_S256x256_S128x256_0_0) (prodS I true 0) rfl) $$ HY; iintro HY
  iapply (load_in c _ I.x) $$ HX; iintro HX
  iapply (load_square c I.q) $$ HQ; iintro HQ
  iapply (load_in c _ I.k) $$ HK; iintro HK
  iapply (load_in c _ I.v) $$ HV; iintro HV
  iapply (load_upto I c) $$ HA; iintro %_ HA
  iapply (store_head I c 1 0 (n := 8) rfl rfl rfl) $$ HA; iintro HA
  iapply (load_in c _ I.k) $$ HK; iintro HK
  iapply (load_in c _ I.v) $$ HV; iintro HV
  iapply (run_ret c)
  iapply Hk $$ %_ [] [HX HQ HW HK HV] HA HY
  · ipureintro; rfl
  · isplitl [HX]; · iexact HX
    isplitl [HQ]; · iexact HQ
    isplitl [HW]; · iexact HW
    isplitl [HK]; · iexact HK
    iexact HV

set_option maxHeartbeats 2000000 in
theorem part8 {Q : _ → sProp (MT nD τ sig Unit (Elt F) ℕ UU ℕ)} :
    env P K ⊢ iprop(inputs I c -∗ upto I 9 c
      -∗ (∀ r, ⌜r = k0_pay27 (qp I 1) (fun i => I.k ((kvR 1 2).emb i)) (fun i => I.v ((kvR 1 2).emb i))⌝ -∗ inputs I c -∗ upto I 10 c -∗ Q r)
      -∗ run c (app k0_part8 (qp I 1) (k0_pay24 (fun i => I.k ((kvR 1 1).emb i))) (k0_pay25 (fun i => I.v ((kvR 1 1).emb i)))) Q) := by
  simp only [k0_part8_eq_skeleton, k0_part8_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 1 1 (n := 9) rfl rfl rfl) $$ HA; iintro HA
  iapply (load_in c _ I.k) $$ HK; iintro HK
  iapply (load_in c _ I.v) $$ HV; iintro HV
  iapply (load_upto I c) $$ HA; iintro %_ HA
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part9 {Q : _ → sProp (MT nD τ sig Unit (Elt F) ℕ UU ℕ)} :
    env P K ⊢ iprop(inputs I c -∗ upto I 10 c
      -∗ (∀ r, ⌜r = ⟨k0_pay30 (fun i => I.v ((kvR 1 4).emb i)), k0_pay31 (qp I 1) (fun i => I.k ((kvR 1 4).emb i))⟩⌝ -∗ inputs I c -∗ upto I 12 c -∗ Q r)
      -∗ run c (app k0_part9 (qp I 1) (k0_pay27 (qp I 1) (fun i => I.k ((kvR 1 2).emb i)) (fun i => I.v ((kvR 1 2).emb i)))) Q) := by
  simp only [k0_part9_eq_skeleton, k0_part9_skel, semSignalWord, semWaitWord, Prog.lift, Prog.bind_op, Prog.bind_ret, Prog.pure_eq_ret]
  iintro #He ⟨HX, HQ, HW, HK, HV⟩ HA Hk
  iapply (store_head I c 1 2 (n := 10) rfl rfl rfl) $$ HA; iintro HA
  iapply (load_in c _ I.k) $$ HK; iintro HK
  iapply (load_in c _ I.v) $$ HV; iintro HV
  iapply (load_upto I c) $$ HA; iintro %_ HA
  iapply (store_head I c 1 3 (n := 11) rfl rfl rfl) $$ HA; iintro HA
  iapply (load_in c _ I.k) $$ HK; iintro HK
  iapply (load_in c _ I.v) $$ HV; iintro HV
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part10 {Q : _ → sProp (MT nD τ sig Unit (Elt F) ℕ UU ℕ)} :
    env P K ⊢ iprop(inputs I c -∗ upto I 12 c
      -∗ (∀ r, ⌜r = ⟨k0_pay34 (fun i => I.k ((kvR 1 6).emb i)), k0_pay35 (fun i => I.v ((kvR 1 6).emb i))⟩⌝ -∗ inputs I c -∗ upto I 14 c -∗ Q r)
      -∗ run c (app k0_part10 (qp I 1) (k0_pay30 (fun i => I.v ((kvR 1 4).emb i))) (k0_pay31 (qp I 1) (fun i => I.k ((kvR 1 4).emb i)))) Q) := by
  simp only [k0_part10_eq_skeleton, k0_part10_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 1 4 (n := 12) rfl rfl rfl) $$ HA; iintro HA
  iapply (load_in c _ I.k) $$ HK; iintro HK
  iapply (load_in c _ I.v) $$ HV; iintro HV
  iapply (load_upto I c) $$ HA; iintro %_ HA
  iapply (store_head I c 1 5 (n := 13) rfl rfl rfl) $$ HA; iintro HA
  iapply (load_in c _ I.k) $$ HK; iintro HK
  iapply (load_in c _ I.v) $$ HV; iintro HV
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part11 {Q : _ → sProp (MT nD τ sig Unit (Elt F) ℕ UU ℕ)} :
    env P K ⊢ iprop(inputs I c -∗ upto I 14 c
      -∗ (∀ r, ⌜r = k0_pay37 (qp I 1) (fun i => I.k ((kvR 1 7).emb i)) (fun i => I.v ((kvR 1 7).emb i))⌝ -∗ inputs I c -∗ upto I 15 c -∗ Q r)
      -∗ run c (app k0_part11 (qp I 1) (k0_pay34 (fun i => I.k ((kvR 1 6).emb i))) (k0_pay35 (fun i => I.v ((kvR 1 6).emb i)))) Q) := by
  simp only [k0_part11_eq_skeleton, k0_part11_skel, semSignalWord, semWaitWord, Prog.lift, Prog.bind_op, Prog.bind_ret, Prog.pure_eq_ret]
  iintro #He ⟨HX, HQ, HW, HK, HV⟩ HA Hk
  iapply (load_upto I c) $$ HA; iintro %_ HA
  iapply (store_head I c 1 6 (n := 14) rfl rfl rfl) $$ HA; iintro HA
  iapply (load_in c _ I.k) $$ HK; iintro HK
  iapply (load_in c _ I.v) $$ HV; iintro HV
  iapply (load_upto I c) $$ HA; iintro %_ HA
  iapply (run_ret c)
  iapply Hk $$ %_ [] [HX HQ HW HK HV] HA
  · ipureintro; rfl
  · isplitl [HX]; · iexact HX
    isplitl [HQ]; · iexact HQ
    isplitl [HW]; · iexact HW
    isplitl [HK]; · iexact HK
    iexact HV

set_option maxHeartbeats 2000000 in
theorem part12 {Q : _ → sProp (MT nD τ sig Unit (Elt F) ℕ UU ℕ)} :
    env P K ⊢ iprop(inputs I c -∗ upto I 15 c -∗ (∃ X, low c false X) -∗ (∃ X, low c true X) -∗ cred (tallyAt (barCell c) () 4) -∗ atPos ER (barCell c) 0 ∅ 0 -∗ owedS 4 c
      -∗ (∀ r, ⌜r.1 = isLow (bit 0 c)⌝ -∗ inputs I c -∗ upto I 16 c -∗ low c false (prodS I false 1) -∗ low c true (prodS I true 1) -∗ barPay P 0 c -∗ barPay P 1 c -∗ barPay P 2 c -∗ barPay P 3 c -∗ semVal (barCell c) 0 -∗ owed 0 c -∗ Q r)
      -∗ run c (app k0_part12 (word c) (SemArray.scalar (sig.barrier 0 rfl)) (k0_pay37 (qp I 1) (fun i => I.k ((kvR 1 7).emb i)) (fun i => I.v ((kvR 1 7).emb i)))) Q) := by
  simp only [k0_part12_eq_skeleton, k0_part12_skel, semSignalWord, semWaitWord, Prog.lift, Prog.bind_op, Prog.bind_ret, Prog.pure_eq_ret]
  iintro #He ⟨HX, HQ, HW, HK, HV⟩ HA HZ HY HC HP HO Hk
  iapply (store_head I c 1 7 (n := 15) rfl rfl rfl) $$ HA; iintro HA
  iapply (load_atts I c 1 (n := 16) (by decide) rfl) $$ HA; iintro HA
  iapply (load_square c I.wo) $$ HW; iintro HW
  icases HZ with ⟨%X_HZ, HZ⟩
  iapply (load_half c (s := false) (Rect.unit (s := S256x256) ![128, 0] S128x256.size inb_S256x256_S128x256_128_0)) $$ HZ; iintro %_ HZ
  iapply (store_half c (s := false) (Rect.unit (s := S256x256) ![128, 0] S128x256.size inb_S256x256_S128x256_128_0) (prodS I false 1) rfl) $$ HZ; iintro HZ
  icases HY with ⟨%X_HY, HY⟩
  iapply (load_half c (s := true) (Rect.unit (s := S256x256) ![128, 0] S128x256.size inb_S256x256_S128x256_128_0)) $$ HY; iintro %_ HY
  iapply (store_half c (s := true) (Rect.unit (s := S256x256) ![128, 0] S128x256.size inb_S256x256_S128x256_128_0) (prodS I true 1) rfl) $$ HY; iintro HY
  iapply (wait_all P K c rfl rfl) $$ He HC HP HO; iintro B0 B1 B2 B3 HS HO
  iapply (run_ret c)
  iapply Hk $$ %_ [] [HX HQ HW HK HV] HA HZ HY B0 B1 B2 B3 HS HO
  · ipureintro; dsimp only; clear * -; revert c; decide +kernel
  · isplitl [HX]; · iexact HX
    isplitl [HQ]; · iexact HQ
    isplitl [HW]; · iexact HW
    isplitl [HK]; · iexact HK
    iexact HV

end Cert.KernelIdealProof
-- ==== Proof.KernelIdealReduce.lean ====
/-
# The reduction's parts of the body

Four steps on each of two streams: half of the block goes to the peer across the step's edge, the peer's half of the same
rows lands, and the kept half plus what landed is the next block.
-/
module

public import proofs.«01_k».proof.Proof.KernelIdealFold

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (c : Dev nD)

set_option maxHeartbeats 2000000 in
theorem part13 (v : BitVec 32) {Q : _ → sProp (MT nD τ sig Unit (Elt F) ℕ UU ℕ)} :
    env P K ⊢ iprop(ready c P 0 -∗ ready c P 1 -∗ holds c (w0M false) (P false c) -∗ holds c (w0M true) (P true c) -∗ owed 0 c
      -∗ (∀ r, ⌜r.2.1 = isLow (bit 2 c)⌝ -∗ spent0 P c 0 false -∗ spent0 P c 1 true -∗ owed 2 c -∗ Q r)
      -∗ run c (app k0_part13 c (word c) (isLow (bit 0 c)) v) Q) := by
  simp only [k0_part13_eq_skeleton, k0_part13_skel, Prog.lift, Prog.bind_op, Prog.bind_ret, Prog.pure_eq_ret]
  iintro #He RA RB HA HB HO Hk
  ihave HA := (lend c P 0 (w0M false) h256 (fun _ _ => rfl) halves256 (P false c) .rfl) $$ HA
  icases HA with ⟨HAs, HAp⟩
  iapply (sendR₀ c P K 0 rfl rfl (dev5_eq c) 0 rfl (cond1_iff c) rfl rfl) $$ He RA HAs HO
  iintro HAs
  iapply (sendR₁ c P K 0 rfl rfl (dev6_eq c) 1 rfl (cond2_iff c) rfl rfl) $$ HAs
  iintro HAf HO
  ihave HA : spent0 P c 0 false $$ [HAf HAp]
  · iapply (spent_intro c) $$ HAf HAp
  ihave HB := (lend c P 1 (w0M true) h256 (fun _ _ => rfl) halves256 (P true c) .rfl) $$ HB
  icases HB with ⟨HBs, HBp⟩
  iapply (sendR₀ c P K 1 rfl rfl (dev7_eq c) 1 rfl (cond3_iff c) rfl rfl) $$ He RB HBs HO
  iintro HBs
  iapply (sendR₁ c P K 1 rfl rfl (dev8_eq c) 2 rfl (cond4_iff c) rfl rfl) $$ HBs
  iintro HBf HO
  ihave HB : spent0 P c 1 true $$ [HBf HBp]
  · iapply (spent_intro c) $$ HBf HBp
  iapply (run_ret c)
  iapply Hk $$ %_ [] HA HB HO
  · ipureintro; revert c; decide +kernel

set_option maxHeartbeats 2000000 in
theorem part14 (v v' : BitVec 32) {Q : _ → sProp (MT nD τ sig Unit (Elt F) ℕ UU ℕ)} :
    env P K ⊢ iprop(recvRdy 0 c -∗ recvRdy 1 c -∗ spent0 P c 0 false -∗ spent0 P c 1 true -∗ anyOf c (w1M false) -∗ anyOf c (w1M true) -∗ owed 2 c
      -∗ (∀ r, ⌜r = ⟨2#32, Scalar.divsi (word c) 2#32, Scalar.subi (Scalar.extui (Scalar.cmpi .sgt (word c) 0#32)) (Scalar.extui (Scalar.cmpi .slt (word c) 0#32)), 0#32⟩⌝ -∗ got P c 0 -∗ got P c 1 -∗ spent0 P c 0 false -∗ spent0 P c 1 true -∗ holds c (w1M false) (W1 P false c) -∗ holds c (w1M true) (W1 P true c) -∗ owed 2 c -∗ Q r)
      -∗ run c (app k0_part14 (word c) (isLow (bit 0 c)) v (isLow (bit 2 c)) v') Q) := by
  simp only [k0_part14_eq_skeleton, k0_part14_skel, Prog.lift, Prog.bind_op, Prog.bind_ret, Prog.pure_eq_ret]
  iintro #He RA RB HA HB WA WB HO Hk
  iapply (land c P K 0 (n := 2) (by decide) rfl) $$ He RA HO
  iintro RAp RAz HO
  iapply (fold_at P c 0 h256 (fun _ _ => rfl) (P false c) (r0M false) (fun j => P false (peer 0 c) ((h256 !bit 0 (peer 0 c)).emb j)) (recv00 P c) zero2 (W1 P false c) (value00 P c)) $$ HA RAp WA
  iintro HA RAp WA
  iapply (land c P K 1 (n := 2) (by decide) rfl) $$ He RB HO
  iintro RBp RBz HO
  iapply (fold_at P c 1 h256 (fun _ _ => rfl) (P true c) (r0M true) (fun j => P true (peer 2 c) ((h256 !bit 2 (peer 2 c)).emb j)) (recv10 P c) zero2 (W1 P true c) (value10 P c)) $$ HB RBp WB
  iintro HB RBp WB
  iapply (run_ret c)
  iapply Hk $$ %_ [] [RAp RAz] [RBp RBz] HA HB WA WB HO
  · ipureintro; rfl
  · isplitl [RAp]; · iexact RAp
    iexact RAz
  · isplitl [RBp]; · iexact RBp
    iexact RBz

set_option maxHeartbeats 2000000 in
theorem part15 {Q : _ → sProp (MT nD τ sig Unit (Elt F) ℕ UU ℕ)} :
    env P K ⊢ iprop(ready c P 2 -∗ holds c (w1M false) (W1 P false c) -∗ owed 2 c
      -∗ (∀ r, ⌜r.1 = isLow (bit 1 c) ∧ Scalar.cmpi .eq r.2.2 0#32 = isLow (bit 3 c)⌝ -∗ spent1 P c 2 false -∗ owed 3 c -∗ Q r)
      -∗ run c (app k0_part15 c (word c) 2#32 (Scalar.divsi (word c) 2#32) (Scalar.subi (Scalar.extui (Scalar.cmpi .sgt (word c) 0#32)) (Scalar.extui (Scalar.cmpi .slt (word c) 0#32))) 0#32) Q) := by
  simp only [k0_part15_eq_skeleton, k0_part15_skel, Prog.lift, Prog.bind_op, Prog.bind_ret, Prog.pure_eq_ret]
  iintro #He RA HA HO Hk
  ihave HA := (lend c P 2 (w1M false) h128 (fun _ _ => rfl) halves128 (W1 P false c) .rfl) $$ HA
  icases HA with ⟨HAs, HAp⟩
  iapply (sendR₀ c P K 2 rfl rfl (dev9_eq c) 2 rfl (cond5_iff c) rfl rfl) $$ He RA HAs HO
  iintro HAs
  iapply (sendR₁ c P K 2 rfl rfl (dev10_eq c) 3 rfl (cond6_iff c) rfl rfl) $$ HAs
  iintro HAf HO
  ihave HA : spent1 P c 2 false $$ [HAf HAp]
  · iapply (spent_intro c) $$ HAf HAp
  iapply (run_ret c)
  iapply Hk $$ %_ [] HA HO
  · ipureintro; revert c; decide +kernel

set_option maxHeartbeats 2000000 in
theorem part16 (v v' : BitVec 32) (hv : Scalar.cmpi .eq v 0#32 = isLow (bit 3 c)) {Q : _ → sProp (MT nD τ sig Unit (Elt F) ℕ UU ℕ)} :
    env P K ⊢ iprop(ready c P 3 -∗ recvRdy 2 c -∗ recvRdy 3 c -∗ holds c (w1M true) (W1 P true c) -∗ spent1 P c 2 false -∗ anyOf c (w2M false) -∗ owed 3 c
      -∗ (∀ r, ⌜r = fun j => W1 P true c ((h128 (bit 3 c)).emb j)⌝ -∗ got P c 2 -∗ got P c 3 -∗ spent1 P c 2 false -∗ spent1 P c 3 true -∗ holds c (w2M false) (W2 P false c) -∗ owed 4 c -∗ Q r)
      -∗ run c (app k0_part16 c (word c) (isLow (bit 1 c)) v' v) Q) := by
  simp only [k0_part16_eq_skeleton, k0_part16_skel, Prog.lift, Prog.bind_op, Prog.bind_ret, Prog.pure_eq_ret]
  iintro #He SB RA RB HB HA WA HO Hk
  ihave HB := (lend c P 3 (w1M true) h128 (fun _ _ => rfl) halves128 (W1 P true c) .rfl) $$ HB
  icases HB with ⟨HBs, HBp⟩
  iapply (sendR₀ c P K 3 rfl rfl (dev11_eq c) 3 rfl (cond7_iff c) rfl rfl) $$ He SB HBs HO
  iintro HBs
  iapply (sendR₁ c P K 3 rfl rfl (dev12_eq c) 4 rfl (cond8_iff c) rfl rfl) $$ HBs
  iintro HBf HO
  ihave HB : spent1 P c 3 true $$ [HBf HBp]
  · iapply (spent_intro c) $$ HBf HBp
  iapply (land c P K 2 (n := 4) (by decide) rfl) $$ He RA HO
  iintro RAp RAz HO
  iapply (fold_at P c 2 h128 (fun _ _ => rfl) (W1 P false c) (r1M false) (fun j => W1 P false (peer 1 c) ((h128 !bit 1 (peer 1 c)).emb j)) (recv01 P c) zero2 (W2 P false c) (value01 P c)) $$ HA RAp WA
  iintro HA RAp WA
  iapply (land c P K 3 (n := 4) (by decide) rfl) $$ He RB HO
  iintro RBp RBz HO
  iapply (load_spent c 3) $$ HB; iintro HB
  iapply (load_spent c 3) $$ HB; iintro HB
  iapply (run_ret c)
  iapply Hk $$ %_ [] [RAp RAz] [RBp RBz] HA HB WA HO
  · ipureintro
    show Scalar.select (Scalar.cmpi .eq v 0#32) _ _ = _
    rw [hv]; exact select_half (fun b (j : S64x256.Idx) => (h128 b).emb j) (W1 P true c) (bit 3 c)
  · isplitl [RAp]; · iexact RAp
    iexact RAz
  · isplitl [RBp]; · iexact RBp
    iexact RBz

set_option maxHeartbeats 2000000 in
theorem part17 {Q : _ → sProp (MT nD τ sig Unit (Elt F) ℕ UU ℕ)} :
    env P K ⊢ iprop(ready c P 4 -∗ holds c (w2M false) (W2 P false c) -∗ got P c 3 -∗ anyOf c (w2M true) -∗ owed 4 c
      -∗ (∀ r, ⌜r.1 = isLow (bit 2 c) ∧ r.2.2 = ⟨1#32, Scalar.divsi (word c) 1#32, Scalar.extui (Scalar.cmpi .sgt (word c) 0#32), 0#32⟩⌝ -∗ spent2 P c 4 false -∗ got P c 3 -∗ holds c (w2M true) (W2 P true c) -∗ owed 5 c -∗ Q r)
      -∗ run c (app k0_part17 c (word c) (fun j => W1 P true c ((h128 (bit 3 c)).emb j))) Q) := by
  simp only [k0_part17_eq_skeleton, k0_part17_skel, Prog.lift, Prog.bind_op, Prog.bind_ret, Prog.pure_eq_ret]
  iintro #He SA HA RB WB HO Hk
  icases RB with ⟨RBp, RBz⟩
  icases WB with ⟨%Y, WB⟩
  ihave RBp := (Entails.of_eq (recv11 P c)) $$ RBp
  iapply (Own.wp_load_whole (c : Thread nD τ) 𝒱₀ none Set.univ (m := r1M true) zero2) $$ RBp; iintro RBp
  iapply (Own.wp_load_whole (c : Thread nD τ) 𝒱₀ none Set.univ (m := w2M true) zero2) $$ WB; iintro WB
  iapply (Own.wp_store_whole (c : Thread nD τ) 𝒱₀ none Set.univ (m := w2M true) zero2) $$ WB; iintro WB
  ihave RBp := (Entails.of_eq (recv11 P c).symm) $$ RBp
  have hW : k0_pay46 (fun j => W1 P true c ((h128 (bit 3 c)).emb j)) (fun j => W1 P true (peer 3 c) ((h128 !bit 3 (peer 3 c)).emb j)) = W2 P true c := by
    refine (shapeCast_self _ _).trans ?_
    rw [bit_peer, Bool.not_not]; rfl
  ihave WB := (Entails.of_eq (congrArg (holds c (w2M true)) hW)) $$ WB
  ihave HA := (lend c P 4 (w2M false) h64 (fun _ _ => rfl) halves64 (W2 P false c) .rfl) $$ HA
  icases HA with ⟨HAs, HAp⟩
  iapply (sendR₀ c P K 4 rfl rfl (dev13_eq c) 4 rfl (cond9_iff c) rfl rfl) $$ He SA HAs HO
  iintro HAs
  iapply (sendR₁ c P K 4 rfl rfl (dev14_eq c) 5 rfl (cond10_iff c) rfl rfl) $$ HAs
  iintro HAf HO
  ihave HA : spent2 P c 4 false $$ [HAf HAp]
  · iapply (spent_intro c) $$ HAf HAp
  iapply (run_ret c)
  iapply Hk $$ %_ [] HA [RBp RBz] WB HO
  · ipureintro; refine ⟨?_, rfl⟩; dsimp only; clear hW; revert c; decide +kernel
  · isplitl [RBp]; · iexact RBp
    iexact RBz

end Cert.KernelIdealProof

end
-- ==== Proof.KernelIdealReduce2.lean ====
/-
# The reduction's last parts of the body

Four steps on each of two streams: half of the block goes to the peer across the step's edge, the peer's half of the same
rows lands, and the kept half plus what landed is the next block.
-/
module

public import proofs.«01_k».proof.Proof.KernelIdealFold

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (c : Dev nD)

set_option maxHeartbeats 2000000 in
theorem part18 (v : BitVec 32) {Q : _ → sProp (MT nD τ sig Unit (Elt F) ℕ UU ℕ)} :
    env P K ⊢ iprop(ready c P 5 -∗ holds c (w2M true) (W2 P true c) -∗ recvRdy 4 c -∗ spent2 P c 4 false -∗ owed 5 c
      -∗ (∀ r, ⌜r.1 = isLow (bit 0 c) ∧ r.2.2 = W3 P false c⌝ -∗ spent2 P c 5 true -∗ got P c 4 -∗ spent2 P c 4 false -∗ owed 6 c -∗ Q r)
      -∗ run c (app k0_part18 c (word c) (isLow (bit 2 c)) v 1#32 (Scalar.divsi (word c) 1#32) (Scalar.extui (Scalar.cmpi .sgt (word c) 0#32)) 0#32) Q) := by
  simp only [k0_part18_eq_skeleton, k0_part18_skel, Prog.lift, Prog.bind_op, Prog.bind_ret, Prog.pure_eq_ret]
  iintro #He SB HB RA HA HO Hk
  ihave HB := (lend c P 5 (w2M true) h64 (fun _ _ => rfl) halves64 (W2 P true c) .rfl) $$ HB
  icases HB with ⟨HBs, HBp⟩
  iapply (sendR₀ c P K 5 rfl rfl (dev15_eq c) 5 rfl (cond11_iff c) rfl rfl) $$ He SB HBs HO
  iintro HBs
  iapply (sendR₁ c P K 5 rfl rfl (dev16_eq c) 6 rfl (cond12_iff c) rfl rfl) $$ HBs
  iintro HBf HO
  ihave HB : spent2 P c 5 true $$ [HBf HBp]
  · iapply (spent_intro c) $$ HBf HBp
  iapply (land c P K 4 (n := 6) (by decide) rfl) $$ He RA HO
  iintro RAp RAz HO
  iapply (load_spent c 4) $$ HA; iintro HA
  iapply (load_spent c 4) $$ HA; iintro HA
  ihave RAp := (Entails.of_eq (recv02 P c)) $$ RAp
  iapply (Own.wp_load_whole (c : Thread nD τ) 𝒱₀ none Set.univ (m := r2M false) zero2) $$ RAp; iintro RAp
  ihave RAp := (Entails.of_eq (recv02 P c).symm) $$ RAp
  iapply (run_ret c)
  iapply Hk $$ %_ [] HB [RAp RAz] HA HO
  · ipureintro; refine ⟨?_, value02 P c⟩; dsimp only; revert c; decide +kernel
  · isplitl [RAp]; · iexact RAp
    iexact RAz

set_option maxHeartbeats 2000000 in
theorem part19 (v : BitVec 32) {Q : _ → sProp (MT nD τ sig Unit (Elt F) ℕ UU ℕ)} :
    env P K ⊢ iprop(anyOf c (w3M false) -∗ recvRdy 5 c -∗ spent2 P c 5 true -∗ anyOf c (w3M true) -∗ owed 6 c
      -∗ (∀ r, ⌜r.1 = isLow (bit 3 c)⌝ -∗ holds c (w3M false) (W3 P false c) -∗ got P c 5 -∗ spent2 P c 5 true -∗ holds c (w3M true) (W3 P true c) -∗ owed 6 c -∗ Q r)
      -∗ run c (app k0_part19 (word c) (isLow (bit 0 c)) v (W3 P false c)) Q) := by
  simp only [k0_part19_eq_skeleton, k0_part19_skel, Prog.lift, Prog.bind_op, Prog.bind_ret, Prog.pure_eq_ret]
  iintro #He WA RB HB WB HO Hk
  icases WA with ⟨%Y, WA⟩
  iapply (Own.wp_load_whole (c : Thread nD τ) 𝒱₀ none Set.univ (m := w3M false) zero2) $$ WA; iintro WA
  iapply (Own.wp_store_whole (c : Thread nD τ) 𝒱₀ none Set.univ (m := w3M false) zero2) $$ WA; iintro WA
  have hW : k0_pay48 (W3 P false c) = W3 P false c := shapeCast_self _ _
  ihave WA := (Entails.of_eq (congrArg (holds c (w3M false)) hW)) $$ WA
  iapply (land c P K 5 (n := 6) (by decide) rfl) $$ He RB HO
  iintro RBp RBz HO
  iapply (fold_at P c 5 h64 (fun _ _ => rfl) (W2 P true c) (r2M true) (fun j => W2 P true (peer 0 c) ((h64 !bit 0 (peer 0 c)).emb j)) (recv12 P c) zero2 (W3 P true c) (value12 P c)) $$ HB RBp WB
  iintro HB RBp WB
  iapply (run_ret c)
  iapply Hk $$ %_ [] WA [RBp RBz] HB WB HO
  · ipureintro; clear hW; revert c; decide +kernel
  · isplitl [RBp]; · iexact RBp
    iexact RBz

set_option maxHeartbeats 2000000 in
theorem part20 (v : BitVec 32) {Q : _ → sProp (MT nD τ sig Unit (Elt F) ℕ UU ℕ)} :
    env P K ⊢ iprop(ready c P 6 -∗ holds c (w3M false) (W3 P false c) -∗ ready c P 7 -∗ holds c (w3M true) (W3 P true c) -∗ owed 6 c
      -∗ (∀ r, ⌜r.2.1 = isLow (bit 1 c)⌝ -∗ spent3 P c 6 false -∗ spent3 P c 7 true -∗ owed 8 c -∗ Q r)
      -∗ run c (app k0_part20 c (word c) (isLow (bit 3 c)) v) Q) := by
  simp only [k0_part20_eq_skeleton, k0_part20_skel, Prog.lift, Prog.bind_op, Prog.bind_ret, Prog.pure_eq_ret]
  iintro #He SA HA SB HB HO Hk
  ihave HA := (lend c P 6 (w3M false) h32 (fun _ _ => rfl) halves32 (W3 P false c) .rfl) $$ HA
  icases HA with ⟨HAs, HAp⟩
  iapply (sendR₀ c P K 6 rfl rfl (dev17_eq c) 6 rfl (cond13_iff c) rfl rfl) $$ He SA HAs HO
  iintro HAs
  iapply (sendR₁ c P K 6 rfl rfl (dev18_eq c) 7 rfl (cond14_iff c) rfl rfl) $$ HAs
  iintro HAf HO
  ihave HA : spent3 P c 6 false $$ [HAf HAp]
  · iapply (spent_intro c) $$ HAf HAp
  ihave HB := (lend c P 7 (w3M true) h32 (fun _ _ => rfl) halves32 (W3 P true c) .rfl) $$ HB
  icases HB with ⟨HBs, HBp⟩
  iapply (sendR₀ c P K 7 rfl rfl (dev19_eq c) 7 rfl (cond15_iff c) rfl rfl) $$ He SB HBs HO
  iintro HBs
  iapply (sendR₁ c P K 7 rfl rfl (dev20_eq c) 8 rfl (cond16_iff c) rfl rfl) $$ HBs
  iintro HBf HO
  ihave HB : spent3 P c 7 true $$ [HBf HBp]
  · iapply (spent_intro c) $$ HBf HBp
  iapply (run_ret c)
  iapply Hk $$ %_ [] HA HB HO
  · ipureintro; revert c; decide +kernel

set_option maxHeartbeats 2000000 in
theorem part21 (v v' : BitVec 32) {Q : _ → sProp (MT nD τ sig Unit (Elt F) ℕ UU ℕ)} :
    env P K ⊢ iprop(recvRdy 6 c -∗ recvRdy 7 c -∗ spent3 P c 6 false -∗ spent3 P c 7 true -∗ anyOf c (w4M false) -∗ anyOf c (w4M true) -∗ owed 8 c
      -∗ (∀ r, got P c 6 -∗ got P c 7 -∗ spent3 P c 6 false -∗ spent3 P c 7 true -∗ holds c (w4M false) (W4 P false c) -∗ holds c (w4M true) (W4 P true c) -∗ owed 8 c -∗ Q r)
      -∗ run c (app k0_part21 (word c) (isLow (bit 3 c)) v (isLow (bit 1 c)) v') Q) := by
  simp only [k0_part21_eq_skeleton, k0_part21_skel, Prog.lift, Prog.bind_op, Prog.bind_ret, Prog.pure_eq_ret]
  iintro #He RA RB HA HB WA WB HO Hk
  iapply (land c P K 6 (n := 8) (by decide) rfl) $$ He RA HO
  iintro RAp RAz HO
  iapply (fold_at P c 6 h32 (fun _ _ => rfl) (W3 P false c) (r3M false) (fun j => W3 P false (peer 3 c) ((h32 !bit 3 (peer 3 c)).emb j)) (recv03 P c) zero2 (W4 P false c) (value03 P c)) $$ HA RAp WA
  iintro HA RAp WA
  iapply (land c P K 7 (n := 8) (by decide) rfl) $$ He RB HO
  iintro RBp RBz HO
  iapply (fold_at P c 7 h32 (fun _ _ => rfl) (W3 P true c) (r3M true) (fun j => W3 P true (peer 1 c) ((h32 !bit 1 (peer 1 c)).emb j)) (recv13 P c) zero2 (W4 P true c) (value13 P c)) $$ HB RBp WB
  iintro HB RBp WB
  iapply (run_ret c)
  iapply Hk $$ %_ [RAp RAz] [RBp RBz] HA HB WA WB HO
  · isplitl [RAp]; · iexact RAp
    iexact RAz
  · isplitl [RBp]; · iexact RBp
    iexact RBz

end Cert.KernelIdealProof

end
-- ==== Proof.KernelIdealStepG.lean ====
/-
# A step of the gather

The two conditional copies of a step, each with the loads and the store that put the block into the device's own half.
-/
module

public import proofs.«01_k».proof.Proof.KernelIdealStep

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD) {α : Type} {Q : α → sProp (MT nD τ sig Unit (Elt F) ℕ UU ℕ)}
variable (P : Bool → Dev nD → Vec F S256x256 .f32) (K : GSem nD τ sig → ℕ)

/-- `sendG₀` with the exchange by name. -/
theorem sendGE₀ (e : Fin 16) {A : Prop} [Decidable A] {n : A → Dev nD} {sS sD : DmaSem sig} (hsS : sS = sIx e) (hsD : sD = rIx e) (hn : ∀ a, n a = mate e c)
    {E : Exch F} (hE : ex P e = E) {src dst : Buf2 E.sh}
    {hsc : ∀ a, (dst : Memref sig (Dev.tc (n a) : Thread nD τ).2.kind .vmem _ .f32).view.ref.isScScratch = false}
    {hsrc : A → src.view.WordExact} {hdst : A → dst.view.WordExact}
    {hsem : ∀ a, DmaTarget.Typed .vmem (.dma sD) (.remote (Dev.tc (n a) : Thread nD τ) dst (.dma sS) (hsc a))}
    {kk : Prog (TpuEff nD τ sig (Elt F) Λ₀ .tc) α} (o : ℕ) (ho : e.val = o) {p : A → Prog (TpuEff nD τ sig (Elt F) Λ₀ .tc) α} (hA : A ↔ bit (dim e) c = false)
    (hs : src = E.src false) (hd : dst = E.dst false)
    (hp : ∀ a, iprop(owns (c : Thread nD τ) src fullShare (E.val c) ∗ (∃ X, owns (c : Thread nD τ) dst fullShare X))
      ⊢ iprop((iprop(owns (c : Thread nD τ) src fullShare (E.val c) ∗ owns (c : Thread nD τ) dst fullShare (E.val c))
        -∗ run c (.op (.enqueueDma src (.remote (Dev.tc (n a) : Thread nD τ) dst (.dma sS) (hsc a)) (.dma sD) (hsrc a) (hdst a) (hsem a)) fun _ => kk) Q) -∗ run c (p a) Q)) :
    env P K ⊢ iprop(ready c P e -∗ curG c P e -∗ nextG c P e -∗ owed o c -∗ (midG c P K e -∗ run c kk Q) -∗ run c (if a : A then p a else kk) Q) := by
  subst hE
  exact sendG₀ c P K e hsS hsD hn o ho hA hs hd hp

/-- `sendG₁` with the exchange by name. -/
theorem sendGE₁ (e : Fin 16) {A : Prop} [Decidable A] {n : A → Dev nD} {sS sD : DmaSem sig} (hsS : sS = sIx e) (hsD : sD = rIx e) (hn : ∀ a, n a = mate e c)
    {E : Exch F} (hE : ex P e = E) {src dst : Buf2 E.sh}
    {hsc : ∀ a, (dst : Memref sig (Dev.tc (n a) : Thread nD τ).2.kind .vmem _ .f32).view.ref.isScScratch = false}
    {hsrc : A → src.view.WordExact} {hdst : A → dst.view.WordExact}
    {hsem : ∀ a, DmaTarget.Typed .vmem (.dma sD) (.remote (Dev.tc (n a) : Thread nD τ) dst (.dma sS) (hsc a))}
    {kk : Prog (TpuEff nD τ sig (Elt F) Λ₀ .tc) α} (o : ℕ) (ho : e.val + 1 = o) {p : A → Prog (TpuEff nD τ sig (Elt F) Λ₀ .tc) α} (hA : A ↔ bit (dim e) c = true)
    (hs : src = E.src true) (hd : dst = E.dst true)
    (hp : ∀ a, iprop(owns (c : Thread nD τ) src fullShare (E.val c) ∗ (∃ X, owns (c : Thread nD τ) dst fullShare X))
      ⊢ iprop((iprop(owns (c : Thread nD τ) src fullShare (E.val c) ∗ owns (c : Thread nD τ) dst fullShare (E.val c))
        -∗ run c (.op (.enqueueDma src (.remote (Dev.tc (n a) : Thread nD τ) dst (.dma sS) (hsc a)) (.dma sD) (hsrc a) (hdst a) (hsem a)) fun _ => kk) Q) -∗ run c (p a) Q)) :
    midG c P K e ⊢ iprop((spentG c P e -∗ stashedG c P e -∗ owed o c -∗ run c kk Q) -∗ run c (if a : A then p a else kk) Q) := by
  subst hE
  exact sendG₁ c P K e hsS hsD hn o ho hA hs hd hp

/-- The first of the two conditional copies of a step of the gather. -/
theorem stepG₀ (e : Fin 16) {S : Shape} {off sz : Fin S.rank → ℕ} {inb : ∀ a, off a + sz a ≤ S.size a}
    {cur : Buf2 ⟨S.rank, sz⟩} {big : Buf2 S} {D : Bool → Buf2 ⟨S.rank, sz⟩} {V : Dev nD → Shape.Idx ⟨S.rank, sz⟩ → Elt F .f32}
    (hE : ex P e = ⟨⟨S.rank, sz⟩, fun _ => cur, D, V⟩) {hr : ∀ a, (Rect.unit off sz inb).stride a = 1} (hd : big.slice (Rect.unit off sz inb) hr = D false)
    {off0 : Fin S.rank → ℕ} (h0 : off0 = fun _ => 0) {inb0 : ∀ a, off0 a + sz a ≤ sz a}
    {hl : cur.view.LoadsAt (Rect.unit (s := ⟨S.rank, sz⟩) off0 sz inb0).toLoadRect} {hl' : big.view.LoadsAt (Rect.unit off sz inb).toLoadRect}
    {pay : (Shape.Idx ⟨S.rank, sz⟩ → Elt F .f32) → (Shape.Idx ⟨S.rank, sz⟩ → Elt F .f32)} (hpay : ∀ v, pay v = v)
    {hx : (big.access (Rect.unit off sz inb)).Stores Finset.univ} {hm : Finset.univ = Finset.univ ∨ ∀ a, (Rect.unit off sz inb).stride a = 1}
    {A : Prop} [Decidable A] {n : A → Dev nD} {sS sD : DmaSem sig} (hsS : sS = sIx e) (hsD : sD = rIx e) (hn : ∀ a, n a = mate e c) (o : ℕ) (ho : e.val = o) (hA : A ↔ bit (dim e) c = false)
    {hsc : ∀ a, ((big.slice (Rect.unit off sz inb) hr) : Memref sig (Dev.tc (n a) : Thread nD τ).2.kind .vmem _ .f32).view.ref.isScScratch = false}
    {hsrc : A → cur.view.WordExact} {hdst : A → (big.slice (Rect.unit off sz inb) hr).view.WordExact}
    {hsem : ∀ a, DmaTarget.Typed .vmem (.dma sD) (.remote (Dev.tc (n a) : Thread nD τ) (big.slice (Rect.unit off sz inb) hr) (.dma sS) (hsc a))}
    {kk : Prog (TpuEff nD τ sig (Elt F) Λ₀ .tc) α} :
    env P K ⊢ iprop(ready c P e -∗ curG c P e -∗ nextG c P e -∗ owed o c -∗ (midG c P K e -∗ run c kk Q)
      -∗ run c (if a : A then .op (.load cur (Rect.unit (s := ⟨S.rank, sz⟩) off0 sz inb0).toLoadRect hl) fun v => .op (.load big (Rect.unit off sz inb).toLoadRect hl') fun _ =>
            .op (.store big (Rect.unit off sz inb) (pay v) Finset.univ hx hm) fun _ =>
            .op (.enqueueDma cur (.remote (Dev.tc (n a) : Thread nD τ) (big.slice (Rect.unit off sz inb) hr) (.dma sS) (hsc a)) (.dma sD) (hsrc a) (hdst a) (hsem a)) fun _ => kk else kk) Q) :=
  sendGE₀ c P K e hsS hsD hn hE o ho hA rfl hd (fun _ => stash c h0 hpay)

/-- The second of the two conditional copies of a step of the gather. -/
theorem stepG₁ (e : Fin 16) {S : Shape} {off sz : Fin S.rank → ℕ} {inb : ∀ a, off a + sz a ≤ S.size a}
    {cur : Buf2 ⟨S.rank, sz⟩} {big : Buf2 S} {D : Bool → Buf2 ⟨S.rank, sz⟩} {V : Dev nD → Shape.Idx ⟨S.rank, sz⟩ → Elt F .f32}
    (hE : ex P e = ⟨⟨S.rank, sz⟩, fun _ => cur, D, V⟩) {hr : ∀ a, (Rect.unit off sz inb).stride a = 1} (hd : big.slice (Rect.unit off sz inb) hr = D true)
    {off0 : Fin S.rank → ℕ} (h0 : off0 = fun _ => 0) {inb0 : ∀ a, off0 a + sz a ≤ sz a}
    {hl : cur.view.LoadsAt (Rect.unit (s := ⟨S.rank, sz⟩) off0 sz inb0).toLoadRect} {hl' : big.view.LoadsAt (Rect.unit off sz inb).toLoadRect}
    {pay : (Shape.Idx ⟨S.rank, sz⟩ → Elt F .f32) → (Shape.Idx ⟨S.rank, sz⟩ → Elt F .f32)} (hpay : ∀ v, pay v = v)
    {hx : (big.access (Rect.unit off sz inb)).Stores Finset.univ} {hm : Finset.univ = Finset.univ ∨ ∀ a, (Rect.unit off sz inb).stride a = 1}
    {A : Prop} [Decidable A] {n : A → Dev nD} {sS sD : DmaSem sig} (hsS : sS = sIx e) (hsD : sD = rIx e) (hn : ∀ a, n a = mate e c) (o : ℕ) (ho : e.val + 1 = o) (hA : A ↔ bit (dim e) c = true)
    {hsc : ∀ a, ((big.slice (Rect.unit off sz inb) hr) : Memref sig (Dev.tc (n a) : Thread nD τ).2.kind .vmem _ .f32).view.ref.isScScratch = false}
    {hsrc : A → cur.view.WordExact} {hdst : A → (big.slice (Rect.unit off sz inb) hr).view.WordExact}
    {hsem : ∀ a, DmaTarget.Typed .vmem (.dma sD) (.remote (Dev.tc (n a) : Thread nD τ) (big.slice (Rect.unit off sz inb) hr) (.dma sS) (hsc a))}
    {kk : Prog (TpuEff nD τ sig (Elt F) Λ₀ .tc) α} :
    midG c P K e ⊢ iprop((spentG c P e -∗ stashedG c P e -∗ owed o c -∗ run c kk Q)
      -∗ run c (if a : A then .op (.load cur (Rect.unit (s := ⟨S.rank, sz⟩) off0 sz inb0).toLoadRect hl) fun v => .op (.load big (Rect.unit off sz inb).toLoadRect hl') fun _ =>
            .op (.store big (Rect.unit off sz inb) (pay v) Finset.univ hx hm) fun _ =>
            .op (.enqueueDma cur (.remote (Dev.tc (n a) : Thread nD τ) (big.slice (Rect.unit off sz inb) hr) (.dma sS) (hsc a)) (.dma sD) (hsrc a) (hdst a) (hsem a)) fun _ => kk else kk) Q) :=
  sendGE₁ c P K e hsS hsD hn hE o ho hA rfl hd (fun _ => stash c h0 hpay)

/-- The first of the two conditional copies of a step of the gather into the output. -/
theorem stepO₀ (e : Fin 16) {off : Fin 3 → ℕ} {inb : ∀ a, off a + S1x128x256.size a ≤ S2x128x512.size a}
    {cur : Buf2 S128x256} {D : Bool → Buf2 S128x256} {V : Dev nD → Vec F S128x256 .f32}
    (hE : ex P e = ⟨S128x256, fun _ => cur, D, V⟩) {hr : ∀ a, (Rect.unit (s := S2x128x512) off S1x128x256.size inb).stride a = 1}
    (hd : ((oM : Buf2 S2x128x512).slice (Rect.unit (s := S2x128x512) off S1x128x256.size inb) hr).squeeze S128x256 squeezes_S1x128x256_S128x256 = D false)
    {off0 : Fin 2 → ℕ} (h0 : off0 = fun _ => 0) {inb0 : ∀ a, off0 a + S128x256.size a ≤ S128x256.size a}
    {hl : cur.view.LoadsAt (Rect.unit (s := S128x256) off0 S128x256.size inb0).toLoadRect} {hl' : (oM : Buf2 S2x128x512).view.LoadsAt (Rect.unit (s := S2x128x512) off S1x128x256.size inb).toLoadRect}
    {pay : Vec F S128x256 .f32 → Vec F S1x128x256 .f32} (hpay : ∀ v, pay v = shapeCast S1x128x256 v shapeCasts_S128x256_S1x128x256)
    {hx : ((oM : Buf2 S2x128x512).access (Rect.unit (s := S2x128x512) off S1x128x256.size inb)).Stores Finset.univ} {hm : Finset.univ = Finset.univ ∨ ∀ a, (Rect.unit (s := S2x128x512) off S1x128x256.size inb).stride a = 1}
    {A : Prop} [Decidable A] {n : A → Dev nD} {sS sD : DmaSem sig} (hsS : sS = sIx e) (hsD : sD = rIx e) (hn : ∀ a, n a = mate e c) (o : ℕ) (ho : e.val = o) (hA : A ↔ bit (dim e) c = false)
    {hsc : ∀ a, ((((oM : Buf2 S2x128x512).slice (Rect.unit (s := S2x128x512) off S1x128x256.size inb) hr).squeeze S128x256 squeezes_S1x128x256_S128x256) : Memref sig (Dev.tc (n a) : Thread nD τ).2.kind .vmem _ .f32).view.ref.isScScratch = false}
    {hsrc : A → cur.view.WordExact} {hdst : A → (((oM : Buf2 S2x128x512).slice (Rect.unit (s := S2x128x512) off S1x128x256.size inb) hr).squeeze S128x256 squeezes_S1x128x256_S128x256).view.WordExact}
    {hsem : ∀ a, DmaTarget.Typed .vmem (.dma sD) (.remote (Dev.tc (n a) : Thread nD τ) (((oM : Buf2 S2x128x512).slice (Rect.unit (s := S2x128x512) off S1x128x256.size inb) hr).squeeze S128x256 squeezes_S1x128x256_S128x256) (.dma sS) (hsc a))}
    {kk : Prog (TpuEff nD τ sig (Elt F) Λ₀ .tc) α} :
    env P K ⊢ iprop(ready c P e -∗ curG c P e -∗ nextG c P e -∗ owed o c -∗ (midG c P K e -∗ run c kk Q)
      -∗ run c (if a : A then .op (.load cur (Rect.unit (s := S128x256) off0 S128x256.size inb0).toLoadRect hl) fun v => .op (.load (oM : Buf2 S2x128x512) (Rect.unit (s := S2x128x512) off S1x128x256.size inb).toLoadRect hl') fun _ =>
            .op (.store (oM : Buf2 S2x128x512) (Rect.unit (s := S2x128x512) off S1x128x256.size inb) (pay v) Finset.univ hx hm) fun _ =>
            .op (.enqueueDma cur (.remote (Dev.tc (n a) : Thread nD τ) (((oM : Buf2 S2x128x512).slice (Rect.unit (s := S2x128x512) off S1x128x256.size inb) hr).squeeze S128x256 squeezes_S1x128x256_S128x256) (.dma sS) (hsc a)) (.dma sD) (hsrc a) (hdst a) (hsem a)) fun _ => kk else kk) Q) :=
  sendGE₀ c P K e hsS hsD hn hE o ho hA rfl hd (fun _ => stashO (s := false) (b := false) c h0 hpay)

/-- The second of the two conditional copies of a step of the gather into the output. -/
theorem stepO₁ (e : Fin 16) {off : Fin 3 → ℕ} {inb : ∀ a, off a + S1x128x256.size a ≤ S2x128x512.size a}
    {cur : Buf2 S128x256} {D : Bool → Buf2 S128x256} {V : Dev nD → Vec F S128x256 .f32}
    (hE : ex P e = ⟨S128x256, fun _ => cur, D, V⟩) {hr : ∀ a, (Rect.unit (s := S2x128x512) off S1x128x256.size inb).stride a = 1}
    (hd : ((oM : Buf2 S2x128x512).slice (Rect.unit (s := S2x128x512) off S1x128x256.size inb) hr).squeeze S128x256 squeezes_S1x128x256_S128x256 = D true)
    {off0 : Fin 2 → ℕ} (h0 : off0 = fun _ => 0) {inb0 : ∀ a, off0 a + S128x256.size a ≤ S128x256.size a}
    {hl : cur.view.LoadsAt (Rect.unit (s := S128x256) off0 S128x256.size inb0).toLoadRect} {hl' : (oM : Buf2 S2x128x512).view.LoadsAt (Rect.unit (s := S2x128x512) off S1x128x256.size inb).toLoadRect}
    {pay : Vec F S128x256 .f32 → Vec F S1x128x256 .f32} (hpay : ∀ v, pay v = shapeCast S1x128x256 v shapeCasts_S128x256_S1x128x256)
    {hx : ((oM : Buf2 S2x128x512).access (Rect.unit (s := S2x128x512) off S1x128x256.size inb)).Stores Finset.univ} {hm : Finset.univ = Finset.univ ∨ ∀ a, (Rect.unit (s := S2x128x512) off S1x128x256.size inb).stride a = 1}
    {A : Prop} [Decidable A] {n : A → Dev nD} {sS sD : DmaSem sig} (hsS : sS = sIx e) (hsD : sD = rIx e) (hn : ∀ a, n a = mate e c) (o : ℕ) (ho : e.val + 1 = o) (hA : A ↔ bit (dim e) c = true)
    {hsc : ∀ a, ((((oM : Buf2 S2x128x512).slice (Rect.unit (s := S2x128x512) off S1x128x256.size inb) hr).squeeze S128x256 squeezes_S1x128x256_S128x256) : Memref sig (Dev.tc (n a) : Thread nD τ).2.kind .vmem _ .f32).view.ref.isScScratch = false}
    {hsrc : A → cur.view.WordExact} {hdst : A → (((oM : Buf2 S2x128x512).slice (Rect.unit (s := S2x128x512) off S1x128x256.size inb) hr).squeeze S128x256 squeezes_S1x128x256_S128x256).view.WordExact}
    {hsem : ∀ a, DmaTarget.Typed .vmem (.dma sD) (.remote (Dev.tc (n a) : Thread nD τ) (((oM : Buf2 S2x128x512).slice (Rect.unit (s := S2x128x512) off S1x128x256.size inb) hr).squeeze S128x256 squeezes_S1x128x256_S128x256) (.dma sS) (hsc a))}
    {kk : Prog (TpuEff nD τ sig (Elt F) Λ₀ .tc) α} :
    midG c P K e ⊢ iprop((spentG c P e -∗ stashedG c P e -∗ owed o c -∗ run c kk Q)
      -∗ run c (if a : A then .op (.load cur (Rect.unit (s := S128x256) off0 S128x256.size inb0).toLoadRect hl) fun v => .op (.load (oM : Buf2 S2x128x512) (Rect.unit (s := S2x128x512) off S1x128x256.size inb).toLoadRect hl') fun _ =>
            .op (.store (oM : Buf2 S2x128x512) (Rect.unit (s := S2x128x512) off S1x128x256.size inb) (pay v) Finset.univ hx hm) fun _ =>
            .op (.enqueueDma cur (.remote (Dev.tc (n a) : Thread nD τ) (((oM : Buf2 S2x128x512).slice (Rect.unit (s := S2x128x512) off S1x128x256.size inb) hr).squeeze S128x256 squeezes_S1x128x256_S128x256) (.dma sS) (hsc a)) (.dma sD) (hsrc a) (hdst a) (hsem a)) fun _ => kk else kk) Q) :=
  sendGE₁ c P K e hsS hsD hn hE o ho hA rfl hd (fun _ => stashO (s := false) (b := false) c h0 hpay)

end

end Cert.KernelIdealProof

end
-- ==== Proof.KernelIdealGather.lean ====
/-
# The gather's parts of the body

Four steps on each of two streams: the block goes to the peer across the step's edge and into the device's own half of the
next block, and the peer's block lands in the other half. Then the copies' ends are waited for, and every buffer is whole again.
-/
module

public import proofs.«01_k».proof.Proof.KernelIdealFold
public import proofs.«01_k».proof.Proof.KernelIdealStepG

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (c : Dev nD)

/-- A block whose copy has ended, whole again, and the copy's counter at zero. -/
abbrev back {S : Shape} (e : Fin 16) (m : Buf2 S) : sProp 𝕄 := iprop(anyOf c m ∗ semVal (sendCell e c) 0)

theorem spentG_elim {e : Fin 16} : (spentG c P e : sProp 𝕄) ⊢ iprop(inFlight e c ∗ owns (c : Thread nD τ) ((ex P e).src (bit (dim e) c)) fullShare.right ((ex P e).val c)) := by
  unfold spentG; exact .rfl

theorem join8 : iprop(stashedG c P 8 ∗ recvPay P 8 c) ⊢ (curG c P 10 : sProp 𝕄) :=
  joined c (g3M false) h32 (fun _ _ => rfl) halves32 3 (fun c _ => W4 P false c)

theorem join9 : iprop(stashedG c P 9 ∗ recvPay P 9 c) ⊢ (curG c P 11 : sProp 𝕄) :=
  joined c (g3M true) h32 (fun _ _ => rfl) halves32 1 (fun c _ => W4 P true c)

theorem join10 : iprop(stashedG c P 10 ∗ recvPay P 10 c) ⊢ (curG c P 12 : sProp 𝕄) :=
  joined c (g2M false) h64 (fun _ _ => rfl) halves64 2 (fun c _ => G3 P false c)

theorem join11 : iprop(stashedG c P 11 ∗ recvPay P 11 c) ⊢ (curG c P 13 : sProp 𝕄) :=
  joined c (g2M true) h64 (fun _ _ => rfl) halves64 0 (fun c _ => G3 P true c)

theorem join12 : iprop(stashedG c P 12 ∗ recvPay P 12 c) ⊢ (curG c P 14 : sProp 𝕄) :=
  joined c (g1M false) h128 (fun _ _ => rfl) halves128 1 (fun c _ => G2 P false c)

theorem join13 : iprop(stashedG c P 13 ∗ recvPay P 13 c) ⊢ (curG c P 15 : sProp 𝕄) :=
  joined c (g1M true) h128 (fun _ _ => rfl) halves128 3 (fun c _ => G2 P true c)

theorem whole0 : iprop(sendPay P 0 c ∗ spare c 0 (w0M false) h256 (fun _ _ => rfl) (P false c)) ⊢ (holds c (w0M false) (P false c) : sProp 𝕄) :=
  unlend c P 0 (w0M false) h256 (fun _ _ => rfl) halves256 (P false c) .rfl

theorem whole1 : iprop(sendPay P 1 c ∗ spare c 1 (w0M true) h256 (fun _ _ => rfl) (P true c)) ⊢ (holds c (w0M true) (P true c) : sProp 𝕄) :=
  unlend c P 1 (w0M true) h256 (fun _ _ => rfl) halves256 (P true c) .rfl

theorem whole2 : iprop(sendPay P 2 c ∗ spare c 2 (w1M false) h128 (fun _ _ => rfl) (W1 P false c)) ⊢ (holds c (w1M false) (W1 P false c) : sProp 𝕄) :=
  unlend c P 2 (w1M false) h128 (fun _ _ => rfl) halves128 (W1 P false c) .rfl

theorem whole3 : iprop(sendPay P 3 c ∗ spare c 3 (w1M true) h128 (fun _ _ => rfl) (W1 P true c)) ⊢ (holds c (w1M true) (W1 P true c) : sProp 𝕄) :=
  unlend c P 3 (w1M true) h128 (fun _ _ => rfl) halves128 (W1 P true c) .rfl

theorem whole4 : iprop(sendPay P 4 c ∗ spare c 4 (w2M false) h64 (fun _ _ => rfl) (W2 P false c)) ⊢ (holds c (w2M false) (W2 P false c) : sProp 𝕄) :=
  unlend c P 4 (w2M false) h64 (fun _ _ => rfl) halves64 (W2 P false c) .rfl

theorem whole5 : iprop(sendPay P 5 c ∗ spare c 5 (w2M true) h64 (fun _ _ => rfl) (W2 P true c)) ⊢ (holds c (w2M true) (W2 P true c) : sProp 𝕄) :=
  unlend c P 5 (w2M true) h64 (fun _ _ => rfl) halves64 (W2 P true c) .rfl

theorem whole6 : iprop(sendPay P 6 c ∗ spare c 6 (w3M false) h32 (fun _ _ => rfl) (W3 P false c)) ⊢ (holds c (w3M false) (W3 P false c) : sProp 𝕄) :=
  unlend c P 6 (w3M false) h32 (fun _ _ => rfl) halves32 (W3 P false c) .rfl

theorem whole7 : iprop(sendPay P 7 c ∗ spare c 7 (w3M true) h32 (fun _ _ => rfl) (W3 P true c)) ⊢ (holds c (w3M true) (W3 P true c) : sProp 𝕄) :=
  unlend c P 7 (w3M true) h32 (fun _ _ => rfl) halves32 (W3 P true c) .rfl

theorem whole8 : iprop(sendPay P 8 c ∗ owns (c : Thread nD τ) ((ex P 8).src (bit (dim 8) c)) fullShare.right ((ex P 8).val c)) ⊢ (holds c (w4M false) (W4 P false c) : sProp 𝕄) :=
  Own.unshare (c : Thread nD τ) (w4M false) fullShare (W4 P false c)

theorem whole9 : iprop(sendPay P 9 c ∗ owns (c : Thread nD τ) ((ex P 9).src (bit (dim 9) c)) fullShare.right ((ex P 9).val c)) ⊢ (holds c (w4M true) (W4 P true c) : sProp 𝕄) :=
  Own.unshare (c : Thread nD τ) (w4M true) fullShare (W4 P true c)

theorem whole10 : iprop(sendPay P 10 c ∗ owns (c : Thread nD τ) ((ex P 10).src (bit (dim 10) c)) fullShare.right ((ex P 10).val c)) ⊢ (holds c (g3M false) (G3 P false c) : sProp 𝕄) :=
  Own.unshare (c : Thread nD τ) (g3M false) fullShare (G3 P false c)

theorem whole11 : iprop(sendPay P 11 c ∗ owns (c : Thread nD τ) ((ex P 11).src (bit (dim 11) c)) fullShare.right ((ex P 11).val c)) ⊢ (holds c (g3M true) (G3 P true c) : sProp 𝕄) :=
  Own.unshare (c : Thread nD τ) (g3M true) fullShare (G3 P true c)

theorem whole12 : iprop(sendPay P 12 c ∗ owns (c : Thread nD τ) ((ex P 12).src (bit (dim 12) c)) fullShare.right ((ex P 12).val c)) ⊢ (holds c (g2M false) (G2 P false c) : sProp 𝕄) :=
  Own.unshare (c : Thread nD τ) (g2M false) fullShare (G2 P false c)

theorem whole13 : iprop(sendPay P 13 c ∗ owns (c : Thread nD τ) ((ex P 13).src (bit (dim 13) c)) fullShare.right ((ex P 13).val c)) ⊢ (holds c (g2M true) (G2 P true c) : sProp 𝕄) :=
  Own.unshare (c : Thread nD τ) (g2M true) fullShare (G2 P true c)

theorem whole14 : iprop(sendPay P 14 c ∗ owns (c : Thread nD τ) ((ex P 14).src (bit (dim 14) c)) fullShare.right ((ex P 14).val c)) ⊢ (holds c (g1M false) (G1 P false c) : sProp 𝕄) :=
  Own.unshare (c : Thread nD τ) (g1M false) fullShare (G1 P false c)

theorem whole15 : iprop(sendPay P 15 c ∗ owns (c : Thread nD τ) ((ex P 15).src (bit (dim 15) c)) fullShare.right ((ex P 15).val c)) ⊢ (holds c (g1M true) (G1 P true c) : sProp 𝕄) :=
  Own.unshare (c : Thread nD τ) (g1M true) fullShare (G1 P true c)

theorem ex8 : ex P 8 = ⟨S16x256, fun _ => w4M false, fun b => (g3M false).slice (h32 b) (fun _ => rfl), W4 P false⟩ := rfl

theorem ex9 : ex P 9 = ⟨S16x256, fun _ => w4M true, fun b => (g3M true).slice (h32 b) (fun _ => rfl), W4 P true⟩ := rfl

theorem ex10 : ex P 10 = ⟨S32x256, fun _ => g3M false, fun b => (g2M false).slice (h64 b) (fun _ => rfl), G3 P false⟩ := rfl

theorem ex11 : ex P 11 = ⟨S32x256, fun _ => g3M true, fun b => (g2M true).slice (h64 b) (fun _ => rfl), G3 P true⟩ := rfl

theorem ex12 : ex P 12 = ⟨S64x256, fun _ => g2M false, fun b => (g1M false).slice (h128 b) (fun _ => rfl), G2 P false⟩ := rfl

theorem ex13 : ex P 13 = ⟨S64x256, fun _ => g2M true, fun b => (g1M true).slice (h128 b) (fun _ => rfl), G2 P true⟩ := rfl

theorem ex14 : ex P 14 = ⟨S128x256, fun _ => g1M false, fun b => oQ false b, G1 P false⟩ := rfl

theorem ex15 : ex P 15 = ⟨S128x256, fun _ => g1M true, fun b => oQ true b, G1 P true⟩ := rfl

set_option maxHeartbeats 2000000 in
theorem part22 (v₁ v₂ v₃ v₄ : BitVec 32) {Q : _ → sProp (MT nD τ sig Unit (Elt F) ℕ UU ℕ)} :
    env P K ⊢ iprop(ready c P 8 -∗ curG c P 8 -∗ nextG c P 8 -∗ owed 8 c
      -∗ (∀ r, spentG c P 8 -∗ stashedG c P 8 -∗ owed 9 c -∗ Q r)
      -∗ run c (app k0_part22 c (word c) v₁ v₂ v₃ v₄) Q) := by
  simp only [k0_part22_eq_skeleton, k0_part22_skel, Prog.lift, Prog.bind_op, Prog.bind_ret, Prog.pure_eq_ret]
  iintro #He R C N HO Hk
  iapply (stepG₀ c P K 8 (S := S32x256) (sz := S16x256.size) (cur := w4M false) (big := g3M false) (off := ![0, 0]) (inb := inb_S32x256_S16x256_0_0) (off0 := ![0, 0]) (ex8 P) rfl (pay := k0_pay52) zero2 (fun v => shapeCast_self _ _) rfl rfl (dev21_eq c) 8 rfl (cond17_iff c)) $$ He R C N HO
  iintro M
  iapply (stepG₁ c P K 8 (S := S32x256) (sz := S16x256.size) (cur := w4M false) (big := g3M false) (off := ![16, 0]) (inb := inb_S32x256_S16x256_16_0) (off0 := ![0, 0]) (ex8 P) rfl (pay := k0_pay53) zero2 (fun v => shapeCast_self _ _) rfl rfl (dev22_eq c) 9 rfl (cond18_iff c)) $$ M
  iintro S T HO
  iapply (run_ret c)
  iapply Hk $$ %_ S T HO

set_option maxHeartbeats 2000000 in
theorem part23 (v₁ v₂ : BitVec 32) {Q : _ → sProp (MT nD τ sig Unit (Elt F) ℕ UU ℕ)} :
    env P K ⊢ iprop(ready c P 9 -∗ curG c P 9 -∗ nextG c P 9 -∗ recvRdy 8 c -∗ recvRdy 9 c -∗ stashedG c P 8 -∗ owed 9 c
      -∗ (∀ r, spentG c P 9 -∗ curG c P 10 -∗ curG c P 11 -∗ semVal (recvCell 8 c) 0 -∗ semVal (recvCell 9 c) 0 -∗ owed 10 c -∗ Q r)
      -∗ run c (app k0_part23 c (word c) v₁ v₂) Q) := by
  simp only [k0_part23_eq_skeleton, k0_part23_skel, Prog.lift, Prog.bind_op, Prog.bind_ret, Prog.pure_eq_ret]
  iintro #He R C N RA RB TA HO Hk
  iapply (stepG₀ c P K 9 (S := S32x256) (sz := S16x256.size) (cur := w4M true) (big := g3M true) (off := ![0, 0]) (inb := inb_S32x256_S16x256_0_0) (off0 := ![0, 0]) (ex9 P) rfl (pay := k0_pay54) zero2 (fun v => shapeCast_self _ _) rfl rfl (dev23_eq c) 9 rfl (cond19_iff c)) $$ He R C N HO
  iintro M
  iapply (stepG₁ c P K 9 (S := S32x256) (sz := S16x256.size) (cur := w4M true) (big := g3M true) (off := ![16, 0]) (inb := inb_S32x256_S16x256_16_0) (off0 := ![0, 0]) (ex9 P) rfl (pay := k0_pay55) zero2 (fun v => shapeCast_self _ _) rfl rfl (dev24_eq c) 10 rfl (cond20_iff c)) $$ M
  iintro S TB HO
  iapply (land c P K 8 (n := 10) (by decide) rfl) $$ He RA HO
  iintro RAp RA HO
  ihave CA := (join8 P c) $$ [TA RAp]
  · isplitl [TA] <;> iassumption
  iapply (land c P K 9 (n := 10) (by decide) rfl) $$ He RB HO
  iintro RBp RB HO
  ihave CB := (join9 P c) $$ [TB RBp]
  · isplitl [TB] <;> iassumption
  iapply (run_ret c)
  iapply Hk $$ %_ S CA CB RA RB HO

set_option maxHeartbeats 2000000 in
theorem part24 (v₁ : BitVec 32) (v₂ : BitVec 1) (v₃ : BitVec 32) {Q : _ → sProp (MT nD τ sig Unit (Elt F) ℕ UU ℕ)} :
    env P K ⊢ iprop(ready c P 10 -∗ curG c P 10 -∗ nextG c P 10 -∗ ready c P 11 -∗ curG c P 11 -∗ nextG c P 11 -∗ owed 10 c
      -∗ (∀ r, spentG c P 10 -∗ stashedG c P 10 -∗ midG c P K 11 -∗ Q r)
      -∗ run c (app k0_part24 c (word c) v₁ v₂ v₃) Q) := by
  simp only [k0_part24_eq_skeleton, k0_part24_skel, Prog.lift, Prog.bind_op, Prog.bind_ret, Prog.pure_eq_ret]
  iintro #He RA CA NA RB CB NB HO Hk
  iapply (stepG₀ c P K 10 (S := S64x256) (sz := S32x256.size) (cur := g3M false) (big := g2M false) (off := ![0, 0]) (inb := inb_S64x256_S32x256_0_0) (off0 := ![0, 0]) (ex10 P) rfl (pay := k0_pay56) zero2 (fun v => shapeCast_self _ _) rfl rfl (dev25_eq c) 10 rfl (cond21_iff c)) $$ He RA CA NA HO
  iintro MA
  iapply (stepG₁ c P K 10 (S := S64x256) (sz := S32x256.size) (cur := g3M false) (big := g2M false) (off := ![32, 0]) (inb := inb_S64x256_S32x256_32_0) (off0 := ![0, 0]) (ex10 P) rfl (pay := k0_pay57) zero2 (fun v => shapeCast_self _ _) rfl rfl (dev26_eq c) 11 rfl (cond22_iff c)) $$ MA
  iintro S T HO
  iapply (stepG₀ c P K 11 (S := S64x256) (sz := S32x256.size) (cur := g3M true) (big := g2M true) (off := ![0, 0]) (inb := inb_S64x256_S32x256_0_0) (off0 := ![0, 0]) (ex11 P) rfl (pay := k0_pay58) zero2 (fun v => shapeCast_self _ _) rfl rfl (dev27_eq c) 11 rfl (cond23_iff c)) $$ He RB CB NB HO
  iintro M
  iapply (run_ret c)
  iapply Hk $$ %_ S T M

set_option maxHeartbeats 2000000 in
theorem part25 (v₁ : BitVec 32) (v₂ : BitVec 1) {Q : _ → sProp (MT nD τ sig Unit (Elt F) ℕ UU ℕ)} :
    env P K ⊢ iprop(midG c P K 11 -∗ recvRdy 10 c -∗ recvRdy 11 c -∗ stashedG c P 10
      -∗ (∀ r, spentG c P 11 -∗ curG c P 12 -∗ curG c P 13 -∗ semVal (recvCell 10 c) 0 -∗ semVal (recvCell 11 c) 0 -∗ owed 12 c -∗ Q r)
      -∗ run c (app k0_part25 c (word c) v₁ v₂) Q) := by
  simp only [k0_part25_eq_skeleton, k0_part25_skel, Prog.lift, Prog.bind_op, Prog.bind_ret, Prog.pure_eq_ret]
  iintro #He M RA RB TA Hk
  iapply (stepG₁ c P K 11 (S := S64x256) (sz := S32x256.size) (cur := g3M true) (big := g2M true) (off := ![32, 0]) (inb := inb_S64x256_S32x256_32_0) (off0 := ![0, 0]) (ex11 P) rfl (pay := k0_pay59) zero2 (fun v => shapeCast_self _ _) rfl rfl (dev28_eq c) 12 rfl (cond24_iff c)) $$ M
  iintro S TB HO
  iapply (land c P K 10 (n := 12) (by decide) rfl) $$ He RA HO
  iintro RAp RA HO
  ihave CA := (join10 P c) $$ [TA RAp]
  · isplitl [TA] <;> iassumption
  iapply (land c P K 11 (n := 12) (by decide) rfl) $$ He RB HO
  iintro RBp RB HO
  ihave CB := (join11 P c) $$ [TB RBp]
  · isplitl [TB] <;> iassumption
  iapply (run_ret c)
  iapply Hk $$ %_ S CA CB RA RB HO

end Cert.KernelIdealProof

end
-- ==== Proof.KernelIdealGather2.lean ====
/-
# The gather's last parts of the body

Four steps on each of two streams: the block goes to the peer across the step's edge and into the device's own half of the
next block, and the peer's block lands in the other half. Then the copies' ends are waited for, and every buffer is whole again.
-/
module

public import proofs.«01_k».proof.Proof.KernelIdealGather
public import proofs.«01_k».proof.Proof.KernelIdealStepG

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Bool → Dev nD → Vec F S256x256 .f32) (K : GSem nD τ sig → ℕ) (c : Dev nD)

set_option maxHeartbeats 2000000 in
theorem part26 (v₁ : BitVec 32) {Q : _ → sProp (MT nD τ sig Unit (Elt F) ℕ UU ℕ)} :
    env P K ⊢ iprop(ready c P 12 -∗ curG c P 12 -∗ nextG c P 12 -∗ ready c P 13 -∗ curG c P 13 -∗ nextG c P 13 -∗ owed 12 c
      -∗ (∀ r, spentG c P 12 -∗ stashedG c P 12 -∗ spentG c P 13 -∗ stashedG c P 13 -∗ owed 14 c -∗ Q r)
      -∗ run c (app k0_part26 c (word c) v₁) Q) := by
  simp only [k0_part26_eq_skeleton, k0_part26_skel, Prog.lift, Prog.bind_op, Prog.bind_ret, Prog.pure_eq_ret]
  iintro #He RA CA NA RB CB NB HO Hk
  iapply (stepG₀ c P K 12 (S := S128x256) (sz := S64x256.size) (cur := g2M false) (big := g1M false) (off := ![0, 0]) (inb := inb_S128x256_S64x256_0_0) (off0 := ![0, 0]) (ex12 P) rfl (pay := k0_pay60) zero2 (fun v => shapeCast_self _ _) rfl rfl (dev29_eq c) 12 rfl (cond25_iff c)) $$ He RA CA NA HO
  iintro MA
  iapply (stepG₁ c P K 12 (S := S128x256) (sz := S64x256.size) (cur := g2M false) (big := g1M false) (off := ![64, 0]) (inb := inb_S128x256_S64x256_64_0) (off0 := ![0, 0]) (ex12 P) rfl (pay := k0_pay61) zero2 (fun v => shapeCast_self _ _) rfl rfl (dev30_eq c) 13 rfl (cond26_iff c)) $$ MA
  iintro SA TA HO
  iapply (stepG₀ c P K 13 (S := S128x256) (sz := S64x256.size) (cur := g2M true) (big := g1M true) (off := ![0, 0]) (inb := inb_S128x256_S64x256_0_0) (off0 := ![0, 0]) (ex13 P) rfl (pay := k0_pay62) zero2 (fun v => shapeCast_self _ _) rfl rfl (dev31_eq c) 13 rfl (cond27_iff c)) $$ He RB CB NB HO
  iintro MB
  iapply (stepG₁ c P K 13 (S := S128x256) (sz := S64x256.size) (cur := g2M true) (big := g1M true) (off := ![64, 0]) (inb := inb_S128x256_S64x256_64_0) (off0 := ![0, 0]) (ex13 P) rfl (pay := k0_pay63) zero2 (fun v => shapeCast_self _ _) rfl rfl (dev32_eq c) 14 rfl (cond28_iff c)) $$ MB
  iintro SB TB HO
  iapply (run_ret c)
  iapply Hk $$ %_ SA TA SB TB HO

set_option maxHeartbeats 2000000 in
theorem part27 (v₁ : BitVec 32) {Q : _ → sProp (MT nD τ sig Unit (Elt F) ℕ UU ℕ)} :
    env P K ⊢ iprop(recvRdy 12 c -∗ recvRdy 13 c -∗ stashedG c P 12 -∗ stashedG c P 13 -∗ ready c P 14 -∗ nextG c P 14 -∗ owed 14 c
      -∗ (∀ r, midG c P K 14 -∗ curG c P 15 -∗ semVal (recvCell 12 c) 0 -∗ semVal (recvCell 13 c) 0 -∗ Q r)
      -∗ run c (app k0_part27 c (word c) v₁) Q) := by
  simp only [k0_part27_eq_skeleton, k0_part27_skel, Prog.lift, Prog.bind_op, Prog.bind_ret, Prog.pure_eq_ret]
  iintro #He RA RB TA TB R N HO Hk
  iapply (land c P K 12 (n := 14) (by decide) rfl) $$ He RA HO
  iintro RAp RA HO
  ihave CA := (join12 P c) $$ [TA RAp]
  · isplitl [TA] <;> iassumption
  iapply (land c P K 13 (n := 14) (by decide) rfl) $$ He RB HO
  iintro RBp RB HO
  ihave CB := (join13 P c) $$ [TB RBp]
  · isplitl [TB] <;> iassumption
  iapply (stepO₀ c P K 14 (cur := g1M false) (off := ![0, 0, 0]) (inb := inb_S2x128x512_S1x128x256_0_0_0) (off0 := ![0, 0]) (ex14 P) rfl (pay := k0_pay64) zero2 (fun v => rfl) rfl rfl (dev33_eq c) 14 rfl (cond29_iff c)) $$ He R CA N HO
  iintro M
  iapply (run_ret c)
  iapply Hk $$ %_ M CB RA RB

set_option maxHeartbeats 2000000 in
theorem part28 (v₁ : BitVec 1) {Q : _ → sProp (MT nD τ sig Unit (Elt F) ℕ UU ℕ)} :
    env P K ⊢ iprop(midG c P K 14 -∗ ready c P 15 -∗ curG c P 15 -∗ nextG c P 15
      -∗ (∀ r, spentG c P 14 -∗ stashedG c P 14 -∗ spentG c P 15 -∗ stashedG c P 15 -∗ owed 16 c -∗ Q r)
      -∗ run c (app k0_part28 c (word c) v₁) Q) := by
  simp only [k0_part28_eq_skeleton, k0_part28_skel, Prog.lift, Prog.bind_op, Prog.bind_ret, Prog.pure_eq_ret]
  iintro #He MA R C N Hk
  iapply (stepO₁ c P K 14 (cur := g1M false) (off := ![1, 0, 0]) (inb := inb_S2x128x512_S1x128x256_1_0_0) (off0 := ![0, 0]) (ex14 P) rfl (pay := k0_pay65) zero2 (fun v => rfl) rfl rfl (dev34_eq c) 15 rfl (cond30_iff c)) $$ MA
  iintro SA TA HO
  iapply (stepO₀ c P K 15 (cur := g1M true) (off := ![0, 0, 256]) (inb := inb_S2x128x512_S1x128x256_0_0_256) (off0 := ![0, 0]) (ex15 P) rfl (pay := k0_pay66) zero2 (fun v => rfl) rfl rfl (dev35_eq c) 15 rfl (cond31_iff c)) $$ He R C N HO
  iintro MB
  iapply (stepO₁ c P K 15 (cur := g1M true) (off := ![1, 0, 256]) (inb := inb_S2x128x512_S1x128x256_1_0_256) (off0 := ![0, 0]) (ex15 P) rfl (pay := k0_pay67) zero2 (fun v => rfl) rfl rfl (dev36_eq c) 16 rfl (cond32_iff c)) $$ MB
  iintro SB TB HO
  iapply (run_ret c)
  iapply Hk $$ %_ SA TA SB TB HO

set_option maxHeartbeats 2000000 in
theorem part29 (v₁ v₂ v₃ : BitVec 32) {Q : _ → sProp (MT nD τ sig Unit (Elt F) ℕ UU ℕ)} :
    env P K ⊢ iprop(recvRdy 14 c -∗ recvRdy 15 c -∗ spent0 P c 0 false -∗ spent0 P c 1 true -∗ spent1 P c 2 false -∗ spent1 P c 3 true -∗ spent2 P c 4 false -∗ spent2 P c 5 true -∗ owed 16 c
      -∗ (∀ r, got P c 14 -∗ got P c 15 -∗ back c 0 (w0M false) -∗ back c 1 (w0M true) -∗ back c 2 (w1M false) -∗ back c 3 (w1M true) -∗ back c 4 (w2M false) -∗ back c 5 (w2M true) -∗ owed 16 c -∗ Q r)
      -∗ run c (app k0_part29 v₁ v₂ v₃) Q) := by
  simp only [k0_part29_eq_skeleton, k0_part29_skel, Prog.lift, Prog.bind_op, Prog.bind_ret, Prog.pure_eq_ret]
  iintro #He RA RB H0 H1 H2 H3 H4 H5 HO Hk
  iapply (land c P K 14 (n := 16) (by decide) rfl) $$ He RA HO
  iintro RAp RAz HO
  iapply (land c P K 15 (n := 16) (by decide) rfl) $$ He RB HO
  iintro RBp RBz HO
  ihave H0 := (spent_elim c) $$ H0
  icases H0 with ⟨H0f, H0s⟩
  iapply (done c P K 0 rfl) $$ He H0f HO
  iintro ⟨H0f, H0z⟩ HO
  ihave H0 := (whole0 P c) $$ [H0f H0s]
  · isplitl [H0f] <;> iassumption
  ihave H0 : back c 0 (w0M false) $$ [H0 H0z]
  · isplitr [H0z]
    · iexists _; iexact H0
    · iexact H0z
  ihave H1 := (spent_elim c) $$ H1
  icases H1 with ⟨H1f, H1s⟩
  iapply (done c P K 1 rfl) $$ He H1f HO
  iintro ⟨H1f, H1z⟩ HO
  ihave H1 := (whole1 P c) $$ [H1f H1s]
  · isplitl [H1f] <;> iassumption
  ihave H1 : back c 1 (w0M true) $$ [H1 H1z]
  · isplitr [H1z]
    · iexists _; iexact H1
    · iexact H1z
  ihave H2 := (spent_elim c) $$ H2
  icases H2 with ⟨H2f, H2s⟩
  iapply (done c P K 2 rfl) $$ He H2f HO
  iintro ⟨H2f, H2z⟩ HO
  ihave H2 := (whole2 P c) $$ [H2f H2s]
  · isplitl [H2f] <;> iassumption
  ihave H2 : back c 2 (w1M false) $$ [H2 H2z]
  · isplitr [H2z]
    · iexists _; iexact H2
    · iexact H2z
  ihave H3 := (spent_elim c) $$ H3
  icases H3 with ⟨H3f, H3s⟩
  iapply (done c P K 3 rfl) $$ He H3f HO
  iintro ⟨H3f, H3z⟩ HO
  ihave H3 := (whole3 P c) $$ [H3f H3s]
  · isplitl [H3f] <;> iassumption
  ihave H3 : back c 3 (w1M true) $$ [H3 H3z]
  · isplitr [H3z]
    · iexists _; iexact H3
    · iexact H3z
  ihave H4 := (spent_elim c) $$ H4
  icases H4 with ⟨H4f, H4s⟩
  iapply (done c P K 4 rfl) $$ He H4f HO
  iintro ⟨H4f, H4z⟩ HO
  ihave H4 := (whole4 P c) $$ [H4f H4s]
  · isplitl [H4f] <;> iassumption
  ihave H4 : back c 4 (w2M false) $$ [H4 H4z]
  · isplitr [H4z]
    · iexists _; iexact H4
    · iexact H4z
  ihave H5 := (spent_elim c) $$ H5
  icases H5 with ⟨H5f, H5s⟩
  iapply (done c P K 5 rfl) $$ He H5f HO
  iintro ⟨H5f, H5z⟩ HO
  ihave H5 := (whole5 P c) $$ [H5f H5s]
  · isplitl [H5f] <;> iassumption
  ihave H5 : back c 5 (w2M true) $$ [H5 H5z]
  · isplitr [H5z]
    · iexists _; iexact H5
    · iexact H5z
  iapply (run_ret c)
  iapply Hk $$ %_ [RAp RAz] [RBp RBz] H0 H1 H2 H3 H4 H5 HO
  · isplitl [RAp]; · iexact RAp
    iexact RAz
  · isplitl [RBp]; · iexact RBp
    iexact RBz

set_option maxHeartbeats 2000000 in
theorem part30 {Q : _ → sProp (MT nD τ sig Unit (Elt F) ℕ UU ℕ)} :
    env P K ⊢ iprop(spent3 P c 6 false -∗ spent3 P c 7 true -∗ spentG c P 8 -∗ spentG c P 9 -∗ spentG c P 10 -∗ spentG c P 11 -∗ spentG c P 12 -∗ owed 16 c
      -∗ (∀ r, back c 6 (w3M false) -∗ back c 7 (w3M true) -∗ back c 8 (w4M false) -∗ back c 9 (w4M true) -∗ back c 10 (g3M false) -∗ back c 11 (g3M true) -∗ back c 12 (g2M false) -∗ owed 16 c -∗ Q r)
      -∗ run c (app k0_part30) Q) := by
  simp only [k0_part30_eq_skeleton, k0_part30_skel, Prog.lift, Prog.bind_op, Prog.bind_ret, Prog.pure_eq_ret]
  iintro #He H6 H7 H8 H9 H10 H11 H12 HO Hk
  ihave H6 := (spent_elim c) $$ H6
  icases H6 with ⟨H6f, H6s⟩
  iapply (done c P K 6 rfl) $$ He H6f HO
  iintro ⟨H6f, H6z⟩ HO
  ihave H6 := (whole6 P c) $$ [H6f H6s]
  · isplitl [H6f] <;> iassumption
  ihave H6 : back c 6 (w3M false) $$ [H6 H6z]
  · isplitr [H6z]
    · iexists _; iexact H6
    · iexact H6z
  ihave H7 := (spent_elim c) $$ H7
  icases H7 with ⟨H7f, H7s⟩
  iapply (done c P K 7 rfl) $$ He H7f HO
  iintro ⟨H7f, H7z⟩ HO
  ihave H7 := (whole7 P c) $$ [H7f H7s]
  · isplitl [H7f] <;> iassumption
  ihave H7 : back c 7 (w3M true) $$ [H7 H7z]
  · isplitr [H7z]
    · iexists _; iexact H7
    · iexact H7z
  ihave H8 := (spentG_elim c (P := P)) $$ H8
  icases H8 with ⟨H8f, H8s⟩
  iapply (done c P K 8 rfl) $$ He H8f HO
  iintro ⟨H8f, H8z⟩ HO
  ihave H8 := (whole8 P c) $$ [H8f H8s]
  · isplitl [H8f] <;> iassumption
  ihave H8 : back c 8 (w4M false) $$ [H8 H8z]
  · isplitr [H8z]
    · iexists _; iexact H8
    · iexact H8z
  ihave H9 := (spentG_elim c (P := P)) $$ H9
  icases H9 with ⟨H9f, H9s⟩
  iapply (done c P K 9 rfl) $$ He H9f HO
  iintro ⟨H9f, H9z⟩ HO
  ihave H9 := (whole9 P c) $$ [H9f H9s]
  · isplitl [H9f] <;> iassumption
  ihave H9 : back c 9 (w4M true) $$ [H9 H9z]
  · isplitr [H9z]
    · iexists _; iexact H9
    · iexact H9z
  ihave H10 := (spentG_elim c (P := P)) $$ H10
  icases H10 with ⟨H10f, H10s⟩
  iapply (done c P K 10 rfl) $$ He H10f HO
  iintro ⟨H10f, H10z⟩ HO
  ihave H10 := (whole10 P c) $$ [H10f H10s]
  · isplitl [H10f] <;> iassumption
  ihave H10 : back c 10 (g3M false) $$ [H10 H10z]
  · isplitr [H10z]
    · iexists _; iexact H10
    · iexact H10z
  ihave H11 := (spentG_elim c (P := P)) $$ H11
  icases H11 with ⟨H11f, H11s⟩
  iapply (done c P K 11 rfl) $$ He H11f HO
  iintro ⟨H11f, H11z⟩ HO
  ihave H11 := (whole11 P c) $$ [H11f H11s]
  · isplitl [H11f] <;> iassumption
  ihave H11 : back c 11 (g3M true) $$ [H11 H11z]
  · isplitr [H11z]
    · iexists _; iexact H11
    · iexact H11z
  ihave H12 := (spentG_elim c (P := P)) $$ H12
  icases H12 with ⟨H12f, H12s⟩
  iapply (done c P K 12 rfl) $$ He H12f HO
  iintro ⟨H12f, H12z⟩ HO
  ihave H12 := (whole12 P c) $$ [H12f H12s]
  · isplitl [H12f] <;> iassumption
  ihave H12 : back c 12 (g2M false) $$ [H12 H12z]
  · isplitr [H12z]
    · iexists _; iexact H12
    · iexact H12z
  iapply (run_ret c)
  iapply Hk $$ %_ H6 H7 H8 H9 H10 H11 H12 HO

end Cert.KernelIdealProof

end
-- ==== Proof.KernelIdealBody.lean ====
/-
# The whole body

Its thirty parts one after another: what a device starts with, and what it ends with. Everything lent comes back whole, every
counter is at zero, and the four quarters of the output hold the gathered blocks.
-/
module

public import proofs.«01_k».proof.Proof.KernelIdealCompute2
public import proofs.«01_k».proof.Proof.KernelIdealReduce
public import proofs.«01_k».proof.Proof.KernelIdealReduce2
public import proofs.«01_k».proof.Proof.KernelIdealGather2

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : GSem nD τ sig → ℕ) (I : Dev nD → In F) (c : Dev nD)

/-- The partial products, by stream and device. -/
abbrev PP : Bool → Dev nD → Vec F S256x256 .f32 := fun s c => part (I c) s

theorem chain {α β : Type} {p : Prog (TpuEff nD τ sig (Elt F) Λ₀ .tc) β} {k : β → Prog (TpuEff nD τ sig (Elt F) Λ₀ .tc) α}
    {Q : α → sProp (MT nD τ sig Unit (Elt F) ℕ UU ℕ)} : run c p (fun b => run c (k b) Q) ⊢ run c (p >>= k) Q := by
  show wp _ _ _ _ _ ⊢ wp _ _ _ _ _
  rw [wp_bind]

theorem ready_intro (P : Bool → Dev nD → Vec F S256x256 .f32) {e : Fin 16} : (sendTok e c : sProp 𝕄) ⊢ iprop(dstAny P e c -∗ ready c P e) := by
  unfold ready
  iintro HT HD
  isplitl [HT] <;> iassumption

theorem barPay_elim (P : Bool → Dev nD → Vec F S256x256 .f32) (i : Fin 4) : (barPay P i c : sProp 𝕄)
    ⊢ iprop(dstAny P (across i 0) c ∗ dstAny P (across i 1) c ∗ dstAny P (across i 2) c ∗ dstAny P (across i 3) c) := by
  unfold barPay; exact .rfl

/-- The two halves of the partial product put together. -/
theorem whole_part (s : Bool) : iprop(up c s (prodS (I c) s 0) ∗ low c s (prodS (I c) s 1)) ⊢ (holds c (w0M s) (PP I s c) : sProp 𝕄) :=
  Own.join (c : Thread nD τ) (w0M s) fullShare (h256 false) (h256 true) (fun _ => rfl) (fun _ => rfl) halves256.disj halves256.cover (PP I s c) _ _
    (fun i => glue_emb halves256 _ false i) (fun i => glue_emb halves256 _ true i)

/-- What the body starts with. -/
def bodyPre : sProp 𝕄 :=
  iprop(inputs (I c) c
    ∗ upto (I c) 0 c
    ∗ (∃ X, up c false X)
    ∗ (∃ X, up c true X)
    ∗ (∃ X, low c false X)
    ∗ (∃ X, low c true X)
    ∗ anyOf c (w1M false)
    ∗ anyOf c (w1M true)
    ∗ anyOf c (w2M false)
    ∗ anyOf c (w2M true)
    ∗ anyOf c (w3M false)
    ∗ anyOf c (w3M true)
    ∗ anyOf c (w4M false)
    ∗ anyOf c (w4M true)
    ∗ sigPay (PP I) c 0
    ∗ sigPay (PP I) c 1
    ∗ sigPay (PP I) c 2
    ∗ sigPay (PP I) c 3
    ∗ nextG c (PP I) 8
    ∗ nextG c (PP I) 9
    ∗ nextG c (PP I) 10
    ∗ nextG c (PP I) 11
    ∗ nextG c (PP I) 12
    ∗ nextG c (PP I) 13
    ∗ nextG c (PP I) 14
    ∗ nextG c (PP I) 15
    ∗ sendTok 0 c
    ∗ sendTok 1 c
    ∗ sendTok 2 c
    ∗ sendTok 3 c
    ∗ sendTok 4 c
    ∗ sendTok 5 c
    ∗ sendTok 6 c
    ∗ sendTok 7 c
    ∗ sendTok 8 c
    ∗ sendTok 9 c
    ∗ sendTok 10 c
    ∗ sendTok 11 c
    ∗ sendTok 12 c
    ∗ sendTok 13 c
    ∗ sendTok 14 c
    ∗ sendTok 15 c
    ∗ recvRdy 0 c
    ∗ recvRdy 1 c
    ∗ recvRdy 2 c
    ∗ recvRdy 3 c
    ∗ recvRdy 4 c
    ∗ recvRdy 5 c
    ∗ recvRdy 6 c
    ∗ recvRdy 7 c
    ∗ recvRdy 8 c
    ∗ recvRdy 9 c
    ∗ recvRdy 10 c
    ∗ recvRdy 11 c
    ∗ recvRdy 12 c
    ∗ recvRdy 13 c
    ∗ recvRdy 14 c
    ∗ recvRdy 15 c
    ∗ cred (tallyAt (barCell c) () 4)
    ∗ atPos ER (barCell c) 0 ∅ 0
    ∗ owedS 0 c)
/-- What it ends with. -/
def bodyPost : sProp 𝕄 :=
  iprop(inputs (I c) c
    ∗ upto (I c) 16 c
    ∗ back c 0 (w0M false)
    ∗ back c 1 (w0M true)
    ∗ back c 2 (w1M false)
    ∗ back c 3 (w1M true)
    ∗ back c 4 (w2M false)
    ∗ back c 5 (w2M true)
    ∗ back c 6 (w3M false)
    ∗ back c 7 (w3M true)
    ∗ back c 8 (w4M false)
    ∗ back c 9 (w4M true)
    ∗ back c 10 (g3M false)
    ∗ back c 11 (g3M true)
    ∗ back c 12 (g2M false)
    ∗ back c 13 (g2M true)
    ∗ back c 14 (g1M false)
    ∗ back c 15 (g1M true)
    ∗ got (PP I) c 0
    ∗ got (PP I) c 1
    ∗ got (PP I) c 2
    ∗ got (PP I) c 3
    ∗ got (PP I) c 4
    ∗ got (PP I) c 5
    ∗ got (PP I) c 6
    ∗ got (PP I) c 7
    ∗ semVal (recvCell 8 c) 0
    ∗ semVal (recvCell 9 c) 0
    ∗ semVal (recvCell 10 c) 0
    ∗ semVal (recvCell 11 c) 0
    ∗ semVal (recvCell 12 c) 0
    ∗ semVal (recvCell 13 c) 0
    ∗ stashedG c (PP I) 14
    ∗ stashedG c (PP I) 15
    ∗ got (PP I) c 14
    ∗ got (PP I) c 15
    ∗ semVal (barCell c) 0
    ∗ owed 16 c)

set_option maxHeartbeats 8000000 in
theorem body {Q : PUnit → sProp (MT nD τ sig Unit (Elt F) ℕ UU ℕ)} :
    env (PP I) K ⊢ iprop(bodyPre I c -∗ (bodyPost I c -∗ Q ⟨⟩) -∗ run c (app cc0_body) Q) := by
  simp only [cc0_body_eq_skeleton, cc0_body_skel, Prog.lift, Prog.bind_op, Prog.bind_ret, Prog.pure_eq_ret]
  unfold bodyPre
  iintro #He ⟨INP, HA, U0, U1, L0, L1, V1f, V1t, V2f, V2t, V3f, V3t, V4f, V4t, S0, S1, S2, S3, N8, N9, N10, N11, N12, N13, N14, N15, T0, T1, T2, T3, T4, T5, T6, T7, T8, T9, T10, T11, T12, T13, T14, T15, R0, R1, R2, R3, R4, R5, R6, R7, R8, R9, R10, R11, R12, R13, R14, R15, HC, HP, HO⟩ Hk
  iapply (chain c)
  iapply (part1 (PP I) K (I c) c) $$ He INP S0 S1 S2 S3 HO
  iintro %r %hr INP HO
  subst hr
  iapply (chain c)
  iapply (part2 (PP I) K (I c) c) $$ He INP HA
  iintro %r %hr INP HA
  subst hr
  iapply (chain c)
  iapply (part3 (PP I) K (I c) c) $$ He INP HA
  iintro %r %hr INP HA
  subst hr
  iapply (chain c)
  iapply (part4 (PP I) K (I c) c) $$ He INP HA
  iintro %r %hr INP HA
  subst hr
  iapply (chain c)
  iapply (part5 (PP I) K (I c) c) $$ He INP HA
  iintro %r %hr INP HA
  subst hr
  iapply (chain c)
  iapply (part6 (PP I) K (I c) c) $$ He INP HA U0 U1
  iintro %r %hr INP HA U0 U1
  obtain ⟨r6, w6⟩ := r
  obtain rfl : r6 = _ := hr
  iapply (chain c)
  iapply (part7 (PP I) K (I c) c w6) $$ He INP HA U1
  iintro %r %hr INP HA U1
  subst hr
  iapply (chain c)
  iapply (part8 (PP I) K (I c) c) $$ He INP HA
  iintro %r %hr INP HA
  subst hr
  iapply (chain c)
  iapply (part9 (PP I) K (I c) c) $$ He INP HA
  iintro %r %hr INP HA
  subst hr
  iapply (chain c)
  iapply (part10 (PP I) K (I c) c) $$ He INP HA
  iintro %r %hr INP HA
  subst hr
  iapply (chain c)
  iapply (part11 (PP I) K (I c) c) $$ He INP HA
  iintro %r %hr INP HA
  subst hr
  iapply (chain c)
  iapply (part12 (PP I) K (I c) c) $$ He INP HA L0 L1 HC HP HO
  iintro %r %hr INP HA L0 L1 A0 A1 A2 A3 HS HO
  obtain ⟨v12, w12⟩ := r
  obtain rfl : v12 = _ := hr
  ihave P0 := (whole_part I c false) $$ [U0 L0]
  · isplitl [U0] <;> iassumption
  ihave P1 := (whole_part I c true) $$ [U1 L1]
  · isplitl [U1] <;> iassumption
  ihave A0 := (barPay_elim c (PP I) 0) $$ A0
  icases A0 with ⟨E0, E5, E11, E14⟩
  ihave E0 := (Entails.of_eq (show dstAny (PP I) (across 0 0) c = dstAny (PP I) 0 c from rfl)) $$ E0
  ihave E0 := (ready_intro c (PP I)) $$ T0 E0
  ihave E5 := (Entails.of_eq (show dstAny (PP I) (across 0 1) c = dstAny (PP I) 5 c from rfl)) $$ E5
  ihave E5 := (ready_intro c (PP I)) $$ T5 E5
  ihave E11 := (Entails.of_eq (show dstAny (PP I) (across 0 2) c = dstAny (PP I) 11 c from rfl)) $$ E11
  ihave E11 := (ready_intro c (PP I)) $$ T11 E11
  ihave E14 := (Entails.of_eq (show dstAny (PP I) (across 0 3) c = dstAny (PP I) 14 c from rfl)) $$ E14
  ihave E14 := (ready_intro c (PP I)) $$ T14 E14
  ihave A1 := (barPay_elim c (PP I) 1) $$ A1
  icases A1 with ⟨E2, E7, E9, E12⟩
  ihave E2 := (Entails.of_eq (show dstAny (PP I) (across 1 0) c = dstAny (PP I) 2 c from rfl)) $$ E2
  ihave E2 := (ready_intro c (PP I)) $$ T2 E2
  ihave E7 := (Entails.of_eq (show dstAny (PP I) (across 1 1) c = dstAny (PP I) 7 c from rfl)) $$ E7
  ihave E7 := (ready_intro c (PP I)) $$ T7 E7
  ihave E9 := (Entails.of_eq (show dstAny (PP I) (across 1 2) c = dstAny (PP I) 9 c from rfl)) $$ E9
  ihave E9 := (ready_intro c (PP I)) $$ T9 E9
  ihave E12 := (Entails.of_eq (show dstAny (PP I) (across 1 3) c = dstAny (PP I) 12 c from rfl)) $$ E12
  ihave E12 := (ready_intro c (PP I)) $$ T12 E12
  ihave A2 := (barPay_elim c (PP I) 2) $$ A2
  icases A2 with ⟨E1, E4, E10, E15⟩
  ihave E1 := (Entails.of_eq (show dstAny (PP I) (across 2 0) c = dstAny (PP I) 1 c from rfl)) $$ E1
  ihave E1 := (ready_intro c (PP I)) $$ T1 E1
  ihave E4 := (Entails.of_eq (show dstAny (PP I) (across 2 1) c = dstAny (PP I) 4 c from rfl)) $$ E4
  ihave E4 := (ready_intro c (PP I)) $$ T4 E4
  ihave E10 := (Entails.of_eq (show dstAny (PP I) (across 2 2) c = dstAny (PP I) 10 c from rfl)) $$ E10
  ihave E10 := (ready_intro c (PP I)) $$ T10 E10
  ihave E15 := (Entails.of_eq (show dstAny (PP I) (across 2 3) c = dstAny (PP I) 15 c from rfl)) $$ E15
  ihave E15 := (ready_intro c (PP I)) $$ T15 E15
  ihave A3 := (barPay_elim c (PP I) 3) $$ A3
  icases A3 with ⟨E3, E6, E8, E13⟩
  ihave E3 := (Entails.of_eq (show dstAny (PP I) (across 3 0) c = dstAny (PP I) 3 c from rfl)) $$ E3
  ihave E3 := (ready_intro c (PP I)) $$ T3 E3
  ihave E6 := (Entails.of_eq (show dstAny (PP I) (across 3 1) c = dstAny (PP I) 6 c from rfl)) $$ E6
  ihave E6 := (ready_intro c (PP I)) $$ T6 E6
  ihave E8 := (Entails.of_eq (show dstAny (PP I) (across 3 2) c = dstAny (PP I) 8 c from rfl)) $$ E8
  ihave E8 := (ready_intro c (PP I)) $$ T8 E8
  ihave E13 := (Entails.of_eq (show dstAny (PP I) (across 3 3) c = dstAny (PP I) 13 c from rfl)) $$ E13
  ihave E13 := (ready_intro c (PP I)) $$ T13 E13
  iapply (chain c)
  iapply (part13 (PP I) K c w12) $$ He E0 E1 P0 P1 HO
  iintro %r %hr P0 P1 HO
  obtain ⟨a13, b13, d13⟩ := r
  obtain rfl : b13 = _ := hr
  iapply (chain c)
  iapply (part14 (PP I) K c a13 d13) $$ He R0 R1 P0 P1 V1f V1t HO
  iintro %r %hr G0 G1 P0 P1 V1f V1t HO
  subst hr
  iapply (chain c)
  iapply (part15 (PP I) K c) $$ He E2 V1f HO
  iintro %r %hr V1f HO
  obtain ⟨a15, b15, d15⟩ := r
  obtain ⟨h15, g15⟩ := hr
  obtain rfl : a15 = _ := h15
  iapply (chain c)
  iapply (part16 (PP I) K c d15 b15 g15) $$ He E3 R2 R3 V1t V1f V2f HO
  iintro %r %hr G2 G3 V1f V1t V2f HO
  subst hr
  iapply (chain c)
  iapply (part17 (PP I) K c) $$ He E4 V2f G3 V2t HO
  iintro %r %hr V2f G3 V2t HO
  obtain ⟨a17, b17, d17⟩ := r
  obtain ⟨h17, g17⟩ := hr
  obtain rfl : a17 = _ := h17
  obtain rfl : d17 = _ := g17
  iapply (chain c)
  iapply (part18 (PP I) K c b17) $$ He E5 V2t R4 V2f HO
  iintro %r %hr V2t G4 V2f HO
  obtain ⟨a18, b18, d18⟩ := r
  obtain ⟨h18, g18⟩ := hr
  obtain rfl : a18 = _ := h18
  obtain rfl : d18 = _ := g18
  iapply (chain c)
  iapply (part19 (PP I) K c b18) $$ He V3f R5 V2t V3t HO
  iintro %r %hr V3f G5 V2t V3t HO
  obtain ⟨a19, b19⟩ := r
  obtain rfl : a19 = _ := hr
  iapply (chain c)
  iapply (part20 (PP I) K c b19) $$ He E6 V3f E7 V3t HO
  iintro %r %hr V3f V3t HO
  obtain ⟨a20, b20, d20⟩ := r
  obtain rfl : b20 = _ := hr
  iapply (chain c)
  iapply (part21 (PP I) K c a20 d20) $$ He R6 R7 V3f V3t V4f V4t HO
  iintro %r G6 G7 V3f V3t V4f V4t HO
  obtain ⟨a21, b21, d21, e21⟩ := r
  ihave C8 : curG c (PP I) 8 $$ [V4f]
  · unfold curG; iexact V4f
  ihave C9 : curG c (PP I) 9 $$ [V4t]
  · unfold curG; iexact V4t
  iapply (chain c)
  iapply (part22 (PP I) K c a21 b21 d21 e21) $$ He E8 C8 N8 HO
  iintro %r C8 D8 HO
  obtain ⟨a22, b22⟩ := r
  iapply (chain c)
  iapply (part23 (PP I) K c a22 b22) $$ He E9 C9 N9 R8 R9 D8 HO
  iintro %r C9 C10 C11 Z8 Z9 HO
  obtain ⟨a23, b23, d23⟩ := r
  iapply (chain c)
  iapply (part24 (PP I) K c a23 b23 d23) $$ He E10 C10 N10 E11 C11 N11 HO
  iintro %r C10 D10 M11
  obtain ⟨a24, b24⟩ := r
  iapply (chain c)
  iapply (part25 (PP I) K c a24 b24) $$ He M11 R10 R11 D10
  iintro %r25 C11 C12 C13 Z10 Z11 HO
  iapply (chain c)
  iapply (part26 (PP I) K c r25) $$ He E12 C12 N12 E13 C13 N13 HO
  iintro %r26 C12 D12 C13 D13 HO
  iapply (chain c)
  iapply (part27 (PP I) K c r26) $$ He R12 R13 D12 D13 E14 N14 HO
  iintro %r27 M14 C15 Z12 Z13
  iapply (chain c)
  iapply (part28 (PP I) K c r27) $$ He M14 E15 C15 N15
  iintro %r C14 D14 C15 D15 HO
  obtain ⟨a28, b28, d28⟩ := r
  iapply (chain c)
  iapply (part29 (PP I) K c a28 b28 d28) $$ He R14 R15 P0 P1 V1f V1t V2f V2t HO
  iintro %r G14 G15 B0 B1 B2 B3 B4 B5 HO
  iapply (chain c)
  iapply (part30 (PP I) K c) $$ He V3f V3t C8 C9 C10 C11 C12 HO
  iintro %r B6 B7 B8 B9 B10 B11 B12 HO
  ihave C13 := (spentG_elim c (P := PP I)) $$ C13
  icases C13 with ⟨Cf, Cs⟩
  iapply (done c (PP I) K 13 rfl) $$ He Cf HO
  iintro ⟨Cf, Cz⟩ HO
  ihave C13 := (whole13 (PP I) c) $$ [Cf Cs]
  · isplitl [Cf] <;> iassumption
  ihave B13 : back c 13 (g2M true) $$ [C13 Cz]
  · isplitr [Cz]
    · iexists _; iexact C13
    · iexact Cz
  ihave C14 := (spentG_elim c (P := PP I)) $$ C14
  icases C14 with ⟨Cf, Cs⟩
  iapply (done c (PP I) K 14 rfl) $$ He Cf HO
  iintro ⟨Cf, Cz⟩ HO
  ihave C14 := (whole14 (PP I) c) $$ [Cf Cs]
  · isplitl [Cf] <;> iassumption
  ihave B14 : back c 14 (g1M false) $$ [C14 Cz]
  · isplitr [Cz]
    · iexists _; iexact C14
    · iexact Cz
  ihave C15 := (spentG_elim c (P := PP I)) $$ C15
  icases C15 with ⟨Cf, Cs⟩
  iapply (done c (PP I) K 15 rfl) $$ He Cf HO
  iintro ⟨Cf, Cz⟩ HO
  ihave C15 := (whole15 (PP I) c) $$ [Cf Cs]
  · isplitl [Cf] <;> iassumption
  ihave B15 : back c 15 (g1M true) $$ [C15 Cz]
  · isplitr [Cz]
    · iexists _; iexact C15
    · iexact Cz
  iapply (run_ret c)
  iapply Hk
  unfold bodyPost
  isplitl [INP]; · iexact INP
  isplitl [HA]; · iexact HA
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [Z8]; · iexact Z8
  isplitl [Z9]; · iexact Z9
  isplitl [Z10]; · iexact Z10
  isplitl [Z11]; · iexact Z11
  isplitl [Z12]; · iexact Z12
  isplitl [Z13]; · iexact Z13
  isplitl [D14]; · iexact D14
  isplitl [D15]; · iexact D15
  isplitl [G14]; · iexact G14
  isplitl [G15]; · iexact G15
  isplitl [HS]; · iexact HS
  iexact HO

end Cert.KernelIdealProof

end
-- ==== Proof.KernelIdealOut.lean ====
/-
# The kernel's buffers around the body

The body starts from the scratch buffers and the output at any contents, cut into the pieces the exchanges use, and ends with
every scratch buffer whole again and the output holding `outV`: its four quarters, what the gathers leave.
-/
module

public import proofs.«01_k».proof.Proof.KernelIdealBody
public import proofs.«01_k».proof.Proof.Gen.KernelIdeal.Launch

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The output -/

/-- Every element of the output is in one quarter. -/
theorem quarter_disj (t t' : Bool × Bool) (h : t ≠ t') : Disjoint (oRect t.1 t.2).set (oRect t'.1 t'.2).set :=
  Finset.disjoint_left.mpr fun i hi hi' => by
    rw [Rect.mem_set_unit] at hi hi'
    have h0 := hi 0; have h2 := hi 2; have h0' := hi' 0; have h2' := hi' 2
    obtain ⟨s, b⟩ := t; obtain ⟨s', b'⟩ := t'
    have : ¬(s = s' ∧ b = b') := fun hh => h (by rw [hh.1, hh.2])
    cases s <;> cases b <;> cases s' <;> cases b' <;> simp [S1x128x256] at * <;> omega
theorem quarter_cover : (Finset.univ : Finset (Bool × Bool)).biUnion (fun t => (oRect t.1 t.2).set) = Finset.univ :=
  Finset.eq_univ_iff_forall.mpr fun i => by
    have h0 : (i 0 : Nat) < 2 := (i 0).isLt
    have h1 : (i 1 : Nat) < 128 := (i 1).isLt
    have h2 : (i 2 : Nat) < 512 := (i 2).isLt
    refine Finset.mem_biUnion.mpr ⟨(decide (256 ≤ (i 2 : Nat)), decide ((i 0 : Nat) = 1)), Finset.mem_univ _, ?_⟩
    rw [Rect.mem_set_unit]
    refine Fin.forall_fin_succ.mpr ⟨?_, Fin.forall_fin_two.mpr ⟨?_, ?_⟩⟩ <;>
      (by_cases ha : 256 ≤ (i 2 : Nat) <;> by_cases hb : (i 0 : Nat) = 1 <;> simp [S1x128x256, ha, hb] <;> omega)

theorem quarter_exists (i : S2x128x512.Idx) : ∃ t : Bool × Bool, ∃ j, (oRect t.1 t.2).emb j = i := by
  obtain ⟨t, -, h⟩ := Finset.mem_biUnion.mp (quarter_cover ▸ Finset.mem_univ i)
  exact ⟨t, (oRect t.1 t.2).exists_idx_of_mem h⟩

/-- What the output holds at the end on device `c`. -/
def outV (P : Bool → Dev nD → Vec F S256x256 .f32) (c : Dev nD) : S2x128x512.Idx → Elt F .f32 := fun i =>
  shapeCast S1x128x256 (G0 P (quarter_exists i).choose.1 c (quarter_exists i).choose.2) shapeCasts_S128x256_S1x128x256
    (quarter_exists i).choose_spec.choose

theorem outV_emb (P : Bool → Dev nD → Vec F S256x256 .f32) (c : Dev nD) (s b : Bool) (j : S1x128x256.Idx) :
    outV P c ((oRect s b).emb j) = shapeCast S1x128x256 (G0 P s c b) shapeCasts_S128x256_S1x128x256 j := by
  have key : ∀ (t : Bool × Bool) (j' : S1x128x256.Idx), (oRect t.1 t.2).emb j' = (oRect s b).emb j →
      shapeCast S1x128x256 (G0 P t.1 c t.2) shapeCasts_S128x256_S1x128x256 j' = shapeCast S1x128x256 (G0 P s c b) shapeCasts_S128x256_S1x128x256 j := by
    intro t j' e
    have ht : t = (s, b) := by
      by_contra hne
      have m' : (oRect t.1 t.2).emb j' ∈ (oRect t.1 t.2).set := by rw [← Rect.map_emb_univ]; exact Finset.mem_map_of_mem _ (Finset.mem_univ _)
      have m : (oRect s b).emb j ∈ (oRect s b).set := by rw [← Rect.map_emb_univ]; exact Finset.mem_map_of_mem _ (Finset.mem_univ _)
      rw [e] at m'
      exact Finset.disjoint_left.mp (quarter_disj t (s, b) hne) m' m
    subst ht
    rw [(oRect s b).emb.injective e]
  exact key _ _ (quarter_exists ((oRect s b).emb j)).choose_spec.choose_spec

variable (c : Dev nD)

theorem bigSep_quarters (Φ : Bool × Bool → sProp 𝕄) :
    bigSep Finset.univ Φ = iprop(Φ (false, false) ∗ Φ (false, true) ∗ Φ (true, false) ∗ Φ (true, true)) :=
  bigSep_univ_eq_bigSepL [(false, false), (false, true), (true, false), (true, true)] (by decide) (by decide) Φ

theorem quarter_any (s b : Bool) (X : S1x128x256.Idx → Elt F .f32) : (owns (c : Thread nD τ) (oSl s b) fullShare X : sProp 𝕄) ⊢ anyOf c (oQ s b) := by
  iintro H
  iexists (shapeCast S128x256 X shapeCasts_S1x128x256_S128x256)
  iapply (Entails.of_eq (Own.squeeze (c : Thread nD τ) (oSl s b) fullShare squeezes_S1x128x256_S128x256 _ shapeCasts_S128x256_S1x128x256).symm)
  rw [shapeCast_shapeCast]
  iexact H

/-- The output at any contents is its quarters so. -/
theorem out_split : anyOf c oM ⊢ (iprop(anyOf c (oQ false false) ∗ anyOf c (oQ false true) ∗ anyOf c (oQ true false) ∗ anyOf c (oQ true true)) : sProp 𝕄) := by
  iintro ⟨%X, H⟩
  ihave H := (owns_rects (c : Thread nD τ) oM fullShare (fun t : Bool × Bool => oRect t.1 t.2) (fun _ _ => rfl) quarter_disj quarter_cover X) $$ H
  ihave H := (Entails.of_eq (bigSep_quarters (F := F) _)) $$ H
  icases H with ⟨H0, H1, H2, H3⟩
  isplitl [H0]; · iapply (quarter_any c false false) $$ H0
  isplitl [H1]; · iapply (quarter_any c false true) $$ H1
  isplitl [H2]; · iapply (quarter_any c true false) $$ H2
  iapply (quarter_any c true true) $$ H3

theorem out_join (P : Bool → Dev nD → Vec F S256x256 .f32) :
    iprop((holds c (oQ false false) (G0 P false c false) ∗ holds c (oQ false true) (G0 P false c true))
      ∗ (holds c (oQ true false) (G0 P true c false) ∗ holds c (oQ true true) (G0 P true c true))) ⊢ (holds c oM (outV P c) : sProp 𝕄) := by
  have hq (s b : Bool) : (holds c (oQ s b) (G0 P s c b) : sProp 𝕄) ⊢ owns (c : Thread nD τ) (oSl s b) fullShare (fun j => outV P c ((oRect s b).emb j)) := by
    refine (Entails.of_eq (Own.squeeze (c : Thread nD τ) (oSl s b) fullShare squeezes_S1x128x256_S128x256 _ shapeCasts_S128x256_S1x128x256)).trans
      (Entails.of_eq (congrArg _ (funext fun j => (outV_emb P c s b j).symm)))
  refine BIBase.Entails.trans ?_ (owns_of_rects (c : Thread nD τ) oM fullShare (fun t : Bool × Bool => oRect t.1 t.2) (fun _ _ => rfl) quarter_disj quarter_cover (outV P c))
  refine BIBase.Entails.trans ?_ (Entails.of_eq (bigSep_quarters (F := F) _).symm)
  iintro ⟨⟨H0, H1⟩, H2, H3⟩
  isplitl [H0]; · iapply (hq false false) $$ H0
  isplitl [H1]; · iapply (hq false true) $$ H1
  isplitl [H2]; · iapply (hq true false) $$ H2
  iapply (hq true true) $$ H3

/-- A pair of quarters, by the device's own digit and its peer's. -/
theorem pair_any (s : Bool) (b : Bool) : iprop(anyOf c (oQ s false) ∗ anyOf c (oQ s true)) ⊢ (iprop(anyOf c (oQ s (!b)) ∗ anyOf c (oQ s b)) : sProp 𝕄) := by
  cases b
  · iintro ⟨H0, H1⟩; isplitl [H1]; · iexact H1
    iexact H0
  · iintro ⟨H0, H1⟩; isplitl [H0]; · iexact H0
    iexact H1

theorem pair_holds (P : Bool → Dev nD → Vec F S256x256 .f32) (s : Bool) (i : Fin 4) (hi : dimR s 0 = i) :
    iprop(holds c (oQ s (bit i c)) (G1 P s c) ∗ holds c (oQ s (!bit i c)) (G1 P s (peer i c)))
      ⊢ (iprop(holds c (oQ s false) (G0 P s c false) ∗ holds c (oQ s true) (G0 P s c true)) : sProp 𝕄) := by
  have e (b : Bool) : G0 P s c b = if bit i c = b then G1 P s c else G1 P s (peer i c) := by
    unfold G0 holder; rw [hi]; split <;> rfl
  rw [e, e]
  cases hb : bit i c
  · rw [if_pos rfl, if_neg (by decide)]; exact .rfl
  · rw [if_neg (by decide), if_pos rfl]
    iintro ⟨H0, H1⟩; isplitl [H1]; · iexact H1
    iexact H0

/-! ## Blocks in halves -/

theorem halve {S : Shape} (m : Buf2 S) (h : Bool → Rect S) (hs : ∀ b a, (h b).stride a = 1) (H : Halves h) (b : Bool) :
    anyOf c m ⊢ (iprop(anyOf c (m.slice (h !b) (hs !b)) ∗ anyOf c (m.slice (h b) (hs b))) : sProp 𝕄) := by
  iintro ⟨%X, HX⟩
  ihave HX := (Own.split (c : Thread nD τ) m fullShare (h false) (h true) (hs false) (hs true) H.disj H.cover X) $$ HX
  icases HX with ⟨H0, H1⟩
  cases b
  · isplitl [H1]; · iexists _; iexact H1
    iexists _; iexact H0
  · isplitl [H0]; · iexists _; iexact H0
    iexists _; iexact H1

variable (P : Bool → Dev nD → Vec F S256x256 .f32)

/-- The buffer of `c` exchange `e` lands in, at any contents. -/
abbrev landing (e : Fin 16) : sProp 𝕄 := iprop(∃ X, owns (c : Thread nD τ) ((ex (F := F) P e).dst (!bit (dim e) c)) fullShare X)
theorem dstOwn_intro {e : Fin 16} : (landing c P e : sProp 𝕄) ⊢ iprop(reached ER (recvCell e c) 0 -∗ dstOwn P e c) := by
  unfold dstOwn
  iintro H HR
  isplitl [H] <;> iassumption
theorem land0 : anyOf c (r0M false) ⊢ (landing c P 0 : sProp 𝕄) := .rfl
theorem land1 : anyOf c (r0M true) ⊢ (landing c P 1 : sProp 𝕄) := .rfl
theorem land2 : anyOf c (r1M false) ⊢ (landing c P 2 : sProp 𝕄) := .rfl
theorem land3 : anyOf c (r1M true) ⊢ (landing c P 3 : sProp 𝕄) := .rfl
theorem land4 : anyOf c (r2M false) ⊢ (landing c P 4 : sProp 𝕄) := .rfl
theorem land5 : anyOf c (r2M true) ⊢ (landing c P 5 : sProp 𝕄) := .rfl
theorem land6 : anyOf c (r3M false) ⊢ (landing c P 6 : sProp 𝕄) := .rfl
theorem land7 : anyOf c (r3M true) ⊢ (landing c P 7 : sProp 𝕄) := .rfl
theorem land8 : anyOf c (g3M false) ⊢ (iprop(landing c P 8 ∗ nextG c P 8) : sProp 𝕄) := halve c (g3M false) h32 (fun _ _ => rfl) halves32 (bit (dim 8) c)
theorem land9 : anyOf c (g3M true) ⊢ (iprop(landing c P 9 ∗ nextG c P 9) : sProp 𝕄) := halve c (g3M true) h32 (fun _ _ => rfl) halves32 (bit (dim 9) c)
theorem land10 : anyOf c (g2M false) ⊢ (iprop(landing c P 10 ∗ nextG c P 10) : sProp 𝕄) := halve c (g2M false) h64 (fun _ _ => rfl) halves64 (bit (dim 10) c)
theorem land11 : anyOf c (g2M true) ⊢ (iprop(landing c P 11 ∗ nextG c P 11) : sProp 𝕄) := halve c (g2M true) h64 (fun _ _ => rfl) halves64 (bit (dim 11) c)
theorem land12 : anyOf c (g1M false) ⊢ (iprop(landing c P 12 ∗ nextG c P 12) : sProp 𝕄) := halve c (g1M false) h128 (fun _ _ => rfl) halves128 (bit (dim 12) c)
theorem land13 : anyOf c (g1M true) ⊢ (iprop(landing c P 13 ∗ nextG c P 13) : sProp 𝕄) := halve c (g1M true) h128 (fun _ _ => rfl) halves128 (bit (dim 13) c)
theorem land14 : iprop(anyOf c (oQ false false) ∗ anyOf c (oQ false true)) ⊢ (iprop(landing c P 14 ∗ nextG c P 14) : sProp 𝕄) := pair_any c false (bit (dim 14) c)
theorem land15 : iprop(anyOf c (oQ true false) ∗ anyOf c (oQ true true)) ⊢ (iprop(landing c P 15 ∗ nextG c P 15) : sProp 𝕄) := pair_any c true (bit (dim 15) c)
theorem landed14 : iprop(stashedG c P 14 ∗ recvPay P 14 c) ⊢ (iprop(holds c (oQ false false) (G0 P false c false) ∗ holds c (oQ false true) (G0 P false c true)) : sProp 𝕄) :=
  pair_holds c P false (dim 14) rfl
theorem landed15 : iprop(stashedG c P 15 ∗ recvPay P 15 c) ⊢ (iprop(holds c (oQ true false) (G0 P true c false) ∗ holds c (oQ true true) (G0 P true c true)) : sProp 𝕄) :=
  pair_holds c P true (dim 15) rfl
theorem any_intro {S : Shape} (m : Buf2 S) (X : S.Idx → Elt F .f32) : (owns (c : Thread nD τ) m fullShare X : sProp 𝕄) ⊢ anyOf c m := by
  iintro H; iexists X; iexact H
theorem landed0 : recvPay P 0 c ⊢ (anyOf c (r0M false) : sProp 𝕄) := any_intro c (r0M false) _
theorem landed1 : recvPay P 1 c ⊢ (anyOf c (r0M true) : sProp 𝕄) := any_intro c (r0M true) _
theorem landed2 : recvPay P 2 c ⊢ (anyOf c (r1M false) : sProp 𝕄) := any_intro c (r1M false) _
theorem landed3 : recvPay P 3 c ⊢ (anyOf c (r1M true) : sProp 𝕄) := any_intro c (r1M true) _
theorem landed4 : recvPay P 4 c ⊢ (anyOf c (r2M false) : sProp 𝕄) := any_intro c (r2M false) _
theorem landed5 : recvPay P 5 c ⊢ (anyOf c (r2M true) : sProp 𝕄) := any_intro c (r2M true) _
theorem landed6 : recvPay P 6 c ⊢ (anyOf c (r3M false) : sProp 𝕄) := any_intro c (r3M false) _
theorem landed7 : recvPay P 7 c ⊢ (anyOf c (r3M true) : sProp 𝕄) := any_intro c (r3M true) _

/-! ## The scratch buffers -/

theorem any_whole (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) :=
  congrArg BIBase.exists (funext fun X => (owns_whole (c : Thread nD τ) b fullShare X).symm)

/-- The scratch buffers, at any contents. -/
def scratch : sProp 𝕄 :=
  iprop(anyOf c attM ∗ anyOf c (w0M false) ∗ anyOf c (w1M false) ∗ anyOf c (w2M false) ∗ anyOf c (w3M false) ∗ anyOf c (w4M false) ∗ anyOf c (r0M false) ∗ anyOf c (r1M false) ∗ anyOf c (r2M false) ∗ anyOf c (r3M false) ∗ anyOf c (g3M false) ∗ anyOf c (g2M false) ∗ anyOf c (g1M false) ∗ anyOf c (w0M true) ∗ anyOf c (w1M true) ∗ anyOf c (w2M true) ∗ anyOf c (w3M true) ∗ anyOf c (w4M true) ∗ anyOf c (r0M true) ∗ anyOf c (r1M true) ∗ anyOf c (r2M true) ∗ anyOf c (r3M true) ∗ anyOf c (g3M true) ∗ anyOf c (g2M true) ∗ anyOf c (g1M true))

theorem scratch_eq : (Pipeline.scopedRest (Ix := Unit) (Name := ℕ) (U := UU) (Lvl := ℕ) (Val := Elt F) spec0 c : sProp 𝕄) = scratch c := by
  rw [scopedRest0_eq]
  unfold scratch
  refine congrArg₂ BIBase.sep (any_whole c cc0_scratch0) ?_
  refine congrArg₂ BIBase.sep (any_whole c cc0_scratch1) ?_
  refine congrArg₂ BIBase.sep (any_whole c cc0_scratch2) ?_
  refine congrArg₂ BIBase.sep (any_whole c cc0_scratch3) ?_
  refine congrArg₂ BIBase.sep (any_whole c cc0_scratch4) ?_
  refine congrArg₂ BIBase.sep (any_whole c cc0_scratch5) ?_
  refine congrArg₂ BIBase.sep (any_whole c cc0_scratch6) ?_
  refine congrArg₂ BIBase.sep (any_whole c cc0_scratch7) ?_
  refine congrArg₂ BIBase.sep (any_whole c cc0_scratch8) ?_
  refine congrArg₂ BIBase.sep (any_whole c cc0_scratch9) ?_
  refine congrArg₂ BIBase.sep (any_whole c cc0_scratch10) ?_
  refine congrArg₂ BIBase.sep (any_whole c cc0_scratch11) ?_
  refine congrArg₂ BIBase.sep (any_whole c cc0_scratch12) ?_
  refine congrArg₂ BIBase.sep (any_whole c cc0_scratch13) ?_
  refine congrArg₂ BIBase.sep (any_whole c cc0_scratch14) ?_
  refine congrArg₂ BIBase.sep (any_whole c cc0_scratch15) ?_
  refine congrArg₂ BIBase.sep (any_whole c cc0_scratch16) ?_
  refine congrArg₂ BIBase.sep (any_whole c cc0_scratch17) ?_
  refine congrArg₂ BIBase.sep (any_whole c cc0_scratch18) ?_
  refine congrArg₂ BIBase.sep (any_whole c cc0_scratch19) ?_
  refine congrArg₂ BIBase.sep (any_whole c cc0_scratch20) ?_
  refine congrArg₂ BIBase.sep (any_whole c cc0_scratch21) ?_
  refine congrArg₂ BIBase.sep (any_whole c cc0_scratch22) ?_
  refine congrArg₂ BIBase.sep (any_whole c cc0_scratch23) ?_
  exact any_whole c cc0_scratch24

/-! ## What the body starts with, and what it ends with -/

variable (I : Dev nD → In F) (K : GSem nD τ sig → ℕ)

/-- The counters' resources a device enters the body with. -/
def tokens : sProp 𝕄 :=
  iprop((bigSep Finset.univ fun e : Fin 16 => sendTok e c) ∗ (bigSep Finset.univ fun e : Fin 16 => recvRdy e c)
    ∗ (bigSep Finset.univ fun i : Fin 4 => dutyTok ER (barCell (peer i c)) 0 i) ∗ (bigSep Finset.univ fun e : Fin 16 => reached ER (recvCell e c) 0)
    ∗ cred (tallyAt (barCell c) () 4) ∗ atPos ER (barCell c) 0 ∅ 0)

theorem bigSep_16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem upto_zero (J : In F) : anyOf c attM ⊢ (upto J 0 c : sProp 𝕄) := by
  iintro ⟨%X, H⟩
  unfold upto
  iexists X
  isplitr
  · ipureintro; intro b h j hlt; exact absurd hlt (by omega)
  · iexact H

theorem halve0 (s : Bool) : anyOf c (w0M s) ⊢ (iprop((∃ X, up c s X) ∗ ∃ X, low c s X) : sProp 𝕄) := by
  iintro ⟨%X, HX⟩
  ihave HX := (Own.split (c : Thread nD τ) (w0M s) fullShare (h256 false) (h256 true) (fun _ => rfl) (fun _ => rfl) halves256.disj halves256.cover X) $$ HX
  icases HX with ⟨H0, H1⟩
  isplitl [H0]; · iexists _; iexact H0
  iexists _; iexact H1

/-- What crosses edge `i` with the barrier unit. -/
theorem sigPay_intro {i : Fin 4} : (dutyTok ER (barCell (peer i c)) 0 i : sProp 𝕄)
    ⊢ iprop(dstOwn P (across i 0) c -∗ dstOwn P (across i 1) c -∗ dstOwn P (across i 2) c -∗ dstOwn P (across i 3) c -∗ sigPay P c i) := by
  unfold sigPay
  iintro H0 H1 H2 H3 H4
  isplitl [H0]; · iexact H0
  isplitl [H1]; · iexact H1
  isplitl [H2]; · iexact H2
  isplitl [H3] <;> iassumption
theorem sigPay0 : (dutyTok ER (barCell (peer 0 c)) 0 0 : sProp 𝕄)
    ⊢ iprop(dstOwn P 0 c -∗ dstOwn P 5 c -∗ dstOwn P 11 c -∗ dstOwn P 14 c -∗ sigPay P c 0) := sigPay_intro c P
theorem sigPay1 : (dutyTok ER (barCell (peer 1 c)) 0 1 : sProp 𝕄)
    ⊢ iprop(dstOwn P 2 c -∗ dstOwn P 7 c -∗ dstOwn P 9 c -∗ dstOwn P 12 c -∗ sigPay P c 1) := sigPay_intro c P
theorem sigPay2 : (dutyTok ER (barCell (peer 2 c)) 0 2 : sProp 𝕄)
    ⊢ iprop(dstOwn P 1 c -∗ dstOwn P 4 c -∗ dstOwn P 10 c -∗ dstOwn P 15 c -∗ sigPay P c 2) := sigPay_intro c P
theorem sigPay3 : (dutyTok ER (barCell (peer 3 c)) 0 3 : sProp 𝕄)
    ⊢ iprop(dstOwn P 3 c -∗ dstOwn P 6 c -∗ dstOwn P 8 c -∗ dstOwn P 13 c -∗ sigPay P c 3) := sigPay_intro c P

set_option maxHeartbeats 4000000 in
theorem bodyPre_intro : iprop(tokens c ∗ scratch c ∗ anyOf c oM ∗ owedS 0 c) ⊢ (iprop(inputs (I c) c -∗ bodyPre I c) : sProp 𝕄) := by
  unfold tokens scratch bodyPre
  rw [bigSep_16, bigSep_16, bigSep_16, bigSep_4]
  iintro ⟨⟨⟨T0, T1, T2, T3, T4, T5, T6, T7, T8, T9, T10, T11, T12, T13, T14, T15⟩, ⟨R0, R1, R2, R3, R4, R5, R6, R7, R8, R9, R10, R11, R12, R13, R14, R15⟩, ⟨D0, D1, D2, D3⟩, ⟨Q0, Q1, Q2, Q3, Q4, Q5, Q6, Q7, Q8, Q9, Q10, Q11, Q12, Q13, Q14, Q15⟩, HC, HP⟩, ⟨Batt, Bw0f, Bw1f, Bw2f, Bw3f, Bw4f, Br0f, Br1f, Br2f, Br3f, Bg3f, Bg2f, Bg1f, Bw0t, Bw1t, Bw2t, Bw3t, Bw4t, Br0t, Br1t, Br2t, Br3t, Bg3t, Bg2t, Bg1t⟩, BO, HO⟩ INP
  ihave HA := (upto_zero c (I c)) $$ Batt
  ihave H := (halve0 c false) $$ Bw0f
  icases H with ⟨U0, L0⟩
  ihave H := (halve0 c true) $$ Bw0t
  icases H with ⟨U1, L1⟩
  ihave E0 := (land0 c (PP I)) $$ Br0f
  ihave E1 := (land1 c (PP I)) $$ Br0t
  ihave E2 := (land2 c (PP I)) $$ Br1f
  ihave E3 := (land3 c (PP I)) $$ Br1t
  ihave E4 := (land4 c (PP I)) $$ Br2f
  ihave E5 := (land5 c (PP I)) $$ Br2t
  ihave E6 := (land6 c (PP I)) $$ Br3f
  ihave E7 := (land7 c (PP I)) $$ Br3t
  ihave H := (land8 c (PP I)) $$ Bg3f
  icases H with ⟨E8, N8⟩
  ihave H := (land9 c (PP I)) $$ Bg3t
  icases H with ⟨E9, N9⟩
  ihave H := (land10 c (PP I)) $$ Bg2f
  icases H with ⟨E10, N10⟩
  ihave H := (land11 c (PP I)) $$ Bg2t
  icases H with ⟨E11, N11⟩
  ihave H := (land12 c (PP I)) $$ Bg1f
  icases H with ⟨E12, N12⟩
  ihave H := (land13 c (PP I)) $$ Bg1t
  icases H with ⟨E13, N13⟩
  ihave H := (out_split c) $$ BO
  icases H with ⟨O0, O1, O2, O3⟩
  ihave H := (land14 c (PP I)) $$ [O0 O1]
  · isplitl [O0] <;> iassumption
  icases H with ⟨E14, N14⟩
  ihave H := (land15 c (PP I)) $$ [O2 O3]
  · isplitl [O2] <;> iassumption
  icases H with ⟨E15, N15⟩
  ihave E0 := (dstOwn_intro c (PP I)) $$ E0 Q0
  ihave E1 := (dstOwn_intro c (PP I)) $$ E1 Q1
  ihave E2 := (dstOwn_intro c (PP I)) $$ E2 Q2
  ihave E3 := (dstOwn_intro c (PP I)) $$ E3 Q3
  ihave E4 := (dstOwn_intro c (PP I)) $$ E4 Q4
  ihave E5 := (dstOwn_intro c (PP I)) $$ E5 Q5
  ihave E6 := (dstOwn_intro c (PP I)) $$ E6 Q6
  ihave E7 := (dstOwn_intro c (PP I)) $$ E7 Q7
  ihave E8 := (dstOwn_intro c (PP I)) $$ E8 Q8
  ihave E9 := (dstOwn_intro c (PP I)) $$ E9 Q9
  ihave E10 := (dstOwn_intro c (PP I)) $$ E10 Q10
  ihave E11 := (dstOwn_intro c (PP I)) $$ E11 Q11
  ihave E12 := (dstOwn_intro c (PP I)) $$ E12 Q12
  ihave E13 := (dstOwn_intro c (PP I)) $$ E13 Q13
  ihave E14 := (dstOwn_intro c (PP I)) $$ E14 Q14
  ihave E15 := (dstOwn_intro c (PP I)) $$ E15 Q15
  ihave S0 := (sigPay0 c (PP I)) $$ D0 E0 E5 E11 E14
  ihave S1 := (sigPay1 c (PP I)) $$ D1 E2 E7 E9 E12
  ihave S2 := (sigPay2 c (PP I)) $$ D2 E1 E4 E10 E15
  ihave S3 := (sigPay3 c (PP I)) $$ D3 E3 E6 E8 E13
  isplitl [INP]; · iexact INP
  isplitl [HA]; · iexact HA
  isplitl [U0]; · iexact U0
  isplitl [U1]; · iexact U1
  isplitl [L0]; · iexact L0
  isplitl [L1]; · iexact L1
  isplitl [Bw1f]; · iexact Bw1f
  isplitl [Bw1t]; · iexact Bw1t
  isplitl [Bw2f]; · iexact Bw2f
  isplitl [Bw2t]; · iexact Bw2t
  isplitl [Bw3f]; · iexact Bw3f
  isplitl [Bw3t]; · iexact Bw3t
  isplitl [Bw4f]; · iexact Bw4f
  isplitl [Bw4t]; · iexact Bw4t
  isplitl [S0]; · iexact S0
  isplitl [S1]; · iexact S1
  isplitl [S2]; · iexact S2
  isplitl [S3]; · iexact S3
  isplitl [N8]; · iexact N8
  isplitl [N9]; · iexact N9
  isplitl [N10]; · iexact N10
  isplitl [N11]; · iexact N11
  isplitl [N12]; · iexact N12
  isplitl [N13]; · iexact N13
  isplitl [N14]; · iexact N14
  isplitl [N15]; · iexact N15
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [HC]; · iexact HC
  isplitl [HP]; · iexact HP
  iexact HO

/-- The counters at zero at the end, the barrier's apart. -/
def counters : sProp 𝕄 := iprop((bigSep Finset.univ fun e : Fin 16 => semVal (sendCell e c) 0) ∗ bigSep Finset.univ fun e : Fin 16 => semVal (recvCell e c) 0)

set_option maxHeartbeats 4000000 in
theorem bodyPost_elim : (bodyPost I c : sProp 𝕄)
    ⊢ iprop(inputs (I c) c ∗ holds c oM (outV (PP I) c) ∗ scratch c ∗ counters c ∗ semVal (barCell c) 0 ∗ owed 16 c) := by
  unfold counters scratch bodyPost
  rw [bigSep_16, bigSep_16]
  iintro ⟨INP, HA, ⟨B0, Y0⟩, ⟨B1, Y1⟩, ⟨B2, Y2⟩, ⟨B3, Y3⟩, ⟨B4, Y4⟩, ⟨B5, Y5⟩, ⟨B6, Y6⟩, ⟨B7, Y7⟩, ⟨B8, Y8⟩, ⟨B9, Y9⟩, ⟨B10, Y10⟩, ⟨B11, Y11⟩, ⟨B12, Y12⟩, ⟨B13, Y13⟩, ⟨B14, Y14⟩, ⟨B15, Y15⟩, ⟨G0, Z0⟩, ⟨G1, Z1⟩, ⟨G2, Z2⟩, ⟨G3, Z3⟩, ⟨G4, Z4⟩, ⟨G5, Z5⟩, ⟨G6, Z6⟩, ⟨G7, Z7⟩, Z8, Z9, Z10, Z11, Z12, Z13, D14, D15, ⟨G14, Z14⟩, ⟨G15, Z15⟩, HS, HO⟩
  ihave OA := (landed14 c (PP I)) $$ [D14 G14]
  · isplitl [D14] <;> iassumption
  ihave OB := (landed15 c (PP I)) $$ [D15 G15]
  · isplitl [D15] <;> iassumption
  ihave OUT := (out_join c (PP I)) $$ [OA OB]
  · isplitl [OA] <;> iassumption
  ihave G0 := (landed0 c (PP I)) $$ G0
  ihave G1 := (landed1 c (PP I)) $$ G1
  ihave G2 := (landed2 c (PP I)) $$ G2
  ihave G3 := (landed3 c (PP I)) $$ G3
  ihave G4 := (landed4 c (PP I)) $$ G4
  ihave G5 := (landed5 c (PP I)) $$ G5
  ihave G6 := (landed6 c (PP I)) $$ G6
  ihave G7 := (landed7 c (PP I)) $$ G7
  ihave HA : anyOf c attM $$ [HA]
  · unfold upto; icases HA with ⟨%X, -, HA⟩; iexists X; iexact HA
  isplitl [INP]; · iexact INP
  isplitl [OUT]; · iexact OUT
  isplitl [HA B0 B2 B4 B6 B8 G0 G2 G4 G6 B10 B12 B14 B1 B3 B5 B7 B9 G1 G3 G5 G7 B11 B13 B15]
  · isplitl [HA]; · iexact HA
    isplitl [B0]; · iexact B0
    isplitl [B2]; · iexact B2
    isplitl [B4]; · iexact B4
    isplitl [B6]; · iexact B6
    isplitl [B8]; · iexact B8
    isplitl [G0]; · iexact G0
    isplitl [G2]; · iexact G2
    isplitl [G4]; · iexact G4
    isplitl [G6]; · iexact G6
    isplitl [B10]; · iexact B10
    isplitl [B12]; · iexact B12
    isplitl [B14]; · iexact B14
    isplitl [B1]; · iexact B1
    isplitl [B3]; · iexact B3
    isplitl [B5]; · iexact B5
    isplitl [B7]; · iexact B7
    isplitl [B9]; · iexact B9
    isplitl [G1]; · iexact G1
    isplitl [G3]; · iexact G3
    isplitl [G5]; · iexact G5
    isplitl [G7]; · iexact G7
    isplitl [B11]; · iexact B11
    isplitl [B13]; · iexact B13
    iexact B15
  isplitl [Y0 Y1 Y2 Y3 Y4 Y5 Y6 Y7 Y8 Y9 Y10 Y11 Y12 Y13 Y14 Y15 Z0 Z1 Z2 Z3 Z4 Z5 Z6 Z7 Z8 Z9 Z10 Z11 Z12 Z13 Z14 Z15]
  · isplitl [Y0 Y1 Y2 Y3 Y4 Y5 Y6 Y7 Y8 Y9 Y10 Y11 Y12 Y13 Y14 Y15]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      isplitl [Y12]; · iexact Y12
      isplitl [Y13]; · iexact Y13
      isplitl [Y14]; · iexact Y14
      iexact Y15
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      iexact Z15
  isplitl [HS] <;> iassumption

end Cert.KernelIdealProof

end
-- ==== Proof.KernelIdealGhost.lean ====
/-
# The ghost state made at launch

Every device's barrier cell is funded and open from launch; its thirty-two transfer cells are funded dormant, and each device
opens its own when it enters the kernel. The tokens of the duties are dealt to the devices that discharge them: a barrier unit
to the peer who signals it, a landing to the mate who sends it.
-/
module

public import proofs.«01_k».proof.Proof.KernelIdealOut
public import Idealize.ShloMosaic.Lib.Pipeline.Regions

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own transfer counters: sending (`false`) and landing (`true`). -/
def osem (k : Bool × Fin 16) : SemLoc sig := .dma (if k.1 then rIx k.2 else sIx k.2)

theorem osem_which (k : Bool × Fin 16) : ∃ d, osem k = .dma d ∧ which d = some k := by
  obtain ⟨b, e⟩ := k
  cases b
  · exact ⟨sIx e, rfl, which_s e⟩
  · exact ⟨rIx e, rfl, which_r e⟩
theorem osem_injective : Function.Injective osem := fun k k' h => by
  obtain ⟨d, hd, hk⟩ := osem_which k
  obtain ⟨d', hd', hk'⟩ := osem_which k'
  rw [hd, hd'] at h
  obtain rfl := SemLoc.dma.inj h
  exact Option.some.inj (hk.symm.trans hk')
theorem osem_ne_bar (k : Bool × Fin 16) : osem k ≠ .reg barrier0 := fun h => by cases h

theorem bigSep_bool {J : Type} [DecidableEq J] [Fintype J] (Φ : Bool × J → sProp 𝕄) :
    bigSep Finset.univ Φ = iprop((bigSep Finset.univ fun e => Φ (false, e)) ∗ bigSep Finset.univ fun e => Φ (true, e)) := by
  rw [bigSep_univ_prod]
  exact bigSep_univ_eq_bigSepL [false, true] (by decide) (by decide) _

/-! ## Cells and tokens -/

def barEmb : Dev nD ↪ GSem nD τ sig := ⟨fun c => barCell c, fun _ _ h => congrArg (fun g : GSem nD τ sig => g.1.1) h⟩
def xfEmb : Dev nD × (Bool × Fin 16) ↪ GSem nD τ sig :=
  ⟨fun ck => ((ck.1 : Thread nD τ), osem ck.2), fun _ _ h =>
    Prod.ext (congrArg (fun g : GSem nD τ sig => g.1.1) h) (osem_injective (congrArg Prod.snd h))⟩
abbrev barCells : Finset (GSem nD τ sig) := Finset.univ.map barEmb
abbrev xfCells : Finset (GSem nD τ sig) := Finset.univ.map xfEmb

theorem cells_disjoint : Disjoint (barCells : Finset (GSem nD τ sig)) xfCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- Device `c`'s tokens: the four units of its barrier, and one for each of its transfer cells. -/
def tokOf (x : Dev nD × (Fin 4 ⊕ (Bool × Fin 16))) : GSem nD τ sig × ℕ × Fin 4 :=
  match x.2 with
  | .inl i => (barCell x.1, 0, i)
  | .inr k => (((x.1 : Thread nD τ), osem k), 0, 0)
theorem tokOf_injective : Function.Injective tokOf := by
  rintro ⟨c, i | k⟩ ⟨c', i' | k'⟩ h
  · have h1 : c = c' := congrArg (fun t : GSem nD τ sig × ℕ × Fin 4 => t.1.1.1) h
    have h2 : i = i' := congrArg (fun t : GSem nD τ sig × ℕ × Fin 4 => t.2.2) h
    rw [h1, h2]
  · exact absurd (congrArg (fun t : GSem nD τ sig × ℕ × Fin 4 => t.1.2) h).symm (osem_ne_bar k')
  · exact absurd (congrArg (fun t : GSem nD τ sig × ℕ × Fin 4 => t.1.2) h) (osem_ne_bar k)
  · have h1 : c = c' := congrArg (fun t : GSem nD τ sig × ℕ × Fin 4 => t.1.1.1) h
    have h2 : k = k' := osem_injective (congrArg (fun t : GSem nD τ sig × ℕ × Fin 4 => t.1.2) h)
    rw [h1, h2]
def allToks : Finset (GSem nD τ sig × ℕ × Fin 4) := Finset.univ.map ⟨tokOf, tokOf_injective⟩

/-- The tokens of the duties a device discharges: its peers' barrier units, its own sends, its mates' landings. -/
def dealt (c : Dev nD) : sProp 𝕄 :=
  iprop((bigSep Finset.univ fun i : Fin 4 => dutyTok ER (barCell (peer i c)) 0 i)
    ∗ (bigSep Finset.univ fun e : Fin 16 => dutyTok ER (sendCell e c) 0 0)
    ∗ (bigSep Finset.univ fun e : Fin 16 => dutyTok ER (recvCell e (mate e c)) 0 0))

theorem swap_sums {A J : Type} [DecidableEq A] [DecidableEq J] [Fintype A] [Fintype J] (Φ : A → J → sProp 𝕄) :
    (bigSep Finset.univ fun a => bigSep Finset.univ fun j => Φ a j) = bigSep Finset.univ fun j => bigSep Finset.univ fun a => Φ a j :=
  (bigSep_univ_prod fun x : A × J => Φ x.1 x.2).symm.trans
    ((bigSep_univ_equiv (Equiv.prodComm J A) fun x : A × J => Φ x.1 x.2).trans (bigSep_univ_prod fun x : J × A => Φ x.2 x.1))

/-- A family over the devices and an index, each index's dealt across an edge. -/
theorem deal {J : Type} [DecidableEq J] [Fintype J] (i : J → Fin 4) (Φ : J → Dev nD → sProp 𝕄) :
    (bigSep Finset.univ fun c : Dev nD => bigSep Finset.univ fun j : J => Φ j c)
      = bigSep Finset.univ fun c : Dev nD => bigSep Finset.univ fun j : J => Φ j (peer (i j) c) := by
  rw [swap_sums, swap_sums fun c j => Φ j (peer (i j) c)]
  exact bigSep_congr fun j _ => bigSep_univ_equiv (swap (i j)) (Φ j)

theorem toks_dealt : bigSep allToks (fun x => (dutyTok ER x.1 x.2.1 x.2.2 : sProp 𝕄)) ⊢ bigSep Finset.univ fun c : Dev nD => dealt c := by
  refine Entails.of_eq ?_
  unfold allToks dealt
  rw [bigSep_map, bigSep_univ_prod]
  rw [show (fun c : Dev nD => bigSep Finset.univ fun j : Fin 4 ⊕ (Bool × Fin 16) => (dutyTok ER ((⟨tokOf, tokOf_injective⟩ : _ ↪ _) (c, j)).1
        ((⟨tokOf, tokOf_injective⟩ : _ ↪ _) (c, j)).2.1 ((⟨tokOf, tokOf_injective⟩ : _ ↪ _) (c, j)).2.2 : sProp 𝕄))
      = fun c : Dev nD => iprop((bigSep Finset.univ fun i : Fin 4 => dutyTok ER (barCell c) 0 i)
        ∗ (bigSep Finset.univ fun e : Fin 16 => dutyTok ER (sendCell e c) 0 0) ∗ bigSep Finset.univ fun e : Fin 16 => dutyTok ER (recvCell e c) 0 0)
    from funext fun c => by rw [bigSep_univ_sum, bigSep_bool]; rfl]
  rw [bigSep_sep', bigSep_sep', bigSep_sep', bigSep_sep', deal id fun i c => (dutyTok ER (barCell c) 0 i : sProp 𝕄),
    deal dim fun e c => (dutyTok ER (recvCell e c) 0 0 : sProp 𝕄)]
  rfl

/-! ## What each device is given -/

/-- The right to open the thirty-two transfer cells. -/
def dormant (c : Dev nD) : sProp 𝕄 := bigSep Finset.univ fun k : Bool × Fin 16 => openTok ER ((c : Thread nD τ), osem k)
def linear (c : Dev nD) : sProp 𝕄 := iprop(atPos ER (barCell c) 0 ∅ 0 ∗ dormant c ∗ dealt c)

variable (P : Bool → Dev nD → Vec F S256x256 .f32)

/-- All that is known of all the cells, and what is the device's own. -/
def ghost (c : Dev nD) : sProp 𝕄 := iprop((∃ K, env P K) ∗ linear c)

theorem env_intro (κ : GSem nD τ sig → ℕ) :
    iprop((bigSep (barCells ∪ xfCells) fun g => cellInv ER (rd P) (κ g) g) ∗ (bigSep barCells fun g => reached ER g 0) ∗ levAts L lv) ⊢ (env P κ : sProp 𝕄) := by
  have hb : (bigSep barCells fun g => (cellInv ER (rd P) (κ g) g : sProp 𝕄)) ⊢ bigSep Finset.univ fun c : Dev nD => cellInv ER (rd P) (κ (barCell c)) (barCell c) :=
    Entails.of_eq (bigSep_map (s := Finset.univ) barEmb (Φ := fun g => (cellInv ER (rd P) (κ g) g : sProp 𝕄)))
  have hr : (bigSep barCells fun g => (reached ER g 0 : sProp 𝕄)) ⊢ bigSep Finset.univ fun c : Dev nD => reached ER (barCell c) 0 :=
    Entails.of_eq (bigSep_map (s := Finset.univ) barEmb (Φ := fun g => (reached ER g 0 : sProp 𝕄)))
  have hx : (bigSep xfCells fun g => (cellInv ER (rd P) (κ g) g : sProp 𝕄))
      ⊢ iprop((bigSep Finset.univ fun c : Dev nD => bigSep Finset.univ fun e : Fin 16 => cellInv ER (rd P) (κ (sendCell e c)) (sendCell e c))
        ∗ bigSep Finset.univ fun c : Dev nD => bigSep Finset.univ fun e : Fin 16 => cellInv ER (rd P) (κ (recvCell e c)) (recvCell e c)) := by
    refine Entails.of_eq ?_
    rw [← bigSep_sep', bigSep_map, bigSep_univ_prod]
    exact bigSep_congr fun c _ => bigSep_bool fun k : Bool × Fin 16 => (cellInv ER (rd P) (κ ((c : Thread nD τ), osem k)) ((c : Thread nD τ), osem k) : sProp 𝕄)
  unfold env
  rw [bigSep_union cells_disjoint]
  iintro ⟨H, HR, HL⟩
  ihave H := (show BI.sep (bigSep barCells fun g => (cellInv ER (rd P) (κ g) g : sProp 𝕄)) (bigSep xfCells fun g => (cellInv ER (rd P) (κ g) g : sProp 𝕄))
    ⊢ iprop((bigSep barCells fun g => cellInv ER (rd P) (κ g) g) ∗ bigSep xfCells fun g => cellInv ER (rd P) (κ g) g) from .rfl) $$ H
  icases H with ⟨HB, HX⟩
  ihave HX := hx $$ HX
  icases HX with ⟨HS, HV⟩
  isplitl [HB]; · iapply hb $$ HB
  isplitl [HS]; · iexact HS
  isplitl [HV]; · iexact HV
  isplitl [HR]; · iapply hr $$ HR
  iexact HL

/-! ## Opening the transfer cells -/

theorem env_inv (K : GSem nD τ sig → ℕ) (c : Dev nD) (k : Bool × Fin 16) :
    (env P K : sProp 𝕄) ⊢ cellInv ER (rd P) (K ((c : Thread nD τ), osem k)) ((c : Thread nD τ), osem k) := by
  obtain ⟨b, e⟩ := k
  cases b
  · exact env_send P K e c
  · exact env_recv P K e c

theorem open_all (K : GSem nD τ sig → ℕ) (c : Dev nD) :
    iprop(env P K ∗ (dormant c ∗ Pipeline.ownSems0 osem c))
      ⊢ (|={Set.univ}=> bigSep Finset.univ fun k : Bool × Fin 16 => iprop(atPos ER ((c : Thread nD τ), osem k) 0 ∅ 0 ∗ reached ER ((c : Thread nD τ), osem k) 0) : sProp 𝕄) := by
  unfold dormant Pipeline.ownSems0
  refine BIBase.Entails.trans ?_ (bigSep_fupd Finset.univ _)
  rw [← bigSep_sep']
  refine bigSep_with_persistent fun k _ => ?_
  iintro ⟨#He, Ho, Hs⟩
  iapply (Rounds.cell_open ER (rd P) (g := ((c : Thread nD τ), osem k)) (Set.mem_univ (K ((c : Thread nD τ), osem k))))
  isplitr; · iapply (env_inv P K c k); iexact He
  isplitl [Ho] <;> iassumption

/-! ## The launch credit -/

theorem sum_peer {J : Type} [Fintype J] [DecidableEq J] (i : Fin 4) (c : Dev nD) (n : ℕ) : ∑ d : Dev nD, (if peer i d = c then n else 0) = n := by
  rw [Finset.sum_congr rfl fun d _ => show (if peer i d = c then n else 0) = if d = peer i c then n else 0 from
    if_congr ⟨fun h => by rw [← h, peer_peer], fun h => by rw [h, peer_peer]⟩ rfl rfl, Finset.sum_ite_eq' Finset.univ (peer i c) fun _ => n, if_pos (Finset.mem_univ _)]

theorem recv_ne_bar (e : Fin 16) (c d : Dev nD) : recvCell e c ≠ barCell d := fun h => by cases congrArg Prod.snd h
theorem recv_inj {e e' : Fin 16} {c d : Dev nD} (h : recvCell e c = recvCell e' d) : e = e' ∧ c = d :=
  ⟨congrArg Prod.snd (osem_injective (a₁ := (true, e)) (a₂ := (true, e')) (congrArg Prod.snd h)), congrArg (fun g : GSem nD τ sig => g.1.1) h⟩
theorem bar_inj {c d : Dev nD} (h : barCell c = barCell d) : c = d := congrArg (fun g : GSem nD τ sig => g.1.1) h

theorem owed_bar (d c : Dev nD) : O₀ d (barCell c) () = ∑ i : Fin 4, if peer i d = c then 1 else 0 := by
  unfold O₀ owedR owedB
  rw [Pi.add_apply, Finsupp.add_apply, Finset.sum_apply, Finsupp.finset_sum_apply, Finset.sum_apply, Finsupp.finset_sum_apply,
    Finset.sum_eq_zero fun e _ => by rw [tallyAt_apply, if_neg fun h => recv_ne_bar _ _ _ h.1.symm], zero_add,
    Finset.filter_true_of_mem fun i _ => Nat.zero_le _]
  exact Finset.sum_congr rfl fun i _ => by
    rw [tallyAt_apply]; exact if_congr ⟨fun h => (bar_inj h.1).symm, fun h => ⟨by rw [h], rfl⟩⟩ rfl rfl

theorem owed_recv (d : Dev nD) (e : Fin 16) (c : Dev nD) : O₀ d (recvCell e c) () = if peer (dim e) d = c then amt e else 0 := by
  unfold O₀ owedR owedB
  rw [Pi.add_apply, Finsupp.add_apply, Finset.sum_apply, Finsupp.finset_sum_apply, Finset.sum_apply, Finsupp.finset_sum_apply,
    Finset.sum_eq_zero (s := Finset.univ.filter fun i : Fin 4 => 0 ≤ i.val) fun i _ => by rw [tallyAt_apply, if_neg fun h => recv_ne_bar _ _ _ h.1], add_zero,
    Finset.filter_true_of_mem fun i _ => Nat.zero_le _, Finset.sum_eq_single e]
  · rw [tallyAt_apply]; exact if_congr ⟨fun h => (recv_inj h.1).2.symm, fun h => ⟨by rw [← h], rfl⟩⟩ rfl rfl
  · intro e' _ he; rw [tallyAt_apply, if_neg fun h => he (recv_inj h.1).1.symm]
  · intro h; exact absurd (Finset.mem_univ e) h

theorem credit_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => sum_peer (J := Unit) i c 1]
  rfl
theorem credit_recv (e : Fin 16) (c : Dev nD) :
    tallyOn (recvCell e c) (launchCredit (Pipeline.owing O₀) 0 (recvCell e c)) = (tallyAt (recvCell e c) () (amt e) : CellTallies nD τ sig Unit) := by
  unfold tallyAt; refine congrArg _ (Finsupp.ext fun u => ?_); cases u
  rw [Pipeline.launchCredit_owing, Finsupp.single_eq_same, Finset.sum_congr rfl fun d _ => owed_recv d e c, sum_peer (J := Unit)]

/-- The credit a device waits with. -/
def credit (c : Dev nD) : sProp 𝕄 :=
  iprop(cred (tallyAt (barCell c) () 4) ∗ bigSep Finset.univ fun e : Fin 16 => cred (tallyAt (recvCell e c) () (amt e)))

def rEmb : Fin 16 ↪ SemLoc sig := ⟨fun e => .dma (rIx e), fun e e' h => congrArg Prod.snd (osem_injective (a₁ := (true, e)) (a₂ := (true, e')) h)⟩

theorem credit_intro (c : Dev nD) : (Pipeline.launchCred O₀ c : sProp 𝕄) ⊢ credit c := by
  unfold Pipeline.launchCred credit
  rw [bigSep_univ_at _ (SemLoc.reg barrier0), credit_bar]
  refine sep_mono_right ?_
  refine BIBase.Entails.trans (bigSep_subset (t := Finset.univ.map rEmb) fun sm h => ?_) (Entails.of_eq ?_)
  · obtain ⟨e, -, rfl⟩ := Finset.mem_map.mp h
    exact Finset.mem_erase.mpr ⟨fun h => (by cases h), Finset.mem_univ _⟩
  · rw [bigSep_map]
    exact bigSep_congr fun e _ => congrArg cred (credit_recv e c)

/-! ## What the device holds when its transfer cells are open -/

theorem tokens_intro (c : Dev nD) :
    iprop((bigSep Finset.univ fun k : Bool × Fin 16 => iprop(atPos ER ((c : Thread nD τ), osem k) 0 ∅ 0 ∗ reached ER ((c : Thread nD τ), osem k) 0))
      ∗ dealt c ∗ credit c ∗ atPos ER (barCell c) 0 ∅ 0) ⊢ (tokens c : sProp 𝕄) := by
  unfold dealt credit tokens sendTok recvRdy
  rw [bigSep_bool, bigSep_sep', bigSep_sep', bigSep_sep', bigSep_sep', bigSep_sep', bigSep_sep']
  iintro ⟨⟨⟨Hsa, #Hsr⟩, Hra, #Hrr⟩, ⟨HtB, HtS, HtR⟩, ⟨HcB, HcR⟩, HaB⟩
  isplitl [HtS HtR Hsa]
  · isplitl [HtS]; · iexact HtS
    isplitl [HtR]; · iexact HtR
    isplitr; · iexact Hsr
    iexact Hsa
  isplitl [HcR Hra]
  · isplitl [HcR]; · iexact HcR
    iexact Hra
  isplitl [HtB]; · iexact HtB
  isplitr; · iexact Hrr
  isplitl [HcB]; · iexact HcB
  iexact HaB

theorem counters_ownSems (c : Dev nD) : (counters c : sProp 𝕄) ⊢ Pipeline.ownSems0 osem c := by
  unfold counters Pipeline.ownSems0
  rw [bigSep_bool]
  exact .rfl

end Cert.KernelIdealProof

end
-- ==== Proof.KernelIdealRegion.lean ====
/-
# The kernel as the program's one region

What the five staged operands hold on each device, the contents the region leaves, and its record: entered from the buffers
after the host operations, left with `outV` in the result's buffer and every other buffer as it was.
-/
module

public import proofs.«01_k».proof.Proof.KernelIdealGhost
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What device `c`'s five staged operands hold. -/
def ins (c : Dev nD) : In F where
  x := (win0_0.blk (0 : Fin 1)).view.read (Elt F) (V1 m c (Proc.devRef .tc main_arg0))
  q := (win0_1.blk (0 : Fin 1)).view.read (Elt F) (V1 m c (Proc.devRef .tc main_arg1))
  wo := (win0_2.blk (0 : Fin 1)).view.read (Elt F) (V1 m c (Proc.devRef .tc main_arg4))
  k := (win0_3.blk (0 : Fin 1)).view.read (Elt F) (V1 m c (Proc.devRef .tc main_v10))
  v := (win0_4.blk (0 : Fin 1)).view.read (Elt F) (V1 m c (Proc.devRef .tc main_v16))

/-- The partial products of all devices. -/
abbrev parts : Bool → Dev nD → Vec F S256x256 .f32 := PP (ins m)

/-- Before the body. -/
def Φ₀ (c : Dev nD) : sProp 𝕄 := iprop((∃ K, env (parts m) K) ∗ tokens c ∗ scratch c ∗ ∃ r, prngReg c r)
/-- After it. -/
def Φ₁ (c : Dev nD) : sProp 𝕄 := iprop(scratch c ∗ counters c ∗ semVal (barCell c) 0 ∗ ∃ r, prngReg c r)

def dats (_ : Fin 1) (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).q
    | ⟨2, _⟩ => (ins m c).wo
    | ⟨3, _⟩ => (ins m c).k
    | ⟨4, _⟩ => (ins m c).v
    | ⟨5, _⟩ => outV (parts m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owesAt_intro (c : Dev nD) (W : Waits sig Unit) : (owes (c : Thread nD τ) (0 : CellTallies nD τ sig Unit) W : sProp 𝕄) ⊢ (dats m 0 c).owesAt () t0_0.succ := by
  unfold Dat.owesAt Pipeline.owesWithin Dat.bound
  rw [show (dats m 0 c).owed t0_0.succ = 0 from rfl, show (dats m 0 c).recorded t0_0.succ = Set.univ from rfl]
  iintro HO
  iexists W
  isplitr; · ipureintro; exact fun _ _ => Or.inl trivial
  iexact HO
theorem owesAt_elim (c : Dev nD) : ((dats m 0 c).owesAt () t0_0.castSucc : sProp 𝕄) ⊢ owedS 0 c := by
  unfold Dat.owesAt Pipeline.owesWithin owedS
  rw [show (dats m 0 c).owed t0_0.castSucc = owedR 0 c + owedB 0 c from rfl]
  iintro ⟨%W, -, HO⟩
  iexists W
  iexact HO

/-- The staged operands and the output before the body, and after. -/
def stagedPre (c : Dev nD) : sProp 𝕄 :=
  iprop((∃ d, owns (c : Thread nD τ) xM fullShare ((dats m 0 c).before (0 : Fin 6) t0_0 d)) ∗ (∃ d, owns (c : Thread nD τ) qM fullShare ((dats m 0 c).before (1 : Fin 6) t0_0 d))
    ∗ (∃ d, owns (c : Thread nD τ) woM fullShare ((dats m 0 c).before (2 : Fin 6) t0_0 d)) ∗ (∃ d, owns (c : Thread nD τ) kM fullShare ((dats m 0 c).before (3 : Fin 6) t0_0 d))
    ∗ (∃ d, owns (c : Thread nD τ) vM fullShare ((dats m 0 c).before (4 : Fin 6) t0_0 d)) ∗ (∃ d, owns (c : Thread nD τ) oM fullShare ((dats m 0 c).before (5 : Fin 6) t0_0 d)))
def stagedPost (c : Dev nD) : sProp 𝕄 :=
  iprop(owns (c : Thread nD τ) xM fullShare (ins m c).x ∗ owns (c : Thread nD τ) qM fullShare (ins m c).q ∗ owns (c : Thread nD τ) woM fullShare (ins m c).wo
    ∗ owns (c : Thread nD τ) kM fullShare (ins m c).k ∗ owns (c : Thread nD τ) vM fullShare (ins m c).v ∗ owns (c : Thread nD τ) oM fullShare (outV (parts m) c))

theorem stagedPre_elim (c : Dev nD) : (stagedPre m c : sProp 𝕄) ⊢ iprop(inputs (ins m c) c ∗ anyOf c oM) := by
  have h0 (d) : (dats m 0 c).before (0 : Fin 6) t0_0 d = (ins m c).x := by unfold Dat.before; rw [if_pos (fetch0_0 t0_0)]; rfl
  have h1 (d) : (dats m 0 c).before (1 : Fin 6) t0_0 d = (ins m c).q := by unfold Dat.before; rw [if_pos (fetch0_1 t0_0)]; rfl
  have h2 (d) : (dats m 0 c).before (2 : Fin 6) t0_0 d = (ins m c).wo := by unfold Dat.before; rw [if_pos (fetch0_2 t0_0)]; rfl
  have h3 (d) : (dats m 0 c).before (3 : Fin 6) t0_0 d = (ins m c).k := by unfold Dat.before; rw [if_pos (fetch0_3 t0_0)]; rfl
  have h4 (d) : (dats m 0 c).before (4 : Fin 6) t0_0 d = (ins m c).v := by unfold Dat.before; rw [if_pos (fetch0_4 t0_0)]; rfl
  unfold stagedPre
  simp only [h0, h1, h2, h3, h4]
  iintro ⟨⟨%d0, H0⟩, ⟨%d1, H1⟩, ⟨%d2, H2⟩, ⟨%d3, H3⟩, ⟨%d4, H4⟩, ⟨%d5, H5⟩⟩
  isplitr [H5]
  · isplitl [H0]; · iexact H0
    isplitl [H1]; · iexact H1
    isplitl [H2]; · iexact H2
    isplitl [H3]; · iexact H3
    iexact H4
  · iexists _; iexact H5

set_option maxHeartbeats 1000000 in
/-- The body, as the region runs it. -/
theorem run_body (c : Dev nD) : iprop(Φ₀ m c ∗ (dats m 0 c).owesAt () t0_0.castSucc ∗ stagedPre m c)
    ⊢ run c (app cc0_body) fun _ => iprop(Φ₁ c ∗ (dats m 0 c).owesAt () t0_0.succ ∗ stagedPost m c) := by
  unfold Φ₀ Φ₁ stagedPost
  iintro ⟨⟨⟨%K, #He⟩, HT, HS, HP⟩, HO, HI⟩
  ihave HO := (owesAt_elim m c) $$ HO
  ihave HI := (stagedPre_elim m c) $$ HI
  icases HI with ⟨HI, Ho⟩
  ihave H := (bodyPre_intro c (ins m)) $$ [HT HS Ho HO] HI
  · isplitl [HT]; · iexact HT
    isplitl [HS]; · iexact HS
    isplitl [Ho] <;> iassumption
  iapply (body K (ins m) c) $$ He H
  iintro H
  ihave H := (bodyPost_elim c (ins m)) $$ H
  icases H with ⟨⟨H0, H1, H2, H3, H4⟩, Ho, HS, HC, HB, HO⟩
  isplitl [HS HC HB HP]
  · isplitl [HS]; · iexact HS
    isplitl [HC]; · iexact HC
    isplitl [HB] <;> iassumption
  isplitl [HO]
  · unfold owed
    icases HO with ⟨%W, HO⟩
    ihave HO := (Entails.of_eq (show (owes (c : Thread nD τ) (owedR 16 c) W : sProp 𝕄) = owes (c : Thread nD τ) (0 : CellTallies nD τ sig Unit) W from by rw [owedR_end])) $$ HO
    iapply (owesAt_intro m c W) $$ HO
  isplitl [H0]; · iexact H0
  isplitl [H1]; · iexact H1
  isplitl [H2]; · iexact H2
  isplitl [H3]; · iexact H3
  isplitl [H4]; · iexact H4
  iexact Ho

set_option maxHeartbeats 1000000 in
set_option maxRecDepth 4000 in
theorem body_obligation (c : Dev nD) : BodyObligation (dats m 0 c) (defs₀ (F := F)) 𝒱₀ () Set.univ := fun t => by
  rw [fin_N0 t]
  rw [show (bigSep Finset.univ : (Fin cfg0.W → sProp 𝕄) → sProp 𝕄) = fun Φ => iprop(Φ (0 : Fin 6) ∗ Φ (1 : Fin 6) ∗ Φ (2 : Fin 6) ∗ Φ (3 : Fin 6) ∗ Φ (4 : Fin 6) ∗ Φ (5 : Fin 6))
    from funext fun Φ => bigSep_W0 Φ]
  exact run_body m c

end Cert.KernelIdealProof

end
-- ==== Proof.KernelIdealRun.lean ====
/-
# The run of the whole program

From any memory with zero counters, every weakly fair execution of the program on the sixteen devices ends, with the
arguments as launched, `outV` in the result's buffer of every device, and every counter at zero.
-/
module

public import proofs.«01_k».proof.Proof.KernelIdealRegion

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ)

/-- The result's buffer at the end on device `c`. -/
def final (c : Dev nD) : Buf (Elt F) ((c : Thread nD τ).loc main_v17) := (dats m 0 c).arrAt (5 : Fin 6) cfg0.N

def outs : Outs (F := F) := fun _ r c => if h : main_v17 = r then h ▸ final m c else V1 m c r
theorem outs_final (c : Dev nD) : outs m 2 main_v17 c = final m c := dif_pos rfl

theorem V2_final (c : Dev nD) : V2 m (outs m) c (Proc.devRef .tc main_v17) = final m c := by
  rw [V2, Function.update_self, outs_final]

/-! ## The region's record -/

/-- The buffers no window of the region is on. -/
abbrev others : Finset (DevRef τ sig) := Pipeline.ucRefs τ sig \ Pipeline.arrRefs spec0

theorem arr_sub : Pipeline.arrRefs (τ := τ) spec0 ⊆ Pipeline.ucRefs τ sig := Pipeline.arrRefs_sub_ucRefs spec0 (by decide)

/-- What the region keeps from launch. -/
def kept (c : Dev nD) : sProp 𝕄 := iprop(ghost (parts m) c ∗ credit c)
/-- With its cells open. -/
def primed (c : Dev nD) : sProp 𝕄 := iprop((∃ K, env (parts m) K) ∗ tokens c)
abbrev resting (c : Dev nD) : sProp 𝕄 := semVal (barCell c) 0

theorem opening (c : Dev nD) : iprop(kept m c ∗ Pipeline.ownSems0 osem c ∗ levAts L lv) ⊢ (|={Set.univ}=> primed m c : sProp 𝕄) := by
  unfold kept ghost linear primed
  iintro ⟨⟨⟨⟨%K, #He⟩, HaB, Hd, Ht⟩, Hc⟩, Hs, -⟩
  imod (open_all (parts m) K c) $$ [Hd Hs] with Ho
  · isplitr; · iexact He
    isplitl [Hd] <;> iassumption
  imodintro
  isplitr; · iexists K; iexact He
  iapply (tokens_intro c)
  isplitl [Ho]; · iexact Ho
  isplitl [Ht]; · iexact Ht
  isplitl [Hc] <;> iassumption

theorem held_none (c : Dev nD) (W : Valuation τ sig (Elt F)) : (StableHlo.held (c : Thread nD τ) (∅ : Finset (DevRef τ sig)) W : sProp 𝕄) = BI.emp := by
  unfold StableHlo.held; exact BI.bigSep_empty

theorem entering (c : Dev nD) : iprop(Pipeline.scopedRest spec0 c ∗ (∃ r, prngReg c r) ∗ StableHlo.held (c.tc : Thread nD τ) ∅ (V1 m c) ∗ primed m c)
    ⊢ ((dats m 0 c).Φ 0 : sProp 𝕄) := by
  rw [show (dats m 0 c).Φ 0 = Φ₀ m c from rfl, scratch_eq]
  unfold Φ₀ primed
  iintro ⟨HS, HP, -, HK, HT⟩
  isplitl [HK]; · iexact HK
  isplitl [HT]; · iexact HT
  isplitl [HS] <;> iassumption

theorem leaving (c : Dev nD) : ((dats m 0 c).Φ (Fin.last cfg0.N) : sProp 𝕄)
    ⊢ iprop(Pipeline.scopedRest spec0 c ∗ (∃ r, prngReg c r) ∗ StableHlo.held (c.tc : Thread nD τ) ∅ (V2 m (outs m) c) ∗ Pipeline.ownSems0 osem c ∗ resting c) := by
  rw [show (dats m 0 c).Φ (Fin.last cfg0.N) = Φ₁ c from rfl, scratch_eq, held_none]
  unfold Φ₁
  iintro ⟨HS, HC, HB, HP⟩
  isplitl [HS]; · iexact HS
  isplitl [HP]; · iexact HP
  isplitr; · iempintro
  isplitl [HC]; · iapply (counters_ownSems c) $$ HC
  iexact HB

theorem stage_level (c : Dev nD) (w : Fin 6) (s : Fin (cfg0.win w).nbuf) : lv ((c : Thread nD τ), .dma ((cfg0.win w).sem s)) () = 0 := by
  have h : which ((cfg0.win w).sem s) = none := by revert s; revert w; decide
  dsimp only [lv]; rw [h]

theorem owed_level (c : Dev nD) (t : Fin (cfg0.N + 1)) (g : GSem nD τ sig) (i : Unit) (h : 0 < (dats m 0 c).owed t g i) : i ∈ L g ∧ 0 < lv g i := by
  rcases t with ⟨_ | _, ht⟩
  · rcases O₀_pos (show 0 < O₀ c g i from h) with ⟨e, rfl⟩ | ⟨j, rfl⟩
    · exact ⟨by rw [L_tc]; exact Finset.mem_singleton_self _, by rw [lv_recv]; omega⟩
    · exact ⟨by rw [L_tc]; exact Finset.mem_singleton_self _, by rw [lv_bar]; omega⟩
  · exact absurd (show 0 < (0 : ℕ) from h) (Nat.lt_irrefl 0)

theorem arr_end (c : Dev nD) (w : Fin 6) : (dats m 0 c).arrAt w cfg0.N = V2 m (outs m) c (Proc.devRef .tc (Pipeline.arrRef spec0 w)) := by
  have hin (w : Fin 6) (h : (cfg0.win w).isOut = false) (h' : Pipeline.arrRef spec0 w ∉ ([main_v17] : List (Ref sig .tc))) :
      (dats m 0 c).arrAt w cfg0.N = V2 m (outs m) c (Proc.devRef .tc (Pipeline.arrRef spec0 w)) :=
    ((dats m 0 c).arrAt_in w h _).trans (V2_of m (outs m) c (Pipeline.arrRef spec0 w) h').symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (V2_final m c).symm

theorem unchanged (c : Dev nD) (b : DevRef τ sig) (hb : b ∈ others \ ∅) : V2 m (outs m) c b = V1 m c b := by
  refine Function.update_of_ne (fun h => ?_) _ _
  subst h
  rw [Finset.sdiff_empty] at hb
  exact (Finset.mem_sdiff.mp hb).2 (by decide)

set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 osem (by decide +kernel : Pipeline.OwnSemFacts spec0 osem)
    ∅ others (Finset.empty_subset _) launch0.toP rfl (fun c => (body_obligation m c).loose)
    (fun _ => 0) O₀ (fun _ => (zero_add _).symm) (fun _ => rfl) (fun _ => rfl) (fun c w => by unfold Dat.share; split <;> rfl)
    (V1 m) (V2 m (outs m)) (unchanged m)
    (kept m) resting (primed m) resting (opening m) (entering m) (leaving m)
    (fun c => by iintro H; imodintro; iexact H)
    (fun _ => 0)
    ⟨fun c w s => by rw [L_tc]; exact Finset.mem_singleton_self _, fun c w s => le_of_eq (stage_level c w s), fun c t g i h => owed_level m c t g i h⟩
    (fun _ => iprop(emp))
    (fun _ _ => rfl) (arr_end m)

/-! ## The thread states -/

/-- What rides along up to the region: the launch's ghost state, the register, and the debt. -/
def rideIn (c : Dev nD) : sProp 𝕄 := iprop(kept m c ∗ (∃ r, prngReg c r) ∗ ∃ W, owes (c : Thread nD τ) (O₀ c) W)
def rides (j : Fin 2) (c : Dev nD) : sProp 𝕄 := if j = 0 then rideIn m c else iprop(emp)

theorem held_parts (c : Dev nD) (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) others W) :=
  StableHlo.held_sub_split _ arr_sub W

set_option backward.isDefEq.respectTransparency.types false in
theorem region_pre (c : Dev nD) : iprop(StableHlo.held (c : Thread nD τ) (Pipeline.ucRefs τ sig) (V1 m c) ∗ rides m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept m c ∗ ∃ Wd, owes (c : Thread nD τ) (0 + O₀ c) Wd)
  rw [held_parts, zero_add, show rides m 0 c = rideIn m c from rfl]
  unfold rideIn
  iintro ⟨⟨HA, HB⟩, HK, HP, HO⟩
  isplitl [HA]; · iexact HA
  isplitl [HP]; · iexact HP
  isplitl [HB]
  · isplitl [HB]; · iexact HB
    iempintro
  isplitl [HK] <;> iassumption

/-- What a device ends with. -/
abbrev atEnd (c : Dev nD) : sProp 𝕄 := iprop(StableHlo.held (c : Thread nD τ) (Pipeline.ucRefs τ sig) (V2 m (outs m) c) ∗ resting c)

set_option backward.isDefEq.respectTransparency.types false in
theorem region_post (c : Dev nD) : (region m).post c ⊢ iprop(atEnd m c ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ resting c ∗ ∃ Wd, owes (c : Thread nD τ) (0 : CellTallies nD τ sig Unit) Wd) ⊢ _
  unfold atEnd
  rw [held_parts]
  iintro ⟨HA, -, ⟨HB, -⟩, HS, HO⟩
  isplitr [HO]
  · isplitr [HS]
    · isplitl [HA] <;> iassumption
    iexact HS
  iexact HO

/-! ## The launch -/

def u₀ : UU := (initOf (Pipeline.cells cfgs cellOf_inj) (Pipeline.launchToks cfgs cellOf_inj), launchOf barCells xfCells allToks)

/-- A resource as a family over the devices: all of it on one. -/
def onDev (c₀ : Dev nD) (X : sProp (MT nD τ sig Unit (Elt F) ℕ UU ℕ)) (c : Dev nD) : sProp 𝕄 := if c = c₀ then X else iprop(emp)
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def cellGhost : Dev nD → sProp 𝕄 := onDev 0 (BI.own (ER (launchOf barCells xfCells allToks)))

theorem unscopedSems0_bar (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What a device holds at launch beside the ghost state. -/
def bundle (c : Dev nD) : sProp 𝕄 :=
  iprop(StableHlo.held (c : Thread nD τ) (Pipeline.ucRefs τ sig) (V0 m c) ∗ credit c ∗ (∃ r, prngReg c r) ∗ ∃ W, owes (c : Thread nD τ) (O₀ c) W)

abbrev atStart (c : Dev nD) : sProp 𝕄 := iprop(StableHlo.held (c : Thread nD τ) (Pipeline.ucRefs τ sig) (V0 m c) ∗ rides m 0 c)

theorem start_intro (κ : GSem nD τ sig → ℕ) (c : Dev nD) : iprop(env (parts m) κ ∗ (linear c ∗ bundle m c)) ⊢ (atStart m c : sProp 𝕄) := by
  unfold bundle atStart
  rw [show rides m 0 c = rideIn m c from rfl]
  unfold rideIn kept ghost
  iintro ⟨#He, Hl, Hh, HC, HP, HO⟩
  isplitl [Hh]; · iexact Hh
  isplitl [Hl HC]
  · isplitl [Hl]
    · isplitr; · iexists κ; iexact He
      iexact Hl
    iexact HC
  isplitl [HP] <;> iassumption

theorem launch (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ cellGhost c)) ∗ levAts L lv)
      ⊢ (|={Set.univ}=> bigSep Finset.univ (atStart m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ cellGhost c)
      ⊢ (iprop(bundle m c ∗ (semVal (barCell c) 0 ∗ cellGhost c)) : sProp 𝕄) := by
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_bar]
    unfold bundle
    iintro ⟨Hh, Hus, HO, Hcr, Hp, HG⟩
    ihave Hc := (credit_intro (F := F) c) $$ Hcr
    isplitl [Hh Hc HO Hp]
    · isplitl [Hh]; · iexact Hh
      isplitl [Hc]; · iexact Hc
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep xfCells (fun g => (openTok ER g : sProp 𝕄)) ⊢ bigSep Finset.univ (fun c : Dev nD => (dormant c : sProp 𝕄)) :=
    Entails.of_eq (by rw [bigSep_map, bigSep_univ_prod]; rfl)
  iintro ⟨H, #HL⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ cellGhost c))
      ⊢ (bigSep Finset.univ fun c : Dev nD => iprop(bundle m c ∗ (semVal (barCell c) 0 ∗ cellGhost c)) : sProp 𝕄) from bigSep_mono fun c _ => hcore c) $$ H
  ihave H2 := (show _ ⊢ iprop(bigSep Finset.univ (fun c => bundle m c) ∗ bigSep Finset.univ (fun c : Dev nD => iprop(semVal (barCell c) 0 ∗ cellGhost c))) from (Entails.of_eq (bigSep_sep' (M := 𝕄) _ _ _))) $$ H'; icases H2 with ⟨HB, H3⟩
  ihave H4 := (show _ ⊢ iprop(bigSep Finset.univ (fun c : Dev nD => (semVal (barCell c) 0 : sProp 𝕄)) ∗ bigSep Finset.univ (cellGhost (F := F))) from (Entails.of_eq (bigSep_sep' (M := 𝕄) _ _ _))) $$ H3; icases H4 with ⟨Hv, HG⟩
  ihave Hu := (show bigSep Finset.univ (cellGhost (F := F)) ⊢ BI.own (ER (launchOf barCells xfCells allToks)) from
    Entails.of_eq (bigSep_onDev (F := F) 0 (BI.own (ER (launchOf barCells xfCells allToks))))) $$ HG
  imod (Rounds.fund_launch ER (rd (parts m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := env (parts m) κ) (Φ := fun c => iprop(linear c ∗ bundle m c)) fun c _ => start_intro m κ c)
  isplitr
  · iapply (env_intro (parts m) κ)
    isplitr; · iexact Hinv
    isplitr; · iexact Hr
    iexact HL
  iapply (Entails.of_eq (bigSep_sep' (M := 𝕄) _ _ _).symm)
  isplitr [HB]
  · unfold linear
    iapply (Entails.of_eq (bigSep_sep' (M := 𝕄) _ _ _).symm); isplitl [Hat]; · iapply hat $$ Hat
    iapply (Entails.of_eq (bigSep_sep' (M := 𝕄) _ _ _).symm); isplitl [Hopen]; · iapply hopen $$ Hopen
    iapply (toks_dealt (F := F)) $$ Htok
  · iexact HB

/-! ## The run -/

theorem unscoped_bar : ∀ sm : SemLoc sig, sm.isScoped .tc = false → sm = .reg barrier0 := by decide

set_option maxHeartbeats 1000000 in
set_option backward.isDefEq.respectTransparency.types false in
/-- The run, the result's buffer as the region's write-back leaves it. -/
theorem run_main (ρ : Dev nD → PrngReg) : θ_run defs (onTc (τ := τ) (main (F := F))) ⟨m, fun _ => 0, ρ⟩ (fun r =>
    (∀ c : Dev nD, r.2.mem ((c.tc : Thread nD τ).loc main_v17) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (dats m) () cellOf_inj EP defs₀ 𝒱₀ L lv m ρ main
    (segs m 𝒱₀ L lv (rides m) () (dats m) (region m))
    (fun c Q => by
      rewrite [main_chain c, Seg.run_eq_chain,
        show (segs m 𝒱₀ L lv (rides m) () (dats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne cellGhost u₀
    (by
      unfold u₀ cellGhost
      iintro Hu
      ihave H := (ownU_pair _ _) $$ Hu
      icases H with ⟨HP, HX⟩
      imodintro
      isplitl [HP]; · iexact HP
      rw [bigSep_onDev]; iexact HX)
    (T₀ := atStart m) (Tₙ := atEnd m)
    (hch := fun c => ⟨.rfl, region_pre m c, region_post m c⟩)
    (hinit := launch m ρ)
    (QY := fun c s => (∀ b ∈ Pipeline.ucRefs τ sig, s.mem ((c.tc : Thread nD τ).1, b) = V2 m (outs m) c b) ∧ s.sem (barCell c) = 0)
    (hfin := fun c s' => ?_) (hQ := fun s h hs => ⟨fun c => ?_, sem_eq_zero hs fun c sm hsm => ?_⟩)
  · unfold atEnd StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨h, by simpa using hb⟩
    · iexact HSI
  · have at_ (r : Ref sig .tc) (hr : r.isScoped = false) : s.mem ((c.tc : Thread nD τ).loc r) = V2 m (outs m) c (Proc.devRef .tc r) :=
      (h c).1 (Proc.devRef .tc r) (Finset.mem_filter.mpr ⟨StableHlo.devRef_mem_tcRefs r, fun h' => Bool.false_ne_true (hr.symm.trans h')⟩)
    exact ⟨(at_ main_v17 (by decide)).trans (V2_final m c),
      (at_ main_arg0 (by decide)).trans (V2_main_arg0 m (outs m) c), (at_ main_arg1 (by decide)).trans (V2_main_arg1 m (outs m) c),
      (at_ main_arg2 (by decide)).trans (V2_main_arg2 m (outs m) c), (at_ main_arg3 (by decide)).trans (V2_main_arg3 m (outs m) c),
      (at_ main_arg4 (by decide)).trans (V2_main_arg4 m (outs m) c)⟩
  · obtain rfl := unscoped_bar sm hsm
    exact (h c).2

end Cert.KernelIdealProof

end
-- ==== Proof.ValueSum.lean ====
/-
# The sixteen partial products are summed

Over the extended reals the reduction along the four edges adds the partial products of all sixteen devices, whatever
order the edges are taken in, and the gather puts the summed rows back where they belong: what a device's output holds at
the end is the sum over the devices of their partial products, and so is the same on every device.
-/
module

public import proofs.«01_k».proof.Proof.KernelIdealOut
public import Idealize.ShloMosaic.Lib.Pointwise

@[expose] public section

noncomputable section

namespace Cert.KernelIdealProof

open Cert.KernelIdeal Cert.KernelIdeal.Gen
open Idealize.ShloMosaic

variable (P : Bool → Dev nD → Vec Ideal S256x256 .f32)

/-! ## Sums over a device's neighbours along some of the edges -/

/-- `f` at the device and at its peer along edge `i`. -/
def over (i : Fin 4) (f : Dev nD → EReal) (c : Dev nD) : EReal := f c + f (peer i c)

/-- The device reached from `c` along the edges of stream `s` that `p` names. -/
def reach (s : Bool) (c : Dev nD) (p : Bool × Bool × Bool × Bool) : Dev nD :=
  let go (k : Fin 4) (b : Bool) (d : Dev nD) : Dev nD := bif b then peer (dimR s k) d else d
  go 0 p.2.2.2 (go 1 p.2.2.1 (go 2 p.2.1 (go 3 p.1 c)))

theorem reach_bijective (s : Bool) (c : Dev nD) : Function.Bijective (reach s c) := by
  refine (Fintype.bijective_iff_injective_and_card _).mpr ⟨?_, by decide⟩
  revert s c; unfold Function.Injective; decide +kernel

/-- Along all four edges: the sum over all devices. -/
theorem over_all (s : Bool) (f : Dev nD → EReal) (c : Dev nD) :
    over (dimR s 3) (over (dimR s 2) (over (dimR s 1) (over (dimR s 0) f))) c = ∑ d, f d := by
  rw [← (reach_bijective s c).sum_comp f]
  simp only [Fintype.sum_prod_type, Fintype.sum_bool, reach, over, cond_true, cond_false]
  ac_rfl

/-! ## Where a block of the reduction lies -/

def E1 (s : Bool) (c : Dev nD) (j : S128x256.Idx) : S256x256.Idx := (h256 (bit (dimR s 0) c)).emb j
def E2 (s : Bool) (c : Dev nD) (j : S64x256.Idx) : S256x256.Idx := E1 s c ((h128 (bit (dimR s 1) c)).emb j)
def E3 (s : Bool) (c : Dev nD) (j : S32x256.Idx) : S256x256.Idx := E2 s c ((h64 (bit (dimR s 2) c)).emb j)
def E4 (s : Bool) (c : Dev nD) (j : S16x256.Idx) : S256x256.Idx := E3 s c ((h32 (bit (dimR s 3) c)).emb j)

theorem dimR_ne (s : Bool) {k l : Fin 4} (h : k ≠ l) : dimR s k ≠ dimR s l := by revert s k l; decide

/-- It depends on the digits of the edges already crossed alone. -/
theorem E1_peer (s : Bool) {k : Fin 4} (h : 0 < k) (c : Dev nD) : E1 s (peer (dimR s k) c) = E1 s c := by
  unfold E1; rw [bit_peer_ne _ _ (dimR_ne s (by omega))]
theorem E2_peer (s : Bool) {k : Fin 4} (h : 1 < k) (c : Dev nD) : E2 s (peer (dimR s k) c) = E2 s c := by
  unfold E2; rw [bit_peer_ne _ _ (dimR_ne s (by omega)), E1_peer s (by omega)]
theorem E3_peer (s : Bool) {k : Fin 4} (h : 2 < k) (c : Dev nD) : E3 s (peer (dimR s k) c) = E3 s c := by
  unfold E3; rw [bit_peer_ne _ _ (dimR_ne s (by omega)), E2_peer s (by omega)]

/-! ## The reduction -/

theorem W1_eq (s : Bool) (c : Dev nD) (j : S128x256.Idx) : W1 P s c j = over (dimR s 0) (fun d => P s d (E1 s c j)) c := rfl
theorem W2_eq (s : Bool) (c : Dev nD) (j : S64x256.Idx) :
    W2 P s c j = over (dimR s 1) (over (dimR s 0) fun d => P s d (E2 s c j)) c := by
  show W1 P s c _ + W1 P s (peer (dimR s 1) c) _ = _
  rw [W1_eq, W1_eq, E1_peer s (by decide)]; rfl
theorem W3_eq (s : Bool) (c : Dev nD) (j : S32x256.Idx) :
    W3 P s c j = over (dimR s 2) (over (dimR s 1) (over (dimR s 0) fun d => P s d (E3 s c j))) c := by
  show W2 P s c _ + W2 P s (peer (dimR s 2) c) _ = _
  rw [W2_eq, W2_eq, E2_peer s (by decide)]; rfl
/-- After four steps a device's block holds, of its rows, the sum over all devices. -/
theorem W4_eq (s : Bool) (c : Dev nD) (j : S16x256.Idx) : W4 P s c j = ∑ d, P s d (E4 s c j) := by
  rw [← over_all s _ c]
  show W3 P s c _ + W3 P s (peer (dimR s 3) c) _ = _
  rw [W3_eq, W3_eq, E3_peer s (by decide)]; rfl

/-! ## The gather -/

theorem bit_holder (i : Fin 4) (c : Dev nD) (b : Bool) : bit i (holder i c b) = b := by revert i c b; decide +kernel

/-- A function of devices that an edge does not change is the same at either device of the pair. -/
theorem holder_inv {α : Type} (f : Dev nD → α) (i : Fin 4) (h : ∀ c, f (peer i c) = f c) (c : Dev nD) (b : Bool) :
    f (holder i c b) = f c := by
  unfold holder; split
  · rfl
  · exact h c

theorem G3_eq (s : Bool) (c : Dev nD) (x : S32x256.Idx) : G3 P s c x = ∑ d, P s d (E3 s c x) := by
  obtain ⟨b, j, rfl⟩ := halves32.exists_emb x
  unfold G3
  rw [glue_emb, W4_eq]
  unfold E4
  rw [bit_holder, holder_inv (E3 s) _ (E3_peer s (by decide))]
theorem G2_eq (s : Bool) (c : Dev nD) (x : S64x256.Idx) : G2 P s c x = ∑ d, P s d (E2 s c x) := by
  obtain ⟨b, j, rfl⟩ := halves64.exists_emb x
  unfold G2
  rw [glue_emb, G3_eq]
  unfold E3
  rw [bit_holder, holder_inv (E2 s) _ (E2_peer s (by decide))]
theorem G1_eq (s : Bool) (c : Dev nD) (x : S128x256.Idx) : G1 P s c x = ∑ d, P s d (E1 s c x) := by
  obtain ⟨b, j, rfl⟩ := halves128.exists_emb x
  unfold G1
  rw [glue_emb, G2_eq]
  unfold E2
  rw [bit_holder, holder_inv (E1 s) _ (E1_peer s (by decide))]
/-- Half `b` of the gathered rows: the sum over all devices of their half `b`. -/
theorem G0_eq (s : Bool) (c : Dev nD) (b : Bool) (x : S128x256.Idx) : G0 P s c b x = ∑ d, P s d ((h256 b).emb x) := by
  unfold G0
  rw [G1_eq]
  unfold E1
  rw [bit_holder]

/-! ## The output -/

theorem outV_quarter (I : Dev nD → In Ideal) (c : Dev nD) (s b : Bool) (i : Fin 128) (k : Fin 256) :
    outV (PP I) c ((oRect s b).emb (ix3 (0 : Fin 1) i k : S1x128x256.Idx))
      = ∑ d, prod (I d) (bif b then 1 else 0) (ix2 i (⟨(bif s then 256 else 0) + k.val, by cases s <;> simp <;> omega⟩ : Fin 512)) := by
  rw [outV_emb]
  pointwise
  rw [G0_eq]
  refine Finset.sum_congr rfl fun d _ => ?_
  show glue halves256 _ _ = _
  rw [glue_emb]
  cases s <;> cases b <;> pointwise [prodS]

/-- The output at batch element `b`, row `i`, column `n` is the sum of the devices' products there. -/
theorem outV_apply (I : Dev nD → In Ideal) (c : Dev nD) (b : Fin 2) (i : Fin 128) (n : Fin 512) :
    outV (PP I) c (ix3 b i n) = ∑ d, prod (I d) b (ix2 i n) := by
  have hb : (bif decide (b = 1) then 1 else 0 : Fin 2) = b := by revert b; decide
  have key (s t : Bool) (k : Fin 256) (hb : (bif t then 1 else 0 : Fin 2) = b) (hn : (bif s then 256 else 0) + k.val = n.val) :
      outV (PP I) c (ix3 b i n) = ∑ d, prod (I d) b (ix2 i n) := by
    have e : (ix3 b i n : S2x128x512.Idx) = (oRect s t).emb (ix3 (0 : Fin 1) i k : S1x128x256.Idx) := by
      subst hb
      funext a; apply Fin.ext
      fin_cases a
      · cases t <;> simp [Rect.emb_apply, Rect.off_unit, Rect.stride_unit]
      · simp [Rect.emb_apply, Rect.off_unit, Rect.stride_unit]
      · simp [Rect.emb_apply, Rect.off_unit, Rect.stride_unit]; omega
    rw [e, outV_quarter, hb]
    congr! 3
    exact Fin.ext hn
  by_cases h : n.val < 256
  · exact key false _ ⟨n.val, h⟩ hb (by simp)
  · exact key true _ ⟨n.val - 256, by omega⟩ hb (by simp; omega)

end Cert.KernelIdealProof
-- ==== Proof.ValueHost.lean ====
/-
# What the kernel's operands hold

The program hands the kernel its arguments as they are, but of keys and values only the two heads the device's eight
query heads attend to: heads `2c` and `2c + 1` on device `c`, side by side.
-/
module

public import proofs.«01_k».proof.Proof.KernelIdealRun
public import Idealize.ShloMosaic.Lib.Pointwise
public import Idealize.ShloMosaic.Lib.StableHlo.Run
public import Idealize.ShloMosaic.Lib.StableHlo.RunClose
public import Idealize.ShloMosaic.Lib.Pipeline.ValueKit

@[expose] public section

noncomputable section

namespace Cert.KernelIdealProof

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem one_write : (cfg0.win (5 : Fin 6)).WholeAt t0_0 := by decide +kernel

/-- The result's buffer ends holding `outV`: the one write-back is of the whole array. -/
theorem final_eq : final m c = outV (parts m) c := by
  unfold final
  refine (dats m 0 c).arrAt_eq_of_after_last (5 : Fin 6) t0_0 one_write (outV (parts m) c) fun j => ?_
  rfl

/-- The whole array's block is the array. -/
theorem emb_whole (w : Pipeline.Window sig grid0) (h : ∀ a, w.index t0_0 a = 0) (i : (w.xblock (grid0.coords t0_0)).Idx) (a) :
    ((w.rect t0_0).emb i a).val = (i a).val := Pipeline.Window.rect_emb_val_of_index_zero _ _ _ (h a) i

/-- The first of the device's two key/value heads, as the program computes it. -/
theorem starts : (fun k => BitVec.toInt
              (![constantI S_ 32 0#32, constantI S_ 32 0#32,
                  select
                    (cmpi CmpIPredicate.slt
                      (muli
                        (id
                          (Host.remui (Host.divui (constantI S_ 32 c.word) (constantI S_ 32 1#32))
                            (constantI S_ 32 16#32)))
                        (constantI S_ 32 2#32))
                      (constantI S_ 32 0#32))
                    (addi
                      (muli
                        (id
                          (Host.remui (Host.divui (constantI S_ 32 c.word) (constantI S_ 32 1#32))
                            (constantI S_ 32 16#32)))
                        (constantI S_ 32 2#32))
                      (constantI S_ 32 32#32))
                    (muli
                      (id
                        (Host.remui (Host.divui (constantI S_ 32 c.word) (constantI S_ 32 1#32))
                          (constantI S_ 32 16#32)))
                      (constantI S_ 32 2#32)),
                  constantI S_ 32 0#32]
                k (Shape.Idx.first h_S_))) = (![0, 0, 2 * (c.val : ℤ), 0] : Fin 4 → ℤ) := by
  funext k; revert k c; decide +kernel

/-- Heads `2c` and `2c + 1` of keys or values, side by side. -/
def pair (K : FVec Ideal S2x128x32x64 .f32) : FVec Ideal S2x128x128 .f32 :=
  shapeCast S2x128x128 (Host.dynamicSlice S2x128x2x64 K ![0, 0, 2 * (c.val : ℤ), 0] sliceFits_S2x128x32x64_S2x128x2x64)
    shapeCasts_S2x128x2x64_S2x128x128

theorem pair_apply (K : FVec Ideal S2x128x32x64 .f32) (b : Fin 2) (j n : Fin 128) :
    pair c K (ix3 b j n) = K (ix4 b j ⟨2 * c.val + n.val / 64, by have : c.val < 16 := c.isLt; omega⟩ ⟨n.val % 64, by omega⟩) := by
  pointwise [pair]
  have hc : c.val < 16 := c.isLt
  congr 1
  rw [ix4_inj]
  refine ⟨Fin.ext ?_, Fin.ext ?_, Fin.ext ?_, Fin.ext ?_⟩ <;> simp [Host.clampedStart, S2x128x32x64, S2x128x2x64] <;> omega

theorem v10 : V1 m c main_v10 = pair c (m ((c : Thread nD τ).loc main_arg2)) := by
  unfold V1
  after_results_simp_entrywise
  funext i
  exact congrFun (congrArg (fun s => shapeCast S2x128x128 (Host.dynamicSlice S2x128x2x64 (m ((c : Thread nD τ).loc main_arg2)) s
    sliceFits_S2x128x32x64_S2x128x2x64) shapeCasts_S2x128x2x64_S2x128x128) (starts c)) i
theorem v16 : V1 m c main_v16 = pair c (m ((c : Thread nD τ).loc main_arg3)) := by
  unfold V1
  after_results_simp_entrywise
  funext i
  exact congrFun (congrArg (fun s => shapeCast S2x128x128 (Host.dynamicSlice S2x128x2x64 (m ((c : Thread nD τ).loc main_arg3)) s
    sliceFits_S2x128x32x64_S2x128x2x64) shapeCasts_S2x128x2x64_S2x128x128) (starts c)) i

/-! ## The five operands -/

theorem ins_x : (ins m c).x = m ((c : Thread nD τ).loc main_arg0) := by
  refine Eq.trans ?_ (V1_of m c main_arg0 (by decide))
  funext i
  exact congrArg (V1 m c (Proc.devRef .tc main_arg0)) (funext fun a => Fin.ext (emb_whole win0_0 (fun _ => rfl) i a))
theorem ins_q : (ins m c).q = m ((c : Thread nD τ).loc main_arg1) := by
  refine Eq.trans ?_ (V1_of m c main_arg1 (by decide))
  funext i
  exact congrArg (V1 m c (Proc.devRef .tc main_arg1)) (funext fun a => Fin.ext (emb_whole win0_1 (fun _ => rfl) i a))
theorem ins_wo : (ins m c).wo = m ((c : Thread nD τ).loc main_arg4) := by
  refine Eq.trans ?_ (V1_of m c main_arg4 (by decide))
  funext i
  exact congrArg (V1 m c (Proc.devRef .tc main_arg4)) (funext fun a => Fin.ext (emb_whole win0_2 (fun _ => rfl) i a))
theorem ins_k : (ins m c).k = pair c (m ((c : Thread nD τ).loc main_arg2)) := by
  refine Eq.trans ?_ (v10 m c)
  funext i
  exact congrArg (V1 m c (Proc.devRef .tc main_v10)) (funext fun a => Fin.ext (emb_whole win0_3 (fun _ => rfl) i a))
theorem ins_v : (ins m c).v = pair c (m ((c : Thread nD τ).loc main_arg3)) := by
  refine Eq.trans ?_ (v16 m c)
  funext i
  exact congrArg (V1 m c (Proc.devRef .tc main_v16)) (funext fun a => Fin.ext (emb_whole win0_4 (fun _ => rfl) i a))

end Cert.KernelIdealProof
-- ==== Proof.ValueAttn.lean ====
/-
# One device's attention, read at an index

Over the extended reals, entry `(i, n)` of a device's product for batch element `b` is the sum over its 512 columns of the
attention of its eight heads, each entry a quotient of two sums over the keys, times the device's rows of `Wo`.
-/
module

public import proofs.«01_k».proof.Proof.KernelIdealAttn
public import Idealize.ShloMosaic.Lib.Pointwise

@[expose] public section

noncomputable section

namespace Cert.KernelIdealProof

open Cert.KernelIdeal Cert.KernelIdeal.Gen
open Idealize.ShloMosaic

/-- Entry `e` of the softmax-weighted values, of scores `σ` against the 128 keys and values `v`. -/
def soft (σ v : Fin 128 → EReal) : EReal :=
  let p (j : Fin 128) : EReal := Ideal.exp (σ j - Finset.univ.fold max ⊥ σ)
  Ideal.div (∑ j, p j * v j) (∑ j, p j)

theorem ninf : Ideal.ofBits .f32 0xFF800000#32 = ⊥ := by simp [Ideal.ofBits, Ideal.ieee]

/-- A head: the scaled products of the row's 64 queries with each key, softmaxed, times the values. -/
theorem head_apply (h : Fin 8) (q : FVec Ideal S128x512 .f32) (k v : FVec Ideal S128x64 .f32) (i : Fin 128) (e : Fin 64) :
    head h q k v (ix2 i e) = soft (fun j => (∑ d : Fin 64, q (ix2 i ⟨64 * h.val + d.val, by omega⟩) * k (ix2 j d))
      * Ideal.ofBits .f32 0x3E000000#32) (fun j => v (ix2 j e)) := by
  pointwise [head, soft, ninf]

theorem qp_apply (I : In Ideal) (b : Fin 2) (i : Fin 128) (n : Fin 512) :
    qp I b (ix2 i n) = ∑ d : Fin 512, I.x (ix3 b i d) * I.q (ix2 d n) := by
  have e (d : Fin 512) : (rowR b).emb (ix3 (0 : Fin 1) i d : S1x128x512.Idx) = ix3 b i d := by
    funext a; apply Fin.ext
    fin_cases a <;> simp [Rect.emb_apply, Rect.off_unit, Rect.stride_unit]
  pointwise [qp, k0_pay1]
  simp only [e]

theorem kv_apply (X : S2x128x128.Idx → Elt Ideal .f32) (b : Fin 2) (h : Fin 8) (j : Fin 128) (e : Fin 64) :
    kv X b h (ix2 j e) = X (ix3 b j ⟨64 * (h.val / 4) + e.val, by omega⟩) := by
  pointwise [kv]
  congr 1
  funext a; apply Fin.ext
  fin_cases a <;> simp [Rect.emb_apply, Rect.off_unit, Rect.stride_unit]

/-- Column `n` of a device's attention, row `i` of batch element `b`: of head `n / 64`, entry `n % 64`. -/
def local_ (I : In Ideal) (b : Fin 2) (i : Fin 128) (n : Fin 512) : EReal :=
  soft (fun j => (∑ d : Fin 64, (∑ e : Fin 512, I.x (ix3 b i e) * I.q (ix2 e ⟨64 * (n.val / 64) + d.val, by omega⟩))
      * I.k (ix3 b j ⟨64 * (n.val / 256) + d.val, by omega⟩)) * Ideal.ofBits .f32 0x3E000000#32)
    (fun j => I.v (ix3 b j ⟨64 * (n.val / 256) + n.val % 64, by omega⟩))

/-- A device's product: its attention times its rows of `Wo`. -/
theorem prod_apply (I : In Ideal) (b : Fin 2) (i : Fin 128) (n : Fin 512) :
    prod I b (ix2 i n) = ∑ k : Fin 512, local_ I b i k * I.wo (ix2 k n) := by
  pointwise [prod, k0_pay18, atts, att, headOf, inHead]
  simp only [head_apply, qp_apply, kv_apply, local_, Nat.div_div_eq_div_mul, Nat.reduceMul]

end Cert.KernelIdealProof
-- ==== Proof.ValueRef.lean ====
/-
# The reference, read at an index

Entry `(b, i, n)` of the reference's result is the sum over the 8192 columns of the attention of all 128 heads times `Wo`.
Its running softmax has one step: the terms of the empty running maximum and sum are zero times a number, so they vanish.
-/
module

public import proofs.«01_k».proof.Proof.ValueAttn
public import proofs.«01_k».proof.Proof.Gen.ReferenceIdeal.Run

@[expose] public section

noncomputable section

namespace Cert.ReferenceProof

open Idealize.ShloMosaic Idealize.ShloMosaic.TcCoe
open Cert.ReferenceIdeal Cert.ReferenceIdeal.Gen
open Cert.KernelIdealProof (soft ninf)

variable (m : (ℓ : Loc nD τ sig) → Buf (Elt Ideal) ℓ) (c : Dev nD)

/-- Column `n` of the attention of all heads, row `i` of batch element `b`: of head `n / 64`, entry `n % 64`. -/
def attn (X : S2x128x512.Idx → EReal) (Q : S512x8192.Idx → EReal) (K V : S2x128x32x64.Idx → EReal)
    (b : Fin 2) (i : Fin 128) (n : Fin 8192) : EReal :=
  soft (fun j => (∑ d : Fin 64, (∑ e : Fin 512, X (ix3 b i e) * Q (ix2 e ⟨64 * (n.val / 64) + d.val, by omega⟩))
      * K (ix4 b j ⟨n.val / 256, by omega⟩ d)) * Ideal.ofBits .f32 0x3E000000#32)
    (fun j => V (ix4 b j ⟨n.val / 256, by omega⟩ ⟨n.val % 64, by omega⟩))

/-! ## The reference's stages -/

/-- Keys or values, each head repeated for the four heads of queries it serves. -/
def rep (K : FVec Ideal S2x128x32x64 .f32) : FVec Ideal S2x128x128x64 .f32 :=
  shapeCast _ (broadcastInDim S2x128x32x4x64 ![0, 1, 2, 4] bcast_S2x128x32x64_S2x128x32x4x64_0_1_2_4 K) shapeCasts_S2x128x32x4x64_S2x128x128x64

/-- The scaled scores, by batch element, head, row and key. -/
def scores (X : FVec Ideal S2x128x512 .f32) (Q : FVec Ideal S512x8192 .f32) (K : FVec Ideal S2x128x32x64 .f32) :
    FVec Ideal S2x128x128x128 .f32 :=
  mulf (Host.dotGeneral dot_S2x128x128x64_S2x128x128x64_S2x128x128x128_3_3_1_1_02_02 none
      (shapeCast _ (Host.dotGeneral dot_S2x128x512_S512x8192_S2x128x8192_2_0_01_1_n_n none X Q) shapeCasts_S2x128x8192_S2x128x128x64) (rep K))
    (broadcastInDim S2x128x128x128 ![] bcast_S_S2x128x128x128 (constant S_ .f32 0x3E000000#32))

/-- The empty maximum. -/
def low : FVec Ideal S2x128x128x1 .f32 := broadcastInDim S2x128x128x1 ![] bcast_S_S2x128x128x1 (constant S_ .f32 0xFF800000#32)

/-- Each row's largest score, as the reference folds it. -/
def most (S : FVec Ideal S2x128x128x128 .f32) : FVec Ideal S2x128x128 .f32 :=
  Host.reduce FloatOps.maximumf S (constant S_ .f32 0xFF800000#32) reducesTo_S2x128x128x128_S2x128x128_d3 h_S_

/-- The running maximum after the one step. -/
def tops (S : FVec Ideal S2x128x128x128 .f32) : FVec Ideal S2x128x128x1 .f32 :=
  maximumf low (broadcastInDim S2x128x128x1 ![0, 1, 2] bcast_S2x128x128_S2x128x128x1_0_1_2 (most S))

/-- The exponentials of the scores less their row's largest. -/
def exps (S : FVec Ideal S2x128x128x128 .f32) : FVec Ideal S2x128x128x128 .f32 :=
  Host.exp (subf S (broadcastInDim S2x128x128x128 ![0, 1, 2, 3] bcast_S2x128x128x1_S2x128x128x128_0_1_2_3 (tops S)))

/-- The weighted values over the sums of the weights, `A` the factor of the empty running sums. -/
def quotients (A : FVec Ideal S2x128x128x1 .f32) (E : FVec Ideal S2x128x128x128 .f32) (W : FVec Ideal S2x128x128x64 .f32) :
    FVec Ideal S2x128x128x64 .f32 :=
  Host.divf (addf (mulf (broadcastInDim S2x128x128x64 ![] bcast_S_S2x128x128x64 (constant S_ .f32 0x00000000#32))
        (broadcastInDim S2x128x128x64 ![0, 1, 2, 3] bcast_S2x128x128x1_S2x128x128x64_0_1_2_3
          (transpose S2x128x128x1 [0, 2, 1, 3] A transposes_S2x128x128x1_S2x128x128x1_0_2_1_3)))
      (transpose S2x128x128x64 [0, 3, 1, 2] (Host.dotGeneral dot_S2x128x128x64_S2x128x128x128_S2x128x64x128_1_3_3_2_02_01 none W E)
        transposes_S2x128x64x128_S2x128x128x64_0_3_1_2))
    (broadcastInDim S2x128x128x64 ![0, 1, 2, 3] bcast_S2x128x128x1_S2x128x128x64_0_1_2_3
      (transpose S2x128x128x1 [0, 2, 1, 3]
        (addf (mulf (broadcastInDim S2x128x128x1 ![] bcast_S_S2x128x128x1 (constant S_ .f32 0x00000000#32)) A)
          (broadcastInDim S2x128x128x1 ![0, 1, 2] bcast_S2x128x128_S2x128x128x1_0_1_2
            (Host.reduceAdd E (constant S_ .f32 0x00000000#32) reducesTo_S2x128x128x128_S2x128x128_d3 h_S_)))
        transposes_S2x128x128x1_S2x128x128x1_0_2_1_3))

/-- The product with `Wo`. -/
def project (Y : FVec Ideal S2x128x128x64 .f32) (O : FVec Ideal S8192x512 .f32) : FVec Ideal S2x128x512 .f32 :=
  Host.dotGeneral dot_S2x128x8192_S8192x512_S2x128x512_2_0_01_1_n_n none (shapeCast _ Y shapeCasts_S2x128x128x64_S2x128x8192) O

theorem rep_apply (K : FVec Ideal S2x128x32x64 .f32) (b : Fin 2) (j h : Fin 128) (d : Fin 64) :
    rep K (ix4 b j h d) = K (ix4 b j ⟨h.val / 4, by omega⟩ d) := by
  pointwise [rep]

theorem scores_apply (X : FVec Ideal S2x128x512 .f32) (Q : FVec Ideal S512x8192 .f32) (K : FVec Ideal S2x128x32x64 .f32)
    (b : Fin 2) (h i j : Fin 128) :
    scores X Q K (ix4 b h i j)
      = (∑ d : Fin 64, (∑ e : Fin 512, X (ix3 b i e) * Q (ix2 e ⟨64 * h.val + d.val, by omega⟩)) * K (ix4 b j ⟨h.val / 4, by omega⟩ d))
        * Ideal.ofBits .f32 0x3E000000#32 := by
  pointwise [scores]
  simp only [rep_apply, Nat.mul_comm h.val 64]

theorem low_apply (b : Fin 2) (h i : Fin 128) : low (ix4 b h i (0 : Fin 1)) = ⊥ := by
  pointwise [low, ninf]

theorem most_apply (S : FVec Ideal S2x128x128x128 .f32) (b : Fin 2) (h i : Fin 128) :
    most S (ix3 b h i) = Finset.univ.fold max ⊥ fun j => S (ix4 b h i j) := by
  unfold most
  pointwise [ninf]

theorem col_apply (M : FVec Ideal S2x128x128 .f32) (b : Fin 2) (h i : Fin 128) :
    broadcastInDim S2x128x128x1 ![0, 1, 2] bcast_S2x128x128_S2x128x128x1_0_1_2 M (ix4 b h i (0 : Fin 1)) = M (ix3 b h i) := by
  pointwise

theorem max_apply (x y : FVec Ideal S2x128x128x1 .f32) (i : S2x128x128x1.Idx) (v : EReal) (hx : x i = ⊥) (hy : y i = v) :
    maximumf x y i = v := by
  subst hy
  refine Eq.trans (b := (max (x i : EReal) (y i : EReal) : EReal)) rfl ?_
  rw [hx]
  exact max_bot_left _

theorem tops_apply (S : FVec Ideal S2x128x128x128 .f32) (b : Fin 2) (h i : Fin 128) :
    tops S (ix4 b h i (0 : Fin 1)) = Finset.univ.fold max ⊥ fun j => S (ix4 b h i j) :=
  max_apply _ _ _ _ (low_apply b h i) ((col_apply _ b h i).trans (most_apply S b h i))

theorem exps_apply (S : FVec Ideal S2x128x128x128 .f32) (b : Fin 2) (h i j : Fin 128) :
    exps S (ix4 b h i j) = Ideal.exp (S (ix4 b h i j) - Finset.univ.fold max ⊥ fun j => S (ix4 b h i j)) := by
  have e : exps S (ix4 b h i j) = Ideal.exp (S (ix4 b h i j) - tops S (ix4 b h i (0 : Fin 1))) := by
    pointwise [exps]
  rw [e, tops_apply]

theorem quotients_apply (A : FVec Ideal S2x128x128x1 .f32) (E : FVec Ideal S2x128x128x128 .f32) (W : FVec Ideal S2x128x128x64 .f32)
    (b : Fin 2) (i h : Fin 128) (d : Fin 64) :
    quotients A E W (ix4 b i h d) = Ideal.div (∑ j : Fin 128, E (ix4 b h i j) * W (ix4 b j h d)) (∑ j : Fin 128, E (ix4 b h i j)) := by
  pointwise [quotients]
  simp only [zero_mul, zero_add, mul_comm]

theorem project_apply (Y : FVec Ideal S2x128x128x64 .f32) (O : FVec Ideal S8192x512 .f32) (b : Fin 2) (i : Fin 128) (n : Fin 512) :
    project Y O (ix3 b i n) = ∑ k : Fin 8192, Y (ix4 b i ⟨k.val / 64, by omega⟩ ⟨k.val % 64, by omega⟩) * O (ix2 k n) := by
  pointwise [project]

set_option maxRecDepth 8192 in
theorem ref_eq : Value.res_main_v34 m c
    = project (quotients (Host.exp (subf low (tops (scores (m ((c : Thread nD τ).loc main_arg0)) (m ((c : Thread nD τ).loc main_arg1)) (m ((c : Thread nD τ).loc main_arg2))))))
        (exps (scores (m ((c : Thread nD τ).loc main_arg0)) (m ((c : Thread nD τ).loc main_arg1)) (m ((c : Thread nD τ).loc main_arg2))))
        (rep (m ((c : Thread nD τ).loc main_arg3)))) (m ((c : Thread nD τ).loc main_arg4)) := rfl

/-- The reference's result: the attention of all heads times `Wo`. -/
theorem ref_apply (b : Fin 2) (i : Fin 128) (n : Fin 512) :
    Value.res_main_v34 m c (ix3 b i n)
      = ∑ k : Fin 8192, attn (m ((c : Thread nD τ).loc main_arg0)) (m ((c : Thread nD τ).loc main_arg1)) (m ((c : Thread nD τ).loc main_arg2))
          (m ((c : Thread nD τ).loc main_arg3)) b i k * m ((c : Thread nD τ).loc main_arg4) (ix2 k n) := by
  rw [ref_eq, project_apply]
  simp only [quotients_apply, exps_apply, scores_apply, rep_apply, attn, soft, Nat.div_div_eq_div_mul, Nat.reduceMul]

end Cert.ReferenceProof
-- ==== Proof.Value.lean ====
/-
# The kernel's result is the reference's

Device `d` holds columns `512 d … 512 d + 511` of `Wq` and those rows of `Wo`: eight heads of the 128. So column `k` of its
attention is column `512 d + k` of the attention of all heads, and the sum of the sixteen devices' products is the
reference's sum over 8192 columns, split into sixteen runs of 512.
-/
module

public import proofs.«01_k».proof.Proof.ValueSum
public import proofs.«01_k».proof.Proof.ValueHost
public import proofs.«01_k».proof.Proof.ValueRef
public import Idealize.ShloMosaic.Lib.Layout

@[expose] public section

noncomputable section

namespace Cert.KernelIdealProof

open Cert.KernelIdeal Cert.KernelIdeal.Gen
open Idealize.ShloMosaic Idealize.ShloMosaic.TcCoe
open Cert.ReferenceProof (attn ref_apply)

/-- The whole arrays the devices' operands are cut from. -/
structure Whole where
  x : S2x128x512.Idx → EReal
  q : (⟨2, ![512, 8192]⟩ : Shape).Idx → EReal
  k : S2x128x32x64.Idx → EReal
  v : S2x128x32x64.Idx → EReal
  wo : (⟨2, ![8192, 512]⟩ : Shape).Idx → EReal

/-- Device `d`'s operands, cut from the whole arrays. -/
structure Cut (W : Whole) (d : Fin 16) (I : In Ideal) : Prop where
  x : I.x = W.x
  q : I.q = Layout.block ⟨2, ![512, 512]⟩ ⟨2, ![512, 8192]⟩ 1 16 d W.q
  k : I.k = pair d W.k
  v : I.v = pair d W.v
  wo : I.wo = Layout.block ⟨2, ![512, 512]⟩ ⟨2, ![8192, 512]⟩ 0 16 d W.wo

/-- A device's columns of `Wq`. -/
theorem cols_apply (d : Fin 16) (Q : (⟨2, ![512, 8192]⟩ : Shape).Idx → EReal) (e n : Fin 512) :
    Layout.block ⟨2, ![512, 512]⟩ ⟨2, ![512, 8192]⟩ 1 16 d Q (by decide) (ix2 e n)
      = Q (ix2 e ⟨d.val * 512 + n.val, by omega⟩) := by
  rw [Layout.block_apply]
  refine congrArg Q (funext fun a => Fin.ext ?_)
  rw [Layout.Tiles.idx_val]
  fin_cases a <;> rfl

/-- A device's rows of `Wo`. -/
theorem rows_apply (d : Fin 16) (O : (⟨2, ![8192, 512]⟩ : Shape).Idx → EReal) (k n : Fin 512) :
    Layout.block ⟨2, ![512, 512]⟩ ⟨2, ![8192, 512]⟩ 0 16 d O (by decide) (ix2 k n)
      = O (ix2 ⟨d.val * 512 + k.val, by omega⟩ n) := by
  rw [Layout.block_apply]
  refine congrArg O (funext fun a => Fin.ext ?_)
  rw [Layout.Tiles.idx_val]
  fin_cases a <;> rfl

/-- Column `k` of device `d`'s attention is column `512 d + k` of the attention of all heads. -/
theorem local_eq {W : Whole} {d : Fin 16} {I : In Ideal} (h : Cut W d I) (b : Fin 2) (i : Fin 128) (k : Fin 512) :
    local_ I b i k = attn W.x W.q W.k W.v b i ⟨d.val * 512 + k.val, by omega⟩ := by
  unfold local_ attn
  rw [h.x, h.q, h.k, h.v]
  congr 1
  · funext j
    congr 1
    refine Finset.sum_congr rfl fun t _ => ?_
    rw [pair_apply]
    congr 1
    · refine Finset.sum_congr rfl fun e _ => ?_
      rw [cols_apply]
      have hn : d.val * 512 + (64 * (k.val / 64) + t.val) = 64 * ((d.val * 512 + k.val) / 64) + t.val := by omega
      simp only [hn]
    · have h1 : 2 * d.val + (64 * (k.val / 256) + t.val) / 64 = (d.val * 512 + k.val) / 256 := by omega
      have h2 : (64 * (k.val / 256) + t.val) % 64 = t.val := by omega
      simp only [h1, h2]
  · funext j
    rw [pair_apply]
    have h1 : 2 * d.val + (64 * (k.val / 256) + k.val % 64) / 64 = (d.val * 512 + k.val) / 256 := by omega
    have h2 : (64 * (k.val / 256) + k.val % 64) % 64 = (d.val * 512 + k.val) % 64 := by omega
    simp only [h1, h2]

/-- The sixteen devices' products add up to the attention of all heads times `Wo`. -/
theorem sum_eq {W : Whole} {I : Dev nD → In Ideal} (h : ∀ d, Cut W d (I d)) (b : Fin 2) (i : Fin 128) (n : Fin 512) :
    ∑ d, prod (I d) b (ix2 i n) = ∑ k : Fin 8192, attn W.x W.q W.k W.v b i k * W.wo (ix2 k n) := by
  rw [Fin.sum_univ_tiles 16 512 rfl]
  refine Finset.sum_congr rfl fun d _ => ?_
  rw [prod_apply]
  refine Finset.sum_congr rfl fun k _ => ?_
  rw [local_eq (h d), (h d).wo, rows_apply]

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's arguments, as whole arrays. -/
def wholes : Whole where
  x := m' (((0 : Dev Cert.ReferenceIdeal.nD).tc : Thread Cert.ReferenceIdeal.nD Cert.ReferenceIdeal.τ).loc Cert.ReferenceIdeal.main_arg0)
  q := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

/-- Every device's result is the reference's. -/
theorem final_ref (h : ∀ d, Cut (wholes m') d (ins m d)) (c : Dev nD) :
    final m c = Cert.ReferenceIdeal.Value.res_main_v34 m' 0 := by
  rw [final_eq]
  funext f
  have e : f = ix3 (f 0) (f 1) (f 2) := eq_ix3 f
  rw [e]
  exact (outV_apply (ins m) c (f 0) (f 1) (f 2)).trans
    ((sum_eq h (f 0) (f 1) (f 2)).trans (ref_apply m' 0 (f 0) (f 1) (f 2)).symm)

end Cert.KernelIdealProof
-- ==== Proof.lean ====
/-
# The claims, put together

The kernel's run and its idealization's (Proof/KernelRun.lean, Proof/KernelIdealRun.lean) say what every buffer holds at the
end and that every counter is at zero; the reference's (Proof/Gen/ReferenceIdeal/Run.lean) is a straight line of host
operations. The frames are these runs with the results dropped; the equality of the results is these runs with
`final_ref` (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends, with its arguments as launched and every counter at zero. -/
theorem frame_kernel : Cert.quiescent_Kernel := fun m g _ =>
  (θ_run Cert.Kernel.defs _ _).mono (fun _ h => ⟨fun c => (h.1 c).2, h.2⟩) (Cert.KernelProof.run_main m g)

/-- The same of the kernel read over the extended reals. -/
theorem frame_kernelIdeal : Cert.quiescent_KernelIdeal := fun m g _ =>
  (θ_run Cert.KernelIdeal.defs _ _).mono (fun _ h => ⟨fun c => (h.1 c).2, h.2⟩) (Cert.KernelIdealProof.run_main m g)

/-- The reference ends, with its arguments as launched; it has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Over the extended reals every device's result is the reference's, where the devices' arguments are the whole arrays, and of
`Wq` the device's columns and of `Wo` its rows. -/
theorem algebraic : Cert.algebraic_KernelIdeal_ReferenceIdeal := fun m g m' g' _ h =>
  ⟨Cert.ReferenceIdeal.Value.res_main_v34 m' 0,
    (θ_run Cert.KernelIdeal.defs _ _).mono
      (fun _ r c => ⟨(r.1 c).1.trans (Cert.KernelIdealProof.final_ref m m' (fun d =>
        ⟨(Cert.KernelIdealProof.ins_x m d).trans (h d).1, (Cert.KernelIdealProof.ins_q m d).trans (h d).2.1,
          (Cert.KernelIdealProof.ins_k m d).trans (congrArg (Cert.KernelIdealProof.pair d) (h d).2.2.1),
          (Cert.KernelIdealProof.ins_v m d).trans (congrArg (Cert.KernelIdealProof.pair d) (h d).2.2.2.1),
          (Cert.KernelIdealProof.ins_wo m d).trans (h d).2.2.2.2⟩) c), (r.1 c).2⟩)
      (Cert.KernelIdealProof.run_main m g),
    (θ_run Cert.ReferenceIdeal.defs _ _).mono (fun _ r => r 0) (Cert.ReferenceIdeal.Value.run m' g')⟩

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
